-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0x7149F2CA#32 ⊤

def algebraic_KernelIdeal_ReferenceIdeal_on_fits_pre_finite_KernelIdeal [hKernelIdeal : Cert.KernelIdeal.Facts] [hReferenceIdeal : Cert.ReferenceIdeal.Facts] [hPre_finite_KernelIdeal : Cert.Pre_finite_KernelIdeal.Facts] [hOn_fits : Cert.On_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4]⟩ ⟨2, ![1024, 16]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 1024, 2048]⟩ ⟨3, ![16, 1024, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 2048, 1024]⟩ ⟨3, ![16, 2048, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 1024]⟩ : Shape).Idx, (Layout.block ⟨2, ![256, 1024]⟩ ⟨2, ![1024, 1024]⟩ 0 4 c ((Cert.On_fits.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![256, 1024]⟩ : Shape).Idx → _) i = 1#1 → r.2.mem ((c.tc : Thread Cert.KernelIdeal.nD Cert.KernelIdeal.τ).loc Cert.KernelIdeal.main_v1) i = (Layout.block ⟨2, ![256, 1024]⟩ ⟨2, ![1024, 1024]⟩ 0 4 c v0 : (⟨2, ![256, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_fits.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v47) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts) (hOn_fits : Cert.On_fits.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_on_fits_pre_finite_KernelIdeal (hKernelIdeal := hKernelIdeal) (hReferenceIdeal := hReferenceIdeal) (hPre_finite_KernelIdeal := hPre_finite_KernelIdeal) (hOn_fits := hOn_fits)
-- ==== On_fits.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S1024x2 : Shape := ⟨2, ![1024, 2]⟩
abbrev S16 : Shape := ⟨1, ![16]⟩
abbrev S1024x1 : Shape := ⟨2, ![1024, 1]⟩
abbrev S1x16 : Shape := ⟨2, ![1, 16]⟩
abbrev S1024 : Shape := ⟨1, ![1024]⟩
abbrev S1x1024 : Shape := ⟨2, ![1, 1024]⟩
abbrev S1024x1024x1 : Shape := ⟨3, ![1024, 1024, 1]⟩
abbrev S1x1024x16 : Shape := ⟨3, ![1, 1024, 16]⟩
abbrev S1024x1024x16 : Shape := ⟨3, ![1024, 1024, 16]⟩
abbrev S_ : Shape := ⟨0, ![]⟩

class Facts : Prop where
  sliceFits_S1024x16_S1024x2 : S1024x16.Slices (fun _ => 0) S1024x2
  slices_S1024x2_S1024x1_0_0 : S1024x2.Slices ![0, 0] S1024x1
  bcast_S16_S1x16_1 : S16.BroadcastsInDim S1x16 (![1] : Fin 1 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  slices_S1024x2_S1024x1_0_1 : S1024x2.Slices ![0, 1] S1024x1
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S1024x1024_S1024x1024x1_0_1 : S1024x1024.BroadcastsInDim S1024x1024x1 (![0, 1] : Fin 2 → Fin S1024x1024x1.rank)
  bcast_S1024x16_S1x1024x16_1_2 : S1024x16.BroadcastsInDim S1x1024x16 (![1, 2] : Fin 2 → Fin S1x1024x16.rank)
  bcast_S1024x1024x1_S1024x1024x16_0_1_2 : S1024x1024x1.BroadcastsInDim S1024x1024x16 (![0, 1, 2] : Fin 3 → Fin S1024x1024x16.rank)
  bcast_S1x1024x16_S1024x1024x16_0_1_2 : S1x1024x16.BroadcastsInDim S1024x1024x16 (![0, 1, 2] : Fin 3 → Fin S1024x1024x16.rank)
  natLt_1_32 : 1 < 32
  reducesTo_S1024x1024x16_S1024x16_d1 : S1024x1024x16.ReducesTo [1] S1024x16
  h_S_ : 0 < S_.numel
  bcast_S_S1024x16 : S_.BroadcastsInDim S1024x16 (![] : Fin 0 → Fin S1024x16.rank)
  reducesTo_S1024x16_S1024_d1 : S1024x16.ReducesTo [1] S1024
  dot_S1024x1024_S1024x16_S1024x16_1_0_0_1_n_n_wf : DotDims.WF S1024x1024 S1024x16 S1024x16 [1] [0] [0] [1] [] []

variable [Facts]

def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def fn_part1 {F : FTy → Type} [FloatOps F] (main_v12 : IVec S1024x16 1) (main_v20 : IVec S1x1024x16 1) (main_v21 : IVec S1024x1024x16 1) : IVec S1024x1024 1 :=
  let main_v22 : IVec S1024x1024x16 1 := broadcastInDim S1024x1024x16 ![0, 1, 2] bcast_S1x1024x16_S1024x1024x16_0_1_2 main_v20
  let main_v23 : IVec S1024x1024x16 1 := andi main_v21 main_v22
  let main_v24 : IVec S1024x1024x16 32 := (extui 32 · natLt_1_32) main_v23
  let main_c : IVec S_ 32 := constantI S_ 32 0#32
  let main_v25 : IVec S1024x16 32 := (fun x v => Host.reduce IntOp.addi x v reducesTo_S1024x1024x16_S1024x16_d1 h_S_) main_v24 main_c
  let main_v26 : IVec S1024x16 1 := noti main_v12
  let main_c_0 : IVec S_ 32 := constantI S_ 32 176#32
  let main_v27 : IVec S1024x16 32 := broadcastInDim S1024x16 ![] bcast_S_S1024x16 main_c_0
  let main_v28 : IVec S1024x16 1 := cmpi .slt main_v25 main_v27
  let main_v29 : IVec S1024x16 1 := ori main_v26 main_v28
  let main_c_1 : IVec S_ 1 := constantI S_ 1 1#1
  let main_v30 : IVec S1024 1 := (fun x v => Host.reduce IntOp.andi x v reducesTo_S1024x16_S1024_d1 h_S_) main_v29 main_c_1
  let main_v31 : IVec S1024x1 1 := broadcastInDim S1024x1 ![0] bcast_S1024_S1024x1_0 main_v30
  let main_v32 : IVec S1024x1024 1 := broadcastInDim S1024x1024 ![0, 1] bcast_S1024x1_S1024x1024_0_1 main_v31
  main_v32

def fn {F : FTy → Type} [FloatOps F] (main_arg0 : FVec F S1024x1024 .f32) (main_arg1 : FVec F S1024x16 .f32) (main_arg2 : FVec F S16x1024x2048 .f32) (main_arg3 : FVec F S16x2048x1024 .f32) : IVec S1024x1024 1 :=
  let main_v0 : FVec F S1024x16 .f32 := (fun l r => Host.dotGeneral dot_S1024x1024_S1024x16_S1024x16_1_0_0_1_n_n none l r) main_arg0 main_arg1
  let main_values : FVec F S1024x2 .f32 := (fun x => (Host.topK S1024x2 1 (FloatOps.cmpfTotal .gt) x sliceFits_S1024x16_S1024x2).1) main_v0
  let main_indices : IVec S1024x2 32 := (fun x => (Host.topK S1024x2 1 (FloatOps.cmpfTotal .gt) x sliceFits_S1024x16_S1024x2).2) main_v0
  let main_v1 : IVec S16 32 := iotaInDim S16 32 0
  let main_v2 : IVec S1024x1 32 := (extractStridedSlice S1024x1 ![0, 0] · slices_S1024x2_S1024x1_0_0) main_indices
  let main_v3 : IVec S1x16 32 := broadcastInDim S1x16 ![1] bcast_S16_S1x16_1 main_v1
  let main_v4 : IVec S1024x16 32 := broadcastInDim S1024x16 ![0, 1] bcast_S1024x1_S1024x16_0_1 main_v2
  let main_v5 : IVec S1024x16 32 := broadcastInDim S1024x16 ![0, 1] bcast_S1x16_S1024x16_0_1 main_v3
  let main_v6 : IVec S1024x16 1 := cmpi .eq main_v4 main_v5
  let main_v7 : IVec S1024x1 32 := (extractStridedSlice S1024x1 ![0, 1] · slices_S1024x2_S1024x1_0_1) main_indices
  let main_v8 : IVec S1x16 32 := broadcastInDim S1x16 ![1] bcast_S16_S1x16_1 main_v1
  let main_v9 : IVec S1024x16 32 := broadcastInDim S1024x16 ![0, 1] bcast_S1024x1_S1024x16_0_1 main_v7
  let main_v10 : IVec S1024x16 32 := broadcastInDim S1024x16 ![0, 1] bcast_S1x16_S1024x16_0_1 main_v8
  let main_v11 : IVec S1024x16 1 := cmpi .eq main_v9 main_v10
  let main_v12 : IVec S1024x16 1 := ori main_v6 main_v11
  let main_v13 : IVec S1024 32 := iotaInDim S1024 32 0
  let main_v14 : IVec S1x1024 32 := broadcastInDim S1x1024 ![1] bcast_S1024_S1x1024_1 main_v13
  let main_v15 : IVec S1024x1 32 := broadcastInDim S1024x1 ![0] bcast_S1024_S1024x1_0 main_v13
  let main_v16 : IVec S1024x1024 32 := broadcastInDim S1024x1024 ![0, 1] bcast_S1x1024_S1024x1024_0_1 main_v14
  let main_v17 : IVec S1024x1024 32 := broadcastInDim S1024x1024 ![0, 1] bcast_S1024x1_S1024x1024_0_1 main_v15
  let main_v18 : IVec S1024x1024 1 := cmpi .slt main_v16 main_v17
  let main_v19 : IVec S1024x1024x1 1 := broadcastInDim S1024x1024x1 ![0, 1] bcast_S1024x1024_S1024x1024x1_0_1 main_v18
  let main_v20 : IVec S1x1024x16 1 := broadcastInDim S1x1024x16 ![1, 2] bcast_S1024x16_S1x1024x16_1_2 main_v12
  let main_v21 : IVec S1024x1024x16 1 := broadcastInDim S1024x1024x16 ![0, 1, 2] bcast_S1024x1024x1_S1024x1024x16_0_1_2 main_v19
  fn_part1 (F := F) main_v12 main_v20 main_v21
-- ==== Pre_finite_KernelIdeal.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S256x1024 .f32) (main_arg1 : FVec F S1024x4 .f32) (main_arg2 : FVec F S4x1024x2048 .f32) (main_arg3 : FVec F S4x2048x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  main_v8
-- ==== Pre_finite_ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S1024x1024 .f32) (main_arg1 : FVec F S1024x16 .f32) (main_arg2 : FVec F S16x1024x2048 .f32) (main_arg3 : FVec F S16x2048x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Kernel.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S4x256x1024 : Shape := ⟨3, ![4, 256, 1024]⟩
abbrev S4x1024x4 : Shape := ⟨3, ![4, 1024, 4]⟩
abbrev S4x256x16 : Shape := ⟨3, ![4, 256, 16]⟩
abbrev S3x256x1024 : Shape := ⟨3, ![3, 256, 1024]⟩
abbrev S1024x1024 : Shape := ⟨2, ![1024, 1024]⟩
abbrev S2x1024x2048 : Shape := ⟨3, ![2, 1024, 2048]⟩
abbrev S2x2048x1024 : Shape := ⟨3, ![2, 2048, 1024]⟩
abbrev S3 : Shape := ⟨1, ![3]⟩
abbrev S4 : Shape := ⟨1, ![4]⟩
abbrev S2 : Shape := ⟨1, ![2]⟩
abbrev S_ : Shape := ⟨0, ![]⟩
abbrev S1 : Shape := ⟨1, ![1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S1x256x1024 : Shape := ⟨3, ![1, 256, 1024]⟩
abbrev S1x1024x4 : Shape := ⟨3, ![1, 1024, 4]⟩
abbrev S256x4 : Shape := ⟨2, ![256, 4]⟩
abbrev S1x256x4 : Shape := ⟨3, ![1, 256, 4]⟩
abbrev S1x256x16 : Shape := ⟨3, ![1, 256, 16]⟩
abbrev S256x16 : Shape := ⟨2, ![256, 16]⟩
abbrev S1024x16 : Shape := ⟨2, ![1024, 16]⟩
abbrev S1024 : Shape := ⟨1, ![1024]⟩
abbrev S1024x1 : Shape := ⟨2, ![1024, 1]⟩
abbrev S176x1024 : Shape := ⟨2, ![176, 1024]⟩
abbrev S1x1024 : Shape := ⟨2, ![1, 1024]⟩
abbrev S176x1 : Shape := ⟨2, ![176, 1]⟩
abbrev S176x2048 : Shape := ⟨2, ![176, 2048]⟩

abbrev nBuf : Space → Nat
  | .hbm => 5
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S256x1024, .f32⟩
  | .local _ .vmem, ⟨0, _⟩ => ⟨S256x1024, .f32⟩
  | .local _ .vmem, ⟨1, _⟩ => ⟨S1024x4, .f32⟩
  | .local _ .vmem, ⟨2, _⟩ => ⟨S256x1024, .f32⟩
  | .local _ .vmem, ⟨3, _⟩ => ⟨S4x256x1024, .bf16⟩
  | .local _ .vmem, ⟨4, _⟩ => ⟨S4x1024x4, .f32⟩
  | .local _ .vmem, ⟨5, _⟩ => ⟨S4x256x16, .f32⟩
  | .local _ .vmem, ⟨6, _⟩ => ⟨S3x256x1024, .bf16⟩
  | .local _ .vmem, ⟨7, _⟩ => ⟨S3x256x1024, .bf16⟩
  | .local _ .vmem, ⟨8, _⟩ => ⟨S1024x1024, .f32⟩
  | .local _ .vmem, ⟨9, _⟩ => ⟨S2x1024x2048, .f32⟩
  | .local _ .vmem, ⟨10, _⟩ => ⟨S2x2048x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 2 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v15 : BitVec 32 := Scalar.addi v2 c1_i32_6
  let c4_i32_7 : BitVec 32 := 4#32
  let c0_i32_8 : BitVec 32 := 0#32
  let v16 : BitVec 1 := Scalar.cmpi .eq c4_i32_7 c0_i32_8
  let c1_i32_9 : BitVec 32 := 1#32
  let v17 : BitVec 32 := Scalar.select v16 c1_i32_9 c4_i32_7
  let v18 : BitVec 32 := Scalar.remsi v15 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_14 : BitVec 32 := 1#32
  let v26 : BitVec 32 := Scalar.muli v25 c1_i32_14
  let v27 : BitVec 32 := Scalar.addi c0_i32_15 v26
  v27.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v28 : BitVec 32 := Scalar.addi v2 c2_i32
  let c4_i32_16 : BitVec 32 := 4#32
  let c0_i32_17 : BitVec 32 := 0#32
  let v29 : BitVec 1 := Scalar.cmpi .eq c4_i32_16 c0_i32_17
  let c1_i32_18 : BitVec 32 := 1#32
  let v30 : BitVec 32 := Scalar.select v29 c1_i32_18 c4_i32_16
  let v31 : BitVec 32 := Scalar.remsi v28 v30
  let c0_i32_20 : BitVec 32 := 0#32
  let v33 : BitVec 1 := Scalar.cmpi .slt v31 c0_i32_20
  let c0_i32_21 : BitVec 32 := 0#32
  let v34 : BitVec 1 := Scalar.cmpi .slt v30 c0_i32_21
  let v35 : BitVec 1 := Scalar.xori v33 v34
  let c0_i32_19 : BitVec 32 := 0#32
  let v32 : BitVec 1 := Scalar.cmpi .ne v31 c0_i32_19
  let v36 : BitVec 1 := Scalar.andi v35 v32
  let v37 : BitVec 32 := Scalar.addi v31 v30
  let v38 : BitVec 32 := Scalar.select v36 v37 v31
  let c1_i32_23 : BitVec 32 := 1#32
  let v39 : BitVec 32 := Scalar.muli v38 c1_i32_23
  let v40 : BitVec 32 := Scalar.addi c0_i32_24 v39
  v40.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v41 : BitVec 32 := Scalar.addi v2 c3_i32
  let c4_i32_25 : BitVec 32 := 4#32
  let c0_i32_26 : BitVec 32 := 0#32
  let v42 : BitVec 1 := Scalar.cmpi .eq c4_i32_25 c0_i32_26
  let c1_i32_27 : BitVec 32 := 1#32
  let v43 : BitVec 32 := Scalar.select v42 c1_i32_27 c4_i32_25
  let v44 : BitVec 32 := Scalar.remsi v41 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c1_i32_32 : BitVec 32 := 1#32
  let v52 : BitVec 32 := Scalar.muli v51 c1_i32_32
  let v53 : BitVec 32 := Scalar.addi c0_i32_33 v52
  v53.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v69 : Index := Scalar.indexCast v2
  let c0_50 : Index := 0#32
  let c0_51 : Index := 0#32
  ![v69.toNat, 0, 0]
def k0_off2 (d0 : Dev nD) (c0_i32_52 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v73 : BitVec 32 := Scalar.subi v2 c0_i32_52
  let c4_i32_53 : BitVec 32 := 4#32
  let c0_i32_54 : BitVec 32 := 0#32
  let v74 : BitVec 1 := Scalar.cmpi .eq c4_i32_53 c0_i32_54
  let c1_i32_55 : BitVec 32 := 1#32
  let v75 : BitVec 32 := Scalar.select v74 c1_i32_55 c4_i32_53
  let v76 : BitVec 32 := Scalar.remsi v73 v75
  let c0_i32_57 : BitVec 32 := 0#32
  let v78 : BitVec 1 := Scalar.cmpi .slt v76 c0_i32_57
  let c0_i32_58 : BitVec 32 := 0#32
  let v79 : BitVec 1 := Scalar.cmpi .slt v75 c0_i32_58
  let v80 : BitVec 1 := Scalar.xori v78 v79
  let c0_i32_56 : BitVec 32 := 0#32
  let v77 : BitVec 1 := Scalar.cmpi .ne v76 c0_i32_56
  let v81 : BitVec 1 := Scalar.andi v80 v77
  let v82 : BitVec 32 := Scalar.addi v76 v75
  let v83 : BitVec 32 := Scalar.select v81 v82 v76
  let c0_i32_63 : BitVec 32 := 0#32
  let c0_i32_64 : BitVec 32 := 0#32
  ![v83.toNat, 0, 0]
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_61 : BitVec 32 := 1#32
  let v84 : BitVec 32 := Scalar.muli v13 c1_i32_61
  let v85 : BitVec 32 := Scalar.addi c0_i32_62 v84
  v85.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v96 : Index := Scalar.indexCast v2
  let c0_69 : Index := 0#32
  let c0_70 : Index := 0#32
  ![v96.toNat, 0, 0]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let c0_i32_82 : BitVec 32 := 0#32
  ![v2.toNat, 0, 0]
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_71 : BitVec 32 := 1#32
  let v100 : BitVec 32 := Scalar.addi v2 c1_i32_71
  let c4_i32_72 : BitVec 32 := 4#32
  let c0_i32_73 : BitVec 32 := 0#32
  let v101 : BitVec 1 := Scalar.cmpi .eq c4_i32_72 c0_i32_73
  let c1_i32_74 : BitVec 32 := 1#32
  let v102 : BitVec 32 := Scalar.select v101 c1_i32_74 c4_i32_72
  let v103 : BitVec 32 := Scalar.remsi v100 v102
  let c0_i32_76 : BitVec 32 := 0#32
  let v105 : BitVec 1 := Scalar.cmpi .slt v103 c0_i32_76
  let c0_i32_77 : BitVec 32 := 0#32
  let v106 : BitVec 1 := Scalar.cmpi .slt v102 c0_i32_77
  let v107 : BitVec 1 := Scalar.xori v105 v106
  let c0_i32_75 : BitVec 32 := 0#32
  let v104 : BitVec 1 := Scalar.cmpi .ne v103 c0_i32_75
  let v108 : BitVec 1 := Scalar.andi v107 v104
  let v109 : BitVec 32 := Scalar.addi v103 v102
  let v110 : BitVec 32 := Scalar.select v108 v109 v103
  let c1_i32_79 : BitVec 32 := 1#32
  let v111 : BitVec 32 := Scalar.muli v110 c1_i32_79
  let v112 : BitVec 32 := Scalar.addi c0_i32_80 v111
  v112.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_85 : BitVec 32 := 2#32
  let v121 : BitVec 32 := Scalar.addi v2 c2_i32_85
  let c4_i32_86 : BitVec 32 := 4#32
  let c0_i32_87 : BitVec 32 := 0#32
  let v122 : BitVec 1 := Scalar.cmpi .eq c4_i32_86 c0_i32_87
  let c1_i32_88 : BitVec 32 := 1#32
  let v123 : BitVec 32 := Scalar.select v122 c1_i32_88 c4_i32_86
  let v124 : BitVec 32 := Scalar.remsi v121 v123
  let c0_i32_90 : BitVec 32 := 0#32
  let v126 : BitVec 1 := Scalar.cmpi .slt v124 c0_i32_90
  let c0_i32_91 : BitVec 32 := 0#32
  let v127 : BitVec 1 := Scalar.cmpi .slt v123 c0_i32_91
  let v128 : BitVec 1 := Scalar.xori v126 v127
  let c0_i32_89 : BitVec 32 := 0#32
  let v125 : BitVec 1 := Scalar.cmpi .ne v124 c0_i32_89
  let v129 : BitVec 1 := Scalar.andi v128 v125
  let v130 : BitVec 32 := Scalar.addi v124 v123
  let v131 : BitVec 32 := Scalar.select v129 v130 v124
  let c1_i32_93 : BitVec 32 := 1#32
  let v132 : BitVec 32 := Scalar.muli v131 c1_i32_93
  let v133 : BitVec 32 := Scalar.addi c0_i32_94 v132
  v133.toNat
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_99 : BitVec 32 := 3#32
  let v142 : BitVec 32 := Scalar.addi v2 c3_i32_99
  let c4_i32_100 : BitVec 32 := 4#32
  let c0_i32_101 : BitVec 32 := 0#32
  let v143 : BitVec 1 := Scalar.cmpi .eq c4_i32_100 c0_i32_101
  let c1_i32_102 : BitVec 32 := 1#32
  let v144 : BitVec 32 := Scalar.select v143 c1_i32_102 c4_i32_100
  let v145 : BitVec 32 := Scalar.remsi v142 v144
  let c0_i32_104 : BitVec 32 := 0#32
  let v147 : BitVec 1 := Scalar.cmpi .slt v145 c0_i32_104
  let c0_i32_105 : BitVec 32 := 0#32
  let v148 : BitVec 1 := Scalar.cmpi .slt v144 c0_i32_105
  let v149 : BitVec 1 := Scalar.xori v147 v148
  let c0_i32_103 : BitVec 32 := 0#32
  let v146 : BitVec 1 := Scalar.cmpi .ne v145 c0_i32_103
  let v150 : BitVec 1 := Scalar.andi v149 v146
  let v151 : BitVec 32 := Scalar.addi v145 v144
  let v152 : BitVec 32 := Scalar.select v150 v151 v145
  let c1_i32_107 : BitVec 32 := 1#32
  let v153 : BitVec 32 := Scalar.muli v152 c1_i32_107
  let v154 : BitVec 32 := Scalar.addi c0_i32_108 v153
  v154.toNat
def k0_off6 (d0 : Dev nD) (c1_i32_113 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c1_i32_113
  let c4_i32_114 : BitVec 32 := 4#32
  let c0_i32_115 : BitVec 32 := 0#32
  let v164 : BitVec 1 := Scalar.cmpi .eq c4_i32_114 c0_i32_115
  let c1_i32_116 : BitVec 32 := 1#32
  let v165 : BitVec 32 := Scalar.select v164 c1_i32_116 c4_i32_114
  let v166 : BitVec 32 := Scalar.remsi v163 v165
  let c0_i32_118 : BitVec 32 := 0#32
  let v168 : BitVec 1 := Scalar.cmpi .slt v166 c0_i32_118
  let c0_i32_119 : BitVec 32 := 0#32
  let v169 : BitVec 1 := Scalar.cmpi .slt v165 c0_i32_119
  let v170 : BitVec 1 := Scalar.xori v168 v169
  let c0_i32_117 : BitVec 32 := 0#32
  let v167 : BitVec 1 := Scalar.cmpi .ne v166 c0_i32_117
  let v171 : BitVec 1 := Scalar.andi v170 v167
  let v172 : BitVec 32 := Scalar.addi v166 v165
  let v173 : BitVec 32 := Scalar.select v171 v172 v166
  ![v173.toNat]
def k0_off7 (d0 : Dev nD) (c1_i32_113 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v163 : BitVec 32 := Scalar.subi v2 c1_i32_113
  let c4_i32_114 : BitVec 32 := 4#32
  let c0_i32_115 : BitVec 32 := 0#32
  let v164 : BitVec 1 := Scalar.cmpi .eq c4_i32_114 c0_i32_115
  let c1_i32_116 : BitVec 32 := 1#32
  let v165 : BitVec 32 := Scalar.select v164 c1_i32_116 c4_i32_114
  let v166 : BitVec 32 := Scalar.remsi v163 v165
  let c0_i32_118 : BitVec 32 := 0#32
  let v168 : BitVec 1 := Scalar.cmpi .slt v166 c0_i32_118
  let c0_i32_119 : BitVec 32 := 0#32
  let v169 : BitVec 1 := Scalar.cmpi .slt v165 c0_i32_119
  let v170 : BitVec 1 := Scalar.xori v168 v169
  let c0_i32_117 : BitVec 32 := 0#32
  let v167 : BitVec 1 := Scalar.cmpi .ne v166 c0_i32_117
  let v171 : BitVec 1 := Scalar.andi v170 v167
  let v172 : BitVec 32 := Scalar.addi v166 v165
  let v173 : BitVec 32 := Scalar.select v171 v172 v166
  let c0_i32_123 : BitVec 32 := 0#32
  let c0_i32_124 : BitVec 32 := 0#32
  ![v173.toNat, 0, 0]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v223 : Index := Scalar.indexCast v2
  let c0_158 : Index := 0#32
  let c0_159 : Index := 0#32
  ![v223.toNat, 0, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v230 : Index := Scalar.indexCast v2
  let c0_163 : Index := 0#32
  let c4 : Index := 4#32
  ![v230.toNat, 0, 4]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v237 : Index := Scalar.indexCast v2
  let c0_167 : Index := 0#32
  let c8 : Index := 8#32
  ![v237.toNat, 0, 8]
def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v244 : Index := Scalar.indexCast v2
  let c0_171 : Index := 0#32
  let c12 : Index := 12#32
  ![v244.toNat, 0, 12]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_182 : BitVec 32 := 0#32
  let c0_i32_183 : BitVec 32 := 0#32
  ![v2.toNat, 0, 0]
def k0_dev8 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_172 : BitVec 32 := 1#32
  let v248 : BitVec 32 := Scalar.addi v2 c1_i32_172
  let c4_i32_173 : BitVec 32 := 4#32
  let c0_i32_174 : BitVec 32 := 0#32
  let v249 : BitVec 1 := Scalar.cmpi .eq c4_i32_173 c0_i32_174
  let c1_i32_175 : BitVec 32 := 1#32
  let v250 : BitVec 32 := Scalar.select v249 c1_i32_175 c4_i32_173
  let v251 : BitVec 32 := Scalar.remsi v248 v250
  let c0_i32_177 : BitVec 32 := 0#32
  let v253 : BitVec 1 := Scalar.cmpi .slt v251 c0_i32_177
  let c0_i32_178 : BitVec 32 := 0#32
  let v254 : BitVec 1 := Scalar.cmpi .slt v250 c0_i32_178
  let v255 : BitVec 1 := Scalar.xori v253 v254
  let c0_i32_176 : BitVec 32 := 0#32
  let v252 : BitVec 1 := Scalar.cmpi .ne v251 c0_i32_176
  let v256 : BitVec 1 := Scalar.andi v255 v252
  let v257 : BitVec 32 := Scalar.addi v251 v250
  let v258 : BitVec 32 := Scalar.select v256 v257 v251
  let c1_i32_180 : BitVec 32 := 1#32
  let v259 : BitVec 32 := Scalar.muli v258 c1_i32_180
  let v260 : BitVec 32 := Scalar.addi c0_i32_181 v259
  v260.toNat
def k0_dev9 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_186 : BitVec 32 := 2#32
  let v269 : BitVec 32 := Scalar.addi v2 c2_i32_186
  let c4_i32_187 : BitVec 32 := 4#32
  let c0_i32_188 : BitVec 32 := 0#32
  let v270 : BitVec 1 := Scalar.cmpi .eq c4_i32_187 c0_i32_188
  let c1_i32_189 : BitVec 32 := 1#32
  let v271 : BitVec 32 := Scalar.select v270 c1_i32_189 c4_i32_187
  let v272 : BitVec 32 := Scalar.remsi v269 v271
  let c0_i32_191 : BitVec 32 := 0#32
  let v274 : BitVec 1 := Scalar.cmpi .slt v272 c0_i32_191
  let c0_i32_192 : BitVec 32 := 0#32
  let v275 : BitVec 1 := Scalar.cmpi .slt v271 c0_i32_192
  let v276 : BitVec 1 := Scalar.xori v274 v275
  let c0_i32_190 : BitVec 32 := 0#32
  let v273 : BitVec 1 := Scalar.cmpi .ne v272 c0_i32_190
  let v277 : BitVec 1 := Scalar.andi v276 v273
  let v278 : BitVec 32 := Scalar.addi v272 v271
  let v279 : BitVec 32 := Scalar.select v277 v278 v272
  let c1_i32_194 : BitVec 32 := 1#32
  let v280 : BitVec 32 := Scalar.muli v279 c1_i32_194
  let v281 : BitVec 32 := Scalar.addi c0_i32_195 v280
  v281.toNat
def k0_dev10 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_200 : BitVec 32 := 3#32
  let v290 : BitVec 32 := Scalar.addi v2 c3_i32_200
  let c4_i32_201 : BitVec 32 := 4#32
  let c0_i32_202 : BitVec 32 := 0#32
  let v291 : BitVec 1 := Scalar.cmpi .eq c4_i32_201 c0_i32_202
  let c1_i32_203 : BitVec 32 := 1#32
  let v292 : BitVec 32 := Scalar.select v291 c1_i32_203 c4_i32_201
  let v293 : BitVec 32 := Scalar.remsi v290 v292
  let c0_i32_205 : BitVec 32 := 0#32
  let v295 : BitVec 1 := Scalar.cmpi .slt v293 c0_i32_205
  let c0_i32_206 : BitVec 32 := 0#32
  let v296 : BitVec 1 := Scalar.cmpi .slt v292 c0_i32_206
  let v297 : BitVec 1 := Scalar.xori v295 v296
  let c0_i32_204 : BitVec 32 := 0#32
  let v294 : BitVec 1 := Scalar.cmpi .ne v293 c0_i32_204
  let v298 : BitVec 1 := Scalar.andi v297 v294
  let v299 : BitVec 32 := Scalar.addi v293 v292
  let v300 : BitVec 32 := Scalar.select v298 v299 v293
  let c1_i32_208 : BitVec 32 := 1#32
  let v301 : BitVec 32 := Scalar.muli v300 c1_i32_208
  let v302 : BitVec 32 := Scalar.addi c0_i32_209 v301
  v302.toNat
def k0_dev11 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_231 : BitVec 32 := 1#32
  let v330 : BitVec 32 := Scalar.muli v13 c1_i32_231
  let v331 : BitVec 32 := Scalar.addi c0_i32_232 v330
  v331.toNat
def k0_off13 (d0 : Dev nD) (c1_i32_237 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v340 : BitVec 32 := Scalar.subi v2 c1_i32_237
  let c4_i32_238 : BitVec 32 := 4#32
  let c0_i32_239 : BitVec 32 := 0#32
  let v341 : BitVec 1 := Scalar.cmpi .eq c4_i32_238 c0_i32_239
  let c1_i32_240 : BitVec 32 := 1#32
  let v342 : BitVec 32 := Scalar.select v341 c1_i32_240 c4_i32_238
  let v343 : BitVec 32 := Scalar.remsi v340 v342
  let c0_i32_242 : BitVec 32 := 0#32
  let v345 : BitVec 1 := Scalar.cmpi .slt v343 c0_i32_242
  let c0_i32_243 : BitVec 32 := 0#32
  let v346 : BitVec 1 := Scalar.cmpi .slt v342 c0_i32_243
  let v347 : BitVec 1 := Scalar.xori v345 v346
  let c0_i32_241 : BitVec 32 := 0#32
  let v344 : BitVec 1 := Scalar.cmpi .ne v343 c0_i32_241
  let v348 : BitVec 1 := Scalar.andi v347 v344
  let v349 : BitVec 32 := Scalar.addi v343 v342
  let v350 : BitVec 32 := Scalar.select v348 v349 v343
  let c0_i32_247 : BitVec 32 := 0#32
  let c0_i32_248 : BitVec 32 := 0#32
  ![v350.toNat, 0, 0]
def k0_dev12 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_348 : BitVec 32 := 1#32
  let v587 : BitVec 32 := Scalar.muli v13 c1_i32_348
  let v588 : BitVec 32 := Scalar.addi c0_i32_349 v587
  v588.toNat
def k0_off14 (d0 : Dev nD) (c0_i32_533 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_532 : BitVec 32 := 1#32
  let v778 : BitVec 32 := Scalar.subi v2 c1_i32_532
  let v779 : BitVec 32 := Scalar.subi v778 c0_i32_533
  let c4_i32_534 : BitVec 32 := 4#32
  let c0_i32_535 : BitVec 32 := 0#32
  let v780 : BitVec 1 := Scalar.cmpi .eq c4_i32_534 c0_i32_535
  let c1_i32_536 : BitVec 32 := 1#32
  let v781 : BitVec 32 := Scalar.select v780 c1_i32_536 c4_i32_534
  let v782 : BitVec 32 := Scalar.remsi v779 v781
  let c0_i32_538 : BitVec 32 := 0#32
  let v784 : BitVec 1 := Scalar.cmpi .slt v782 c0_i32_538
  let c0_i32_539 : BitVec 32 := 0#32
  let v785 : BitVec 1 := Scalar.cmpi .slt v781 c0_i32_539
  let v786 : BitVec 1 := Scalar.xori v784 v785
  let c0_i32_537 : BitVec 32 := 0#32
  let v783 : BitVec 1 := Scalar.cmpi .ne v782 c0_i32_537
  let v787 : BitVec 1 := Scalar.andi v786 v783
  let v788 : BitVec 32 := Scalar.addi v782 v781
  let v789 : BitVec 32 := Scalar.select v787 v788 v782
  let c256_i32 : BitVec 32 := 256#32
  let v790 : BitVec 32 := Scalar.muli v789 c256_i32
  let v791 : Index := Scalar.indexCast v790
  let c0_540 : Index := 0#32
  ![v791.toNat, 0]
def k0_dev13 (d0 : Dev nD) : Nat :=
  let c0_i32_549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_548 : BitVec 32 := 1#32
  let v797 : BitVec 32 := Scalar.muli v13 c1_i32_548
  let v798 : BitVec 32 := Scalar.addi c0_i32_549 v797
  v798.toNat
def k0_dev14 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_584 : BitVec 32 := 1#32
  let v838 : BitVec 32 := Scalar.muli v13 c1_i32_584
  let v839 : BitVec 32 := Scalar.addi c0_i32_585 v838
  v839.toNat
def k0_dev15 (d0 : Dev nD) : Nat :=
  let c0_i32_621 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_620 : BitVec 32 := 1#32
  let v879 : BitVec 32 := Scalar.muli v13 c1_i32_620
  let v880 : BitVec 32 := Scalar.addi c0_i32_621 v879
  v880.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_636 : BitVec 32 := 256#32
  let v897 : BitVec 32 := Scalar.muli v2 c256_i32_636
  let v898 : Index := Scalar.indexCast v897
  let c0_637 : Index := 0#32
  ![v898.toNat, 0]
def k0_dev16 (d0 : Dev nD) : Nat :=
  let c0_i32_736_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_727_r0 : BitVec 32 := 1#32
  let v978_r0 : BitVec 32 := Scalar.addi v2 c1_i32_727_r0
  let c4_i32_728_r0 : BitVec 32 := 4#32
  let c0_i32_729_r0 : BitVec 32 := 0#32
  let v979_r0 : BitVec 1 := Scalar.cmpi .eq c4_i32_728_r0 c0_i32_729_r0
  let c1_i32_730_r0 : BitVec 32 := 1#32
  let v980_r0 : BitVec 32 := Scalar.select v979_r0 c1_i32_730_r0 c4_i32_728_r0
  let v981_r0 : BitVec 32 := Scalar.remsi v978_r0 v980_r0
  let c0_i32_732_r0 : BitVec 32 := 0#32
  let v983_r0 : BitVec 1 := Scalar.cmpi .slt v981_r0 c0_i32_732_r0
  let c0_i32_733_r0 : BitVec 32 := 0#32
  let v984_r0 : BitVec 1 := Scalar.cmpi .slt v980_r0 c0_i32_733_r0
  let v985_r0 : BitVec 1 := Scalar.xori v983_r0 v984_r0
  let c0_i32_731_r0 : BitVec 32 := 0#32
  let v982_r0 : BitVec 1 := Scalar.cmpi .ne v981_r0 c0_i32_731_r0
  let v986_r0 : BitVec 1 := Scalar.andi v985_r0 v982_r0
  let v987_r0 : BitVec 32 := Scalar.addi v981_r0 v980_r0
  let v988_r0 : BitVec 32 := Scalar.select v986_r0 v987_r0 v981_r0
  let c1_i32_735_r0 : BitVec 32 := 1#32
  let v989_r0 : BitVec 32 := Scalar.muli v988_r0 c1_i32_735_r0
  let v990_r0 : BitVec 32 := Scalar.addi c0_i32_736_r0 v989_r0
  v990_r0.toNat
def k0_dev17 (d0 : Dev nD) : Nat :=
  let c0_i32_746_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_737_r0 : BitVec 32 := 2#32
  let v991_r0 : BitVec 32 := Scalar.addi v2 c2_i32_737_r0
  let c4_i32_738_r0 : BitVec 32 := 4#32
  let c0_i32_739_r0 : BitVec 32 := 0#32
  let v992_r0 : BitVec 1 := Scalar.cmpi .eq c4_i32_738_r0 c0_i32_739_r0
  let c1_i32_740_r0 : BitVec 32 := 1#32
  let v993_r0 : BitVec 32 := Scalar.select v992_r0 c1_i32_740_r0 c4_i32_738_r0
  let v994_r0 : BitVec 32 := Scalar.remsi v991_r0 v993_r0
  let c0_i32_742_r0 : BitVec 32 := 0#32
  let v996_r0 : BitVec 1 := Scalar.cmpi .slt v994_r0 c0_i32_742_r0
  let c0_i32_743_r0 : BitVec 32 := 0#32
  let v997_r0 : BitVec 1 := Scalar.cmpi .slt v993_r0 c0_i32_743_r0
  let v998_r0 : BitVec 1 := Scalar.xori v996_r0 v997_r0
  let c0_i32_741_r0 : BitVec 32 := 0#32
  let v995_r0 : BitVec 1 := Scalar.cmpi .ne v994_r0 c0_i32_741_r0
  let v999_r0 : BitVec 1 := Scalar.andi v998_r0 v995_r0
  let v1000_r0 : BitVec 32 := Scalar.addi v994_r0 v993_r0
  let v1001_r0 : BitVec 32 := Scalar.select v999_r0 v1000_r0 v994_r0
  let c1_i32_745_r0 : BitVec 32 := 1#32
  let v1002_r0 : BitVec 32 := Scalar.muli v1001_r0 c1_i32_745_r0
  let v1003_r0 : BitVec 32 := Scalar.addi c0_i32_746_r0 v1002_r0
  v1003_r0.toNat
def k0_dev18 (d0 : Dev nD) : Nat :=
  let c0_i32_756_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_747_r0 : BitVec 32 := 3#32
  let v1004_r0 : BitVec 32 := Scalar.addi v2 c3_i32_747_r0
  let c4_i32_748_r0 : BitVec 32 := 4#32
  let c0_i32_749_r0 : BitVec 32 := 0#32
  let v1005_r0 : BitVec 1 := Scalar.cmpi .eq c4_i32_748_r0 c0_i32_749_r0
  let c1_i32_750_r0 : BitVec 32 := 1#32
  let v1006_r0 : BitVec 32 := Scalar.select v1005_r0 c1_i32_750_r0 c4_i32_748_r0
  let v1007_r0 : BitVec 32 := Scalar.remsi v1004_r0 v1006_r0
  let c0_i32_752_r0 : BitVec 32 := 0#32
  let v1009_r0 : BitVec 1 := Scalar.cmpi .slt v1007_r0 c0_i32_752_r0
  let c0_i32_753_r0 : BitVec 32 := 0#32
  let v1010_r0 : BitVec 1 := Scalar.cmpi .slt v1006_r0 c0_i32_753_r0
  let v1011_r0 : BitVec 1 := Scalar.xori v1009_r0 v1010_r0
  let c0_i32_751_r0 : BitVec 32 := 0#32
  let v1008_r0 : BitVec 1 := Scalar.cmpi .ne v1007_r0 c0_i32_751_r0
  let v1012_r0 : BitVec 1 := Scalar.andi v1011_r0 v1008_r0
  let v1013_r0 : BitVec 32 := Scalar.addi v1007_r0 v1006_r0
  let v1014_r0 : BitVec 32 := Scalar.select v1012_r0 v1013_r0 v1007_r0
  let c1_i32_755_r0 : BitVec 32 := 1#32
  let v1015_r0 : BitVec 32 := Scalar.muli v1014_r0 c1_i32_755_r0
  let v1016_r0 : BitVec 32 := Scalar.addi c0_i32_756_r0 v1015_r0
  v1016_r0.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊤
  | _ => none
-- ==== ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S16x1024x1024 : Shape := ⟨3, ![16, 1024, 1024]⟩
abbrev S16 : Shape := ⟨1, ![16]⟩
abbrev S16x1 : Shape := ⟨2, ![16, 1]⟩
abbrev S1x1024 : Shape := ⟨2, ![1, 1024]⟩
abbrev S16x1024 : Shape := ⟨2, ![16, 1024]⟩
abbrev S16x1024x1 : Shape := ⟨3, ![16, 1024, 1]⟩
abbrev S1x1024x1 : Shape := ⟨3, ![1, 1024, 1]⟩

abbrev nBuf : Space → Nat
  | .hbm => 68
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16, .f32⟩
  | .hbm, ⟨2, _⟩ => ⟨S16x1024x2048, .f32⟩
  | .hbm, ⟨3, _⟩ => ⟨S16x2048x1024, .f32⟩
  | .hbm, ⟨4, _⟩ => ⟨S1024x16, .f32⟩
  | .hbm, ⟨5, _⟩ => ⟨S1024x2, .f32⟩
  | .hbm, ⟨6, _⟩ => ⟨S1024x2, .i32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x2, .f32⟩
  | .hbm, ⟨11, _⟩ => ⟨S1024x2, .f32⟩
  | .hbm, ⟨12, _⟩ => ⟨S1024x2, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x2, .f32⟩
  | .hbm, ⟨17, _⟩ => ⟨S1024x2, .f32⟩
  | .hbm, ⟨18, _⟩ => ⟨S16x2048x1024, .f32⟩
  | .hbm, ⟨19, _⟩ => ⟨S16x1024x2048, .f32⟩
  | .hbm, ⟨20, _⟩ => ⟨S_, .f32⟩
  | .hbm, ⟨21, _⟩ => ⟨S16x1024x2048, .f32⟩
  | .hbm, ⟨22, _⟩ => ⟨S16x1024x2048, .f32⟩
  | .hbm, ⟨23, _⟩ => ⟨S16x1024x1024, .f32⟩
  | .hbm, ⟨24, _⟩ => ⟨S_, .f32⟩
  | .hbm, ⟨25, _⟩ => ⟨S1024x1024, .f32⟩
  | .hbm, ⟨26, _⟩ => ⟨S1024x1, .i32⟩
  | .hbm, ⟨27, _⟩ => ⟨S1024, .i32⟩
  | .hbm, ⟨28, _⟩ => ⟨S16, .i32⟩
  | .hbm, ⟨29, _⟩ => ⟨S16x1, .i32⟩
  | .hbm, ⟨30, _⟩ => ⟨S1x1024, .i32⟩
  | .hbm, ⟨31, _⟩ => ⟨S16x1024, .i32⟩
  | .hbm, ⟨32, _⟩ => ⟨S16x1024, .i32⟩
  | .hbm, ⟨33, _⟩ => ⟨S16x1024, .i1⟩
  | .hbm, ⟨34, _⟩ => ⟨S16x1024x1, .i1⟩
  | .hbm, ⟨35, _⟩ => ⟨S1024x1, .f32⟩
  | .hbm, ⟨36, _⟩ => ⟨S1x1024x1, .f32⟩
  | .hbm, ⟨37, _⟩ => ⟨S16x1024x1024, .f32⟩
  | .hbm, ⟨38, _⟩ => ⟨S16x1024x1024, .f32⟩
  | .hbm, ⟨39, _⟩ => ⟨S_, .f32⟩
  | .hbm, ⟨40, _⟩ => ⟨S_, .f32⟩
  | .hbm, ⟨41, _⟩ => ⟨S16x1024x1024, .i1⟩
  | .hbm, ⟨42, _⟩ => ⟨S16x1024x1024, .f32⟩
  | .hbm, ⟨43, _⟩ => ⟨S16x1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x1, .i32⟩
  | .hbm, ⟨48, _⟩ => ⟨S1024, .i32⟩
  | .hbm, ⟨49, _⟩ => ⟨S16, .i32⟩
  | .hbm, ⟨50, _⟩ => ⟨S16x1, .i32⟩
  | .hbm, ⟨51, _⟩ => ⟨S1x1024, .i32⟩
  | .hbm, ⟨52, _⟩ => ⟨S16x1024, .i32⟩
  | .hbm, ⟨53, _⟩ => ⟨S16x1024, .i32⟩
  | .hbm, ⟨54, _⟩ => ⟨S16x1024, .i1⟩
  | .hbm, ⟨55, _⟩ => ⟨S16x1024x1, .i1⟩
  | .hbm, ⟨56, _⟩ => ⟨S1024x1, .f32⟩
  | .hbm, ⟨57, _⟩ => ⟨S1x1024x1, .f32⟩
  | .hbm, ⟨58, _⟩ => ⟨S16x1024x1024, .f32⟩
  | .hbm, ⟨59, _⟩ => ⟨S16x1024x1024, .f32⟩
  | .hbm, ⟨60, _⟩ => ⟨S_, .f32⟩
  | .hbm, ⟨61, _⟩ => ⟨S_, .f32⟩
  | .hbm, ⟨62, _⟩ => ⟨S16x1024x1024, .i1⟩
  | .hbm, ⟨63, _⟩ => ⟨S16x1024x1024, .f32⟩
  | .hbm, ⟨64, _⟩ => ⟨S16x1024x1024, .f32⟩
  | .hbm, ⟨65, _⟩ => ⟨S_, .f32⟩
  | .hbm, ⟨66, _⟩ => ⟨S1024x1024, .f32⟩
  | .hbm, ⟨67, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Proof.Views.lean ====
/-
# The slots of a rank-three buffer

The exchange buffers are stacks of slots along their first axis. `slot j` is the set of elements of slot `j`, `sl3 f j`
what it holds. A transfer goes through the slot's squeezed slice; the lemmas here read such a slice's elements and
values by `slot` and `sl3`, whichever printed offsets name it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Pointwise.Index
public import Idealize.ShloMosaic.Lib.Tactic

@[expose] public section

noncomputable section

namespace Cert.MoE

open Cert.KernelIdeal Cert.KernelIdeal.Gen

open Idealize.ShloMosaic
open Idealize.ShloMosaic.TcCoe

/-- The elements of slot `j`. -/
def slot {n a b : Nat} (j : Fin n) : Finset (⟨3, ![n, a, b]⟩ : Shape).Idx := Finset.univ.filter fun i => (i 0).val = j.val

/-- What slot `j` holds, as the one-slot block a load of it returns. -/
def sl3 {α : Type} {n a b : Nat} (f : (⟨3, ![n, a, b]⟩ : Shape).Idx → α) (j : Fin n) : (⟨3, ![1, a, b]⟩ : Shape).Idx → α :=
  fun y => f (ix3 j (y 1) (y 2))

theorem mem_slot {n a b : Nat} {j : Fin n} {i : (⟨3, ![n, a, b]⟩ : Shape).Idx} : i ∈ slot j ↔ i 0 = j := by
  unfold slot; rw [Finset.mem_filter]; exact ⟨fun h => Fin.ext h.2, fun h => ⟨Finset.mem_univ _, congrArg Fin.val h⟩⟩

theorem slot_disjoint {n a b : Nat} (j j' : Fin n) (h : j ≠ j') : Disjoint (slot (a := a) (b := b) j) (slot j') :=
  Finset.disjoint_left.mpr fun i hi hi' => h ((mem_slot.mp hi).symm.trans (mem_slot.mp hi'))

theorem biUnion_slot {n a b : Nat} : (Finset.univ : Finset (Fin n)).biUnion (slot (a := a) (b := b)) = Finset.univ := by
  ext i; simp only [Finset.mem_biUnion, Finset.mem_univ, true_and, iff_true]; exact ⟨i 0, mem_slot.mpr rfl⟩

/-- The unit rectangle of one slot is that slot. -/
theorem unit_slot_set {n a b : Nat} {off : Fin 3 → Nat} (j : Fin n) (h : off = ![j.val, 0, 0])
    (inb : ∀ x, off x + (⟨3, ![1, a, b]⟩ : Shape).size x ≤ (⟨3, ![n, a, b]⟩ : Shape).size x) :
    (Rect.unit (s := ⟨3, ![n, a, b]⟩) off (⟨3, ![1, a, b]⟩ : Shape).size inb).set = slot j := by
  subst h
  ext i
  rw [Rect.mem_set_unit, mem_slot]
  constructor
  · intro h
    have h0 := h 0
    simp only [Matrix.cons_val_zero] at h0
    exact Fin.ext (by omega)
  · intro h x
    have h1 := (i 1).isLt
    have h2 := (i 2).isLt
    fin_cases x
    · subst h; simp
    · simpa using h1
    · simpa using h2

/-- An element of the one-slot rectangle, in the buffer. -/
theorem unit_slot_emb {n a b : Nat} {off : Fin 3 → Nat} (j : Fin n) (h : off = ![j.val, 0, 0])
    (inb : ∀ x, off x + (⟨3, ![1, a, b]⟩ : Shape).size x ≤ (⟨3, ![n, a, b]⟩ : Shape).size x) (y : (⟨3, ![1, a, b]⟩ : Shape).Idx) :
    (Rect.unit (s := ⟨3, ![n, a, b]⟩) off (⟨3, ![1, a, b]⟩ : Shape).size inb).emb y = ix3 j (y 1) (y 2) := by
  subst h
  funext x
  have h0 : (y 0).val = 0 := by have := (y 0).isLt; simp at this; omega
  refine Fin.ext ?_
  fin_cases x
  · show j.val + 1 * (y 0).val = j.val
    omega
  · show 0 + 1 * (y 1).val = (y 1).val
    omega
  · show 0 + 1 * (y 2).val = (y 2).val
    omega

/-- Reading a slot's rectangle. -/
theorem unit_slot_read {α : Type} {n a b : Nat} {off : Fin 3 → Nat} (j : Fin n) (h : off = ![j.val, 0, 0])
    (inb : ∀ x, off x + (⟨3, ![1, a, b]⟩ : Shape).size x ≤ (⟨3, ![n, a, b]⟩ : Shape).size x) (f : (⟨3, ![n, a, b]⟩ : Shape).Idx → α) :
    (fun y => f ((Rect.unit (s := ⟨3, ![n, a, b]⟩) off (⟨3, ![1, a, b]⟩ : Shape).size inb).emb y)) = sl3 f j :=
  funext fun y => congrArg f (unit_slot_emb j h inb y)

end Cert.MoE

end
-- ==== Proof.Contents.lean ====
/-
# What every buffer holds

The kernel's buffers, as functions of the four argument blocks of every device: the gathered token rows, the gathered
router columns, the gathered gate values, the weights of an expert, the accumulator after each expert, the partial sums
passed along the ring and the result.
-/
module

public import proofs.«01_k».proof.Proof.Views

@[expose] public section

noncomputable section

namespace Cert.MoE

open Cert.KernelIdeal Cert.KernelIdeal.Gen

open Idealize.ShloMosaic
open Idealize.ShloMosaic.TcCoe

variable {F : FTy → Type} [FloatOps F] [Named F]

/-- The argument blocks of all devices: token rows, router columns, up and down weights of the local experts. -/
structure Inp (F : FTy → Type) where
  x : Dev nD → Vec F S256x1024 .f32
  rt : Dev nD → Vec F S1024x4 .f32
  w1 : Dev nD → Vec F S4x1024x2048 .f32
  w2 : Dev nD → Vec F S4x2048x1024 .f32

/-- The device `k` places after `c` on the ring, -/
def fwd (c : Dev nD) (k : Nat) : Dev nD := ⟨(c.val + k) % 4, Nat.mod_lt _ (by decide)⟩
/-- and the one `k` places before it (`k` at most 4). -/
def back (c : Dev nD) (k : Nat) : Dev nD := ⟨(c.val + (4 - k)) % 4, Nat.mod_lt _ (by decide)⟩

/-- A one-slot block as the contents of every slot of a buffer. -/
def spread {α : Type} {n a b : Nat} (v : (⟨3, ![1, a, b]⟩ : Shape).Idx → α) : (⟨3, ![n, a, b]⟩ : Shape).Idx → α :=
  fun i => v (ix3 0 (i 1) (i 2))

theorem sl3_spread {α : Type} {n a b : Nat} (v : (⟨3, ![1, a, b]⟩ : Shape).Idx → α) (j : Fin n) : sl3 (spread v) j = v := by
  funext y
  unfold sl3 spread
  refine congrArg v ?_
  funext x
  have h0 : (y 0).val = 0 := by have := (y 0).isLt; simp at this; omega
  fin_cases x
  · exact Fin.ext h0.symm
  · rfl
  · rfl

variable (I : Inp F)

/-- The token rows of all devices, rounded to bf16: slot `j` is device `j`'s. -/
def XC : Vec F S4x256x1024 .bf16 := fun i => spread (n := 4) (k0_pay2 (I.x (i 0))) i
/-- The router columns of all devices. -/
def RC : Vec F S4x1024x4 .f32 := fun i => spread (n := 4) (k0_pay3 (I.rt (i 0))) i

/-- The gate values of device `j`'s tokens at the four experts of device `k`. -/
def gcol (j : Dev nD) (k : Fin 4) : FVec F S1x256x4 .f32 :=
  match k with
  | 0 => k0_pay4 (k0_pay1 (I.x j)) (sl3 (RC I) 0)
  | 1 => k0_pay6 (k0_pay5 (k0_pay1 (I.x j)) (sl3 (RC I) 1))
  | 2 => k0_pay7 (k0_pay1 (I.x j)) (sl3 (RC I) 2)
  | 3 => k0_pay8 (k0_pay1 (I.x j)) (sl3 (RC I) 3)

/-- The gate values of all tokens at all experts: slot `j` is device `j`'s tokens. -/
def GC : Vec F S4x256x16 .f32 := fun i =>
  gcol I (i 0) ⟨(i 2).val / 4, by have := (i 2).isLt; simp at this; omega⟩
    (ix3 0 (i 1) ⟨(i 2).val % 4, Nat.mod_lt _ (by decide)⟩)

/-- The weights of device `c`'s expert `e`, in whichever buffer slot they are. -/
def WB1 (c : Dev nD) (e : Fin 4) : Vec F S2x1024x2048 .f32 := fun i => spread (n := 2) (sl3 (I.w1 c) e) i
def WB2 (c : Dev nD) (e : Fin 4) : Vec F S2x2048x1024 .f32 := fun i => spread (n := 2) (sl3 (I.w2 c) e) i

/-! The routing values read from the gathered gates. -/

def e406 : IVec S1024x16 32 := iota .tc S1024x16 32 [1] iota_S1024x16_d1_w32
def one : F .f32 := Scalar.ofBits .f32 0x3F800000#32
def pos (c : Dev nD) : BitVec 32 := Scalar.remsi (Scalar.divsi (Dev.word c) 1#32) 4#32

/-- The one-hot rows of every token's first choice, -/
def v418 : FVec F S1024x16 .f32 := k0_pay11 (sl3 (GC I) 0) (sl3 (GC I) 1) (sl3 (GC I) 2) (sl3 (GC I) 3)
/-- of its second, -/
def v433 : FVec F S1024x16 .f32 := k0_pay14 (sl3 (GC I) 0) (sl3 (GC I) 1) (sl3 (GC I) 2) (sl3 (GC I) 3)
/-- and the two weights' pieces. -/
def v435 : FVec F S1024x1 .f32 := k0_pay15 (sl3 (GC I) 0) (sl3 (GC I) 1) (sl3 (GC I) 2) (sl3 (GC I) 3)
def v437 : FVec F S1024x1 .f32 := k0_pay16 (sl3 (GC I) 0) (sl3 (GC I) 1) (sl3 (GC I) 2) (sl3 (GC I) 3)
def v447 : FVec F S1024x16 .f32 := k0_pay17 (v418 I) (v433 I) (v435 I) (v437 I) (one (F := F))
def v448 : FVec F S1024x16 .f32 := k0_pay18 (v418 I) (v433 I)
def v454 : FVec F S1024x1024 .bf16 := k0_pay19 (F := F)
def v455 : IVec S176x1024 32 := iota .tc S176x1024 32 [0] iota_S176x1024_d0_w32

/-- The dispatch matrix of device `c`'s expert `e`, -/
def disp (c : Dev nD) (e : Fin 4) : FVec F S176x1024 .bf16 :=
  match e with
  | 0 => k0_pay21 (pos c) e406 (v418 I) (v433 I)
  | 1 => k0_pay25 (v448 I) (v454 (F := F)) v455 (k0_pay23 (pos c) e406)
  | 2 => k0_pay29 (pos c) e406 (v448 I) (v454 (F := F)) v455
  | 3 => k0_pay32 (pos c) e406 (v448 I) (v454 (F := F)) v455
/-- and the weights of the tokens it dispatches. -/
def wts (c : Dev nD) (e : Fin 4) : FVec F S176x1 .f32 :=
  match e with
  | 0 => k0_pay22 (pos c) e406 (v418 I) (v433 I) (v435 I) (v437 I) (one (F := F))
  | 1 => k0_pay26 (v447 I) (v448 I) (v454 (F := F)) v455 (k0_pay23 (pos c) e406)
  | 2 => k0_pay30 (k0_pay28 (pos c) e406 (v447 I)) (k0_pay29 (pos c) e406 (v448 I) (v454 (F := F)) v455) (constant S176x1 .f32 0x00000000#32)
  | 3 => k0_pay33 (pos c) e406 (v447 I) (v448 I) (v454 (F := F)) v455

/-- All token rows, as the experts read them. -/
def xfull : FVec F S1024x1024 .bf16 := k0_pay36 (k0_pay35 (sl3 (XC I) 0)) (sl3 (XC I) 1) (sl3 (XC I) 2) (sl3 (XC I) 3)

/-! The accumulator of device `c` before the first expert and after each. -/

def A0 : Vec F S1024x1024 .f32 := k0_pay34 (F := F)
def A1 (c : Dev nD) : Vec F S1024x1024 .f32 := k0_pay37 (disp I c 0) (wts I c 0) (xfull I) (sl3 (I.w1 c) 0) (sl3 (I.w2 c) 0) (A0 (F := F))
def A2 (c : Dev nD) : Vec F S1024x1024 .f32 := k0_pay39 (disp I c 1) (wts I c 1) (k0_pay38 (disp I c 1) (xfull I) (sl3 (I.w1 c) 1)) (sl3 (I.w2 c) 1) (A1 I c)
def A3 (c : Dev nD) : Vec F S1024x1024 .f32 := k0_pay40 (disp I c 2) (wts I c 2) (xfull I) (sl3 (I.w1 c) 2) (sl3 (I.w2 c) 2) (A2 I c)
def A4 (c : Dev nD) : Vec F S1024x1024 .f32 := k0_pay41 (disp I c 3) (wts I c 3) (xfull I) (sl3 (I.w1 c) 3) (sl3 (I.w2 c) 3) (A3 I c)

/-- The rows of device `k`'s tokens. -/
def rowsOf (A : Vec F S1024x1024 .f32) (k : Dev nD) : Vec F S256x1024 .f32 :=
  fun y => A (ix2 ⟨256 * k.val + (y 0).val, by have h : k.val < 4 := k.isLt; have h' : (y 0).val < 256 := (y 0).isLt; show _ < 1024; omega⟩ (y 1))

/-! What device `c` sends along the ring: the partial sums for the tokens of the devices one, two and three before it. -/

def RS0 (c : Dev nD) : Vec F S1x256x1024 .bf16 := k0_pay42 (rowsOf (A4 I c) (back c 1))
def RS1 (c : Dev nD) : Vec F S1x256x1024 .bf16 := k0_pay43 (rowsOf (A4 I c) (back c 2)) (RS0 I (back c 1))
def RS2 (c : Dev nD) : Vec F S1x256x1024 .bf16 := k0_pay45 (k0_pay44 (rowsOf (A4 I c) (back c 3)) (RS1 I (back c 1)))
def RS (c : Dev nD) (s : Fin 3) : Vec F S1x256x1024 .bf16 :=
  match s with
  | 0 => RS0 I c
  | 1 => RS1 I c
  | 2 => RS2 I c
/-- The same as a buffer's contents. -/
def RSB (c : Dev nD) (s : Fin 3) : Vec F S3x256x1024 .bf16 := spread (n := 3) (RS I c s)

/-- The kernel's result on device `c`. -/
def outC (c : Dev nD) : Vec F S256x1024 .f32 := k0_pay46 (rowsOf (A4 I c) c) (RS2 I (back c 1))

end Cert.MoE

end
-- ==== Proof.Protocol.lean ====
/-
# The protocol

Every semaphore cell of a device has a `Kind`. The schedule says, for each kind and round, which duties raise the cell,
by how much and what they hand over; `debts` lists, in program order, what a device owes other devices' cells; `lvl`
orders the cells so that every wait is below everything its device still owes.

* `bar`: the start barrier. The device `d` places before `c` pays duty `d` of `c`'s cell, handing over its router slot and
  its gate slot for `c`; the right neighbour (duty 3) also its token slots and its landing slots for the partial sums.
* `agS h` / `agR h`: hop `h` of the token gather, to the right neighbour.
* `rS d` / `rR j`, `gS d` / `gR j`: the copies of the router columns and of the gate values, from `j` to all.
* `sS s` / `sR s`: step `s` of the partial sums' ring.
* `w1 s`, `w2 s`: the loads of expert weights into slot `s`, two rounds each.
* `bar2`: the end barrier.
-/
module

public import proofs.«01_k».proof.Proof.Contents

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Kinds of cells -/

inductive Kd where
  | stg (k : Fin 3) | bar | bar2
  | agS (h : Fin 3) | agR (h : Fin 3)
  | rS (d : Fin 4) | rR (j : Fin 4) | gS (d : Fin 4) | gR (j : Fin 4)
  | sS (s : Fin 3) | sR (s : Fin 3)
  | w1 (s : Fin 2) | w2 (s : Fin 2)
  deriving DecidableEq

/-- The semaphore of a kind, -/
def Kd.loc : Kd → SemLoc sig
  | .stg k => .dma ⟨k.val, by have := k.isLt; show _ < 35; omega⟩
  | .bar => .reg ⟨0, by decide⟩
  | .bar2 => .reg ⟨1, by decide⟩
  | .agS h => .dma ⟨3 + h.val, by have := h.isLt; show _ < 35; omega⟩
  | .agR h => .dma ⟨6 + h.val, by have := h.isLt; show _ < 35; omega⟩
  | .rS d => .dma ⟨9 + d.val, by have := d.isLt; show _ < 35; omega⟩
  | .rR j => .dma ⟨13 + j.val, by have := j.isLt; show _ < 35; omega⟩
  | .gS d => .dma ⟨17 + d.val, by have := d.isLt; show _ < 35; omega⟩
  | .gR j => .dma ⟨21 + j.val, by have := j.isLt; show _ < 35; omega⟩
  | .sS s => .dma ⟨25 + s.val, by have := s.isLt; show _ < 35; omega⟩
  | .sR s => .dma ⟨28 + s.val, by have := s.isLt; show _ < 35; omega⟩
  | .w1 s => .dma ⟨31 + s.val, by have := s.isLt; show _ < 35; omega⟩
  | .w2 s => .dma ⟨33 + s.val, by have := s.isLt; show _ < 35; omega⟩

def dmaKd : Fin 35 → Kd := ![.stg 0, .stg 1, .stg 2, .agS 0, .agS 1, .agS 2, .agR 0, .agR 1, .agR 2,
  .rS 0, .rS 1, .rS 2, .rS 3, .rR 0, .rR 1, .rR 2, .rR 3, .gS 0, .gS 1, .gS 2, .gS 3, .gR 0, .gR 1, .gR 2, .gR 3,
  .sS 0, .sS 1, .sS 2, .sR 0, .sR 1, .sR 2, .w1 0, .w1 1, .w2 0, .w2 1]
/-- and the kind of a semaphore. -/
def kdOf : SemLoc sig → Kd
  | .reg s => if s.val = 0 then .bar else .bar2
  | .dma i => dmaKd i

theorem kdOf_loc (k : Kd) : kdOf k.loc = k := by
  cases k with
  | bar => rfl
  | bar2 => rfl
  | _ i => fin_cases i <;> rfl

theorem loc_kdOf (s : SemLoc sig) : (kdOf s).loc = s := by revert s; decide

theorem Kd.loc_inj {k k' : Kd} (h : k.loc = k'.loc) : k = k' := by rw [← kdOf_loc k, h, kdOf_loc]

/-- Device `c`'s cell of kind `k`. -/
abbrev cell (c : Dev nD) (k : Kd) : GSem nD τ sig := ((c : Thread nD τ), k.loc)

theorem cell_inj {c c' : Dev nD} {k k' : Kd} : cell c k = cell c' k' ↔ c = c' ∧ k = k' := by
  constructor
  · intro h
    exact ⟨Fin.ext (congrArg (fun g : GSem nD τ sig => g.1.1.val) h), Kd.loc_inj (congrArg Prod.snd h)⟩
  · rintro ⟨rfl, rfl⟩; rfl

/-! ## The buffers -/

abbrev xM : Memref sig .tc .vmem S256x1024 .f32 := Memref.whole cc0_stg0_0
abbrev rtM : Memref sig .tc .vmem S1024x4 .f32 := Memref.whole cc0_stg1_0
abbrev oM : Memref sig .tc .vmem S256x1024 .f32 := Memref.whole cc0_stg2_0
abbrev w1M : Memref sig .tc .hbm S4x1024x2048 .f32 := Memref.whole main_arg2
abbrev w2M : Memref sig .tc .hbm S4x2048x1024 .f32 := Memref.whole main_arg3
abbrev XM : Memref sig .tc .vmem S4x256x1024 .bf16 := Memref.whole cc0_scratch0
abbrev RM : Memref sig .tc .vmem S4x1024x4 .f32 := Memref.whole cc0_scratch1
abbrev GM : Memref sig .tc .vmem S4x256x16 .f32 := Memref.whole cc0_scratch2
abbrev VM : Memref sig .tc .vmem S3x256x1024 .bf16 := Memref.whole cc0_scratch3
abbrev SM : Memref sig .tc .vmem S3x256x1024 .bf16 := Memref.whole cc0_scratch4
abbrev AM : Memref sig .tc .vmem S1024x1024 .f32 := Memref.whole cc0_scratch5
abbrev B1M : Memref sig .tc .vmem S2x1024x2048 .f32 := Memref.whole cc0_scratch6
abbrev B2M : Memref sig .tc .vmem S2x2048x1024 .f32 := Memref.whole cc0_scratch7

/-! ## The credits of the transfers -/

abbrev xSlot (off : Fin 3 → Nat) (inb : ∀ a, off a + S1x256x1024.size a ≤ S4x256x1024.size a) : Memref sig .tc .vmem S256x1024 .bf16 :=
  (XM.slice (Rect.unit (s := S4x256x1024) off S1x256x1024.size inb) (fun _ => rfl)).squeeze S256x1024 squeezes_S1x256x1024_S256x1024
abbrev rSlot (off : Fin 3 → Nat) (inb : ∀ a, off a + S1x1024x4.size a ≤ S4x1024x4.size a) : Memref sig .tc .vmem S1024x4 .f32 :=
  (RM.slice (Rect.unit (s := S4x1024x4) off S1x1024x4.size inb) (fun _ => rfl)).squeeze S1024x4 squeezes_S1x1024x4_S1024x4
abbrev gSlot (off : Fin 3 → Nat) (inb : ∀ a, off a + S1x256x16.size a ≤ S4x256x16.size a) : Memref sig .tc .vmem S256x16 .f32 :=
  (GM.slice (Rect.unit (s := S4x256x16) off S1x256x16.size inb) (fun _ => rfl)).squeeze S256x16 squeezes_S1x256x16_S256x16
abbrev vSlot (off : Fin 3 → Nat) (inb : ∀ a, off a + S1x256x1024.size a ≤ S3x256x1024.size a) : Memref sig .tc .vmem S256x1024 .bf16 :=
  (VM.slice (Rect.unit (s := S3x256x1024) off S1x256x1024.size inb) (fun _ => rfl)).squeeze S256x1024 squeezes_S1x256x1024_S256x1024
abbrev sSlot (off : Fin 3 → Nat) (inb : ∀ a, off a + S1x256x1024.size a ≤ S3x256x1024.size a) : Memref sig .tc .vmem S256x1024 .bf16 :=
  (SM.slice (Rect.unit (s := S3x256x1024) off S1x256x1024.size inb) (fun _ => rfl)).squeeze S256x1024 squeezes_S1x256x1024_S256x1024
abbrev b1Slot (off : Fin 3 → Nat) (inb : ∀ a, off a + S1x1024x2048.size a ≤ S2x1024x2048.size a) : Memref sig .tc .vmem S1024x2048 .f32 :=
  (B1M.slice (Rect.unit (s := S2x1024x2048) off S1x1024x2048.size inb) (fun _ => rfl)).squeeze S1024x2048 squeezes_S1x1024x2048_S1024x2048
abbrev b2Slot (off : Fin 3 → Nat) (inb : ∀ a, off a + S1x2048x1024.size a ≤ S2x2048x1024.size a) : Memref sig .tc .vmem S2048x1024 .f32 :=
  (B2M.slice (Rect.unit (s := S2x2048x1024) off S1x2048x1024.size inb) (fun _ => rfl)).squeeze S2048x1024 squeezes_S1x2048x1024_S2048x1024
abbrev e1Slot (off : Fin 3 → Nat) (inb : ∀ a, off a + S1x1024x2048.size a ≤ S4x1024x2048.size a) : Memref sig .tc .hbm S1024x2048 .f32 :=
  (w1M.slice (Rect.unit (s := S4x1024x2048) off S1x1024x2048.size inb) (fun _ => rfl)).squeeze S1024x2048 squeezes_S1x1024x2048_S1024x2048
abbrev e2Slot (off : Fin 3 → Nat) (inb : ∀ a, off a + S1x2048x1024.size a ≤ S4x2048x1024.size a) : Memref sig .tc .hbm S2048x1024 .f32 :=
  (w2M.slice (Rect.unit (s := S4x2048x1024) off S1x2048x1024.size inb) (fun _ => rfl)).squeeze S2048x1024 squeezes_S1x2048x1024_S2048x1024

def NX : ℕ := (xSlot ![0, 0, 0] inb_S4x256x1024_S1x256x1024_0_0_0).view.dmaCredit
def NR : ℕ := (rSlot ![0, 0, 0] inb_S4x1024x4_S1x1024x4_0_0_0).view.dmaCredit
def NG : ℕ := (gSlot ![0, 0, 0] inb_S4x256x16_S1x256x16_0_0_0).view.dmaCredit
def NV : ℕ := (vSlot ![0, 0, 0] inb_S3x256x1024_S1x256x1024_0_0_0).view.dmaCredit
def N1 : ℕ := (b1Slot ![0, 0, 0] inb_S2x1024x2048_S1x1024x2048_0_0_0).view.dmaCredit
def N2 : ℕ := (b2Slot ![0, 0, 0] inb_S2x2048x1024_S1x2048x1024_0_0_0).view.dmaCredit

/-- What one duty of a cell of a kind raises it by. -/
def Kd.amt : Kd → ℕ
  | .stg _ | .bar | .bar2 => 1
  | .agS _ | .agR _ => NX
  | .rS _ | .rR _ => NR
  | .gS _ | .gR _ => NG
  | .sS _ | .sR _ => NV
  | .w1 _ => N1
  | .w2 _ => N2

theorem Kd.amt_pos (k : Kd) : 0 < k.amt := by
  cases k <;> first
    | exact Nat.one_pos
    | exact View.dmaCredit_pos _ (by decide)

/-! ## Levels and debts -/

/-- Every wait is on a cell below all that its device still owes. -/
def Kd.lvl : Kd → ℕ
  | .stg _ | .agS _ | .rS _ | .gS _ | .sS _ | .w1 _ | .w2 _ => 0
  | .bar => 1
  | .rR _ => 2
  | .agR h => if h.val = 0 then 3 else 4 + h.val
  | .gR _ => 4
  | .sR s => 7 + s.val
  | .bar2 => 10

/-- What device `c` owes, in program order. -/
def debts (c : Dev nD) : List (Dev nD × Kd) :=
  [(fwd c 1, .bar), (fwd c 2, .bar), (fwd c 3, .bar), (fwd c 1, .agR 0),
   (fwd c 1, .rR c), (fwd c 2, .rR c), (fwd c 3, .rR c), (fwd c 1, .gR c), (fwd c 2, .gR c), (fwd c 3, .gR c),
   (fwd c 1, .agR 1), (fwd c 1, .agR 2), (fwd c 1, .sR 0), (fwd c 1, .sR 1), (fwd c 1, .sR 2),
   (fwd c 1, .bar2), (fwd c 2, .bar2), (fwd c 3, .bar2)]

/-- The debts of a list, as tallies. -/
def owe : List (Dev nD × Kd) → CellTallies nD τ sig Unit
  | [] => 0
  | a :: l => owe l + tallyAt (cell a.1 a.2) () a.2.amt

theorem owe_apply (l : List (Dev nD × Kd)) (c : Dev nD) (k : Kd) : owe l (cell c k) () = l.count (c, k) * k.amt := by
  induction l with
  | nil => simp [owe]
  | cons a l ih =>
    unfold owe
    rw [Pi.add_apply, Finsupp.add_apply, ih, tallyAt_apply, List.count_cons]
    by_cases h : a = (c, k)
    · subst h; simp [Nat.add_mul]
    · have h' : ¬ (cell c k = cell a.1 a.2 ∧ () = ()) := fun h' => h (by
        have := cell_inj.mp h'.1; exact Prod.ext this.1.symm this.2.symm)
      rw [if_neg h']; simp [h]

theorem owe_pos {l : List (Dev nD × Kd)} {g : GSem nD τ sig} {u : Unit} (h : 0 < owe l g u) : ∃ a ∈ l, g = cell a.1 a.2 := by
  induction l with
  | nil => exact absurd h (Nat.lt_irrefl 0)
  | cons a l ih =>
    unfold owe at h
    rw [Pi.add_apply, Finsupp.add_apply, tallyAt_apply] at h
    by_cases h' : g = cell a.1 a.2 ∧ u = ()
    · exact ⟨a, List.mem_cons_self, h'.1⟩
    · rw [if_neg h', Nat.add_zero] at h
      obtain ⟨b, hb, e⟩ := ih h
      exact ⟨b, List.mem_cons_of_mem _ hb, e⟩

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What is handed over -/

/-- Slot `j` of the token buffer of device `c`, at a share, holding `f` there; -/
def xP (c : Dev nD) (j : Fin 4) (q : PosShare TreeShare) (f : Vec F S4x256x1024 .bf16) : sProp 𝕄 :=
  ((c : Thread nD τ).loc cc0_scratch0 ↦[slot (n := 4) (a := 256) (b := 1024) j]{q} f)
/-- of the router buffer; -/
def rP (c : Dev nD) (j : Fin 4) (q : PosShare TreeShare) (f : Vec F S4x1024x4 .f32) : sProp 𝕄 :=
  ((c : Thread nD τ).loc cc0_scratch1 ↦[slot (n := 4) (a := 1024) (b := 4) j]{q} f)
/-- of the gate buffer; -/
def gP (c : Dev nD) (j : Fin 4) (q : PosShare TreeShare) (f : Vec F S4x256x16 .f32) : sProp 𝕄 :=
  ((c : Thread nD τ).loc cc0_scratch2 ↦[slot (n := 4) (a := 256) (b := 16) j]{q} f)
/-- of the landing buffer of the partial sums; -/
def vP (c : Dev nD) (s : Fin 3) (q : PosShare TreeShare) (f : Vec F S3x256x1024 .bf16) : sProp 𝕄 :=
  ((c : Thread nD τ).loc cc0_scratch3 ↦[slot (n := 3) (a := 256) (b := 1024) s]{q} f)
/-- of their send buffer; -/
def sP (c : Dev nD) (s : Fin 3) (q : PosShare TreeShare) (f : Vec F S3x256x1024 .bf16) : sProp 𝕄 :=
  ((c : Thread nD τ).loc cc0_scratch4 ↦[slot (n := 3) (a := 256) (b := 1024) s]{q} f)
/-- of the up weights' buffer; -/
def b1P (c : Dev nD) (s : Fin 2) (q : PosShare TreeShare) (f : Vec F S2x1024x2048 .f32) : sProp 𝕄 :=
  ((c : Thread nD τ).loc cc0_scratch6 ↦[slot (n := 2) (a := 1024) (b := 2048) s]{q} f)
/-- of the down weights' buffer; -/
def b2P (c : Dev nD) (s : Fin 2) (q : PosShare TreeShare) (f : Vec F S2x2048x1024 .f32) : sProp 𝕄 :=
  ((c : Thread nD τ).loc cc0_scratch7 ↦[slot (n := 2) (a := 2048) (b := 1024) s]{q} f)
/-- of the argument arrays of the two weights. -/
def e1P (c : Dev nD) (e : Fin 4) (q : PosShare TreeShare) (f : Vec F S4x1024x2048 .f32) : sProp 𝕄 :=
  ((c : Thread nD τ).loc main_arg2 ↦[slot (n := 4) (a := 1024) (b := 2048) e]{q} f)
def e2P (c : Dev nD) (e : Fin 4) (q : PosShare TreeShare) (f : Vec F S4x2048x1024 .f32) : sProp 𝕄 :=
  ((c : Thread nD τ).loc main_arg3 ↦[slot (n := 4) (a := 2048) (b := 1024) e]{q} f)

/-- A share in four quarters: the three sends' and the device's own. -/
def qtr (d : Fin 4) : PosShare TreeShare :=
  match d with
  | 0 => fullShare.left.left
  | 1 => fullShare.left.right
  | 2 => fullShare.right.left
  | 3 => fullShare.right.right

/-- What the right neighbour `p` also hands over at the start barrier: its token slots the gather fills and its landing
    slots for the partial sums. -/
def barExtra (p : Dev nD) : sProp 𝕄 :=
  iprop((∃ f, xP (F := F) p (back p 1) fullShare f) ∗ (∃ f, xP (F := F) p (back p 2) fullShare f) ∗ (∃ f, xP (F := F) p (back p 3) fullShare f)
    ∗ (∃ f, vP (F := F) p 0 fullShare f) ∗ (∃ f, vP (F := F) p 1 fullShare f) ∗ (∃ f, vP (F := F) p 2 fullShare f))
/-- What `p` hands `c` at the start barrier. -/
def barPay (p c : Dev nD) : sProp 𝕄 :=
  iprop((∃ f, rP (F := F) p c fullShare f) ∗ (∃ f, gP (F := F) p c fullShare f))

variable (I : Inp F)

/-- What duty `d` of round `r` of device `c`'s cell of kind `k` hands over. -/
def pay (c : Dev nD) (k : Kd) (r : ℕ) (d : Fin 4) : sProp 𝕄 :=
  match k with
  | .stg _ => iprop(emp)
  | .bar =>
    match d with
    | 0 => iprop(emp)
    | 1 => barPay (back c 1) c
    | 2 => barPay (back c 2) c
    | 3 => iprop(barPay (back c 3) c ∗ barExtra (F := F) (back c 3))
  | .bar2 => iprop(emp)
  | .agS h => xP c (back c h.val) fullShare.left (XC I)
  | .agR h => xP c (back c (h.val + 1)) fullShare (XC I)
  | .rS d => rP c c (qtr d) (RC I)
  | .rR j => rP c j fullShare (RC I)
  | .gS d => gP c c (qtr d) (GC I)
  | .gR j => gP c j fullShare (GC I)
  | .sS s => sP c s fullShare (RSB I c s)
  | .sR s => vP c s fullShare (RSB I (back c 1) s)
  | .w1 s => match r with
    | 0 => iprop(b1P c s fullShare (WB1 I c ⟨s.val, by omega⟩) ∗ e1P c ⟨s.val, by omega⟩ fullShare (I.w1 c))
    | _ => iprop(b1P c s fullShare (WB1 I c ⟨2 + s.val, by omega⟩) ∗ e1P c ⟨2 + s.val, by omega⟩ fullShare (I.w1 c))
  | .w2 s => match r with
    | 0 => iprop(b2P c s fullShare (WB2 I c ⟨s.val, by omega⟩) ∗ e2P c ⟨s.val, by omega⟩ fullShare (I.w2 c))
    | _ => iprop(b2P c s fullShare (WB2 I c ⟨2 + s.val, by omega⟩) ∗ e2P c ⟨2 + s.val, by omega⟩ fullShare (I.w2 c))

/-- The duties of round `r` of device `c`'s cell of kind `k`. -/
def dut (c : Dev nD) (k : Kd) (r : ℕ) : Finset (Fin 4) :=
  match k with
  | .stg _ => ∅
  | .bar | .bar2 => if r = 0 then {1, 2, 3} else ∅
  | .rS d | .gS d => if r = 0 ∧ d ≠ 0 then {0} else ∅
  | .rR j | .gR j => if r = 0 ∧ j ≠ c then {0} else ∅
  | .agS _ | .agR _ | .sS _ | .sR _ => if r = 0 then {0} else ∅
  | .w1 _ | .w2 _ => if r < 2 then {0} else ∅

def Rd : Rounds.Schedule (GSem nD τ sig) (Fin 4) 𝕄 where
  duties g r := dut g.1.1 (kdOf g.2) r
  amount g _ _ := (kdOf g.2).amt
  payload g r d := pay I g.1.1 (kdOf g.2) r d
  unitless _ := False
  amount_pos g _ _ _ := Kd.amt_pos _

omit [FloatOps F] [Named F] in
theorem xP_st (c : Dev nD) (j q f) : BI.Storable (upEmb : UEmb _ 𝕄) (xP (F := F) c j q f) := by unfold xP; infer_instance
omit [FloatOps F] [Named F] in
theorem rP_st (c : Dev nD) (j q f) : BI.Storable (upEmb : UEmb _ 𝕄) (rP (F := F) c j q f) := by unfold rP; infer_instance
omit [FloatOps F] [Named F] in
theorem gP_st (c : Dev nD) (j q f) : BI.Storable (upEmb : UEmb _ 𝕄) (gP (F := F) c j q f) := by unfold gP; infer_instance
omit [FloatOps F] [Named F] in
theorem vP_st (c : Dev nD) (j q f) : BI.Storable (upEmb : UEmb _ 𝕄) (vP (F := F) c j q f) := by unfold vP; infer_instance
omit [FloatOps F] [Named F] in
theorem sP_st (c : Dev nD) (j q f) : BI.Storable (upEmb : UEmb _ 𝕄) (sP (F := F) c j q f) := by unfold sP; infer_instance
omit [FloatOps F] [Named F] in
theorem b1P_st (c : Dev nD) (j q f) : BI.Storable (upEmb : UEmb _ 𝕄) (b1P (F := F) c j q f) := by unfold b1P; infer_instance
omit [FloatOps F] [Named F] in
theorem b2P_st (c : Dev nD) (j q f) : BI.Storable (upEmb : UEmb _ 𝕄) (b2P (F := F) c j q f) := by unfold b2P; infer_instance
omit [FloatOps F] [Named F] in
theorem e1P_st (c : Dev nD) (j q f) : BI.Storable (upEmb : UEmb _ 𝕄) (e1P (F := F) c j q f) := by unfold e1P; infer_instance
omit [FloatOps F] [Named F] in
theorem e2P_st (c : Dev nD) (j q f) : BI.Storable (upEmb : UEmb _ 𝕄) (e2P (F := F) c j q f) := by unfold e2P; infer_instance

attribute [instance] xP_st rP_st gP_st vP_st sP_st b1P_st b2P_st e1P_st e2P_st

instance pay_storable (c : Dev nD) (k : Kd) (r : ℕ) (d : Fin 4) : BI.Storable (upEmb : UEmb _ 𝕄) (pay I c k r d) := by
  unfold pay barPay barExtra
  (repeat' split) <;> infer_instance

instance Rd_payload_storable (g : GSem nD τ sig) (r : ℕ) (d : Fin 4) : BI.Storable (upEmb : UEmb _ 𝕄) ((Rd (F := F) I).payload g r d) :=
  pay_storable I g.1.1 (kdOf g.2) r d

/-! ## The schedule's tables -/

theorem Rd_duties (c : Dev nD) (k : Kd) (r : ℕ) : (Rd I).duties (cell c k) r = dut c k r := by
  show dut c (kdOf k.loc) r = _; rw [kdOf_loc]
theorem Rd_amount (c : Dev nD) (k : Kd) (r : ℕ) (d : Fin 4) : (Rd I).amount (cell c k) r d = k.amt := by
  show (kdOf k.loc).amt = _; rw [kdOf_loc]
theorem Rd_payload (c : Dev nD) (k : Kd) (r : ℕ) (d : Fin 4) : (Rd I).payload (cell c k) r d = pay I c k r d := by
  show pay I c (kdOf k.loc) r d = _; rw [kdOf_loc]
theorem Rd_expect (c : Dev nD) (k : Kd) (r : ℕ) : (Rd I).expect (cell c k) r = (dut c k r).card * k.amt := by
  unfold Schedule.expect Schedule.amountOf
  rw [Finset.sum_congr rfl fun d _ => Rd_amount I c k r d, Rd_duties, Finset.sum_const, smul_eq_mul]

/-! ## The persistent facts -/

theorem bigSep_at {ι : Type} [Fintype ι] [DecidableEq ι] (i : ι) (Φ : ι → sProp 𝕄) : (bigSep Finset.univ Φ : sProp 𝕄) ⊢ Φ i :=
  bigSep_elim (Finset.mem_univ i)

/-- The kinds of the cells the protocol uses, numbered: the two barriers and the thirty-two transfer cells. -/
def kd (i : Fin 34) : Kd := if i.val = 0 then .bar else if i.val = 1 then .bar2 else dmaKd ⟨i.val + 1, by omega⟩
/-- The number of a kind. -/
def Kd.idx : Kd → Fin 34
  | .stg _ | .bar => 0
  | .bar2 => 1
  | .agS h => ⟨2 + h.val, by omega⟩
  | .agR h => ⟨5 + h.val, by omega⟩
  | .rS d => ⟨8 + d.val, by omega⟩
  | .rR j => ⟨12 + j.val, by omega⟩
  | .gS d => ⟨16 + d.val, by omega⟩
  | .gR j => ⟨20 + j.val, by omega⟩
  | .sS s => ⟨24 + s.val, by omega⟩
  | .sR s => ⟨27 + s.val, by omega⟩
  | .w1 s => ⟨30 + s.val, by omega⟩
  | .w2 s => ⟨32 + s.val, by omega⟩

def Kd.used : Kd → Bool
  | .stg _ => false
  | _ => true

theorem kd_idx (k : Kd) (h : k.used = true) : kd k.idx = k := by
  cases k with
  | stg i => cases h
  | bar => rfl
  | bar2 => rfl
  | _ i => fin_cases i <;> rfl

theorem kd_injective : Function.Injective kd := by
  have h : ∀ i : Fin 34, (kd i).idx = i := by decide
  intro i j e; rw [← h i, e, h j]

abbrev kcell (ck : Dev nD × Fin 34) : GSem nD τ sig := cell ck.1 (kd ck.2)

def L (g : GSem nD τ sig) : Finset Unit := if g.1.2 = .tc then {()} else ∅
def lv (g : GSem nD τ sig) (_ : Unit) : ℕ := (kdOf g.2).lvl

theorem L_of_ne (g : GSem nD τ sig) (h : g.1.2 ≠ .tc) : L g = ∅ := if_neg h
theorem L_tc (c : Dev nD) (sm : SemLoc sig) : L ((c : Thread nD τ), sm) = {()} := if_pos rfl

/-- What every device knows throughout: every cell's invariant, that every cell has reached round 0, and the levels. -/
def ctx : sProp 𝕄 :=
  iprop((bigSep Finset.univ fun ck : Dev nD × Fin 34 => iprop(∃ κ : ℕ, cellInv ER (Rd I) κ (kcell ck)))
    ∗ (bigSep Finset.univ fun ck : Dev nD × Fin 34 => reached ER (kcell ck) 0) ∗ levAts L lv)

instance ctx_persistent : BI.Persistent (ctx I) := by unfold ctx; infer_instance

theorem ctx_inv (c : Dev nD) (k : Kd) (h : k.used = true) : ctx I ⊢ iprop(∃ κ : ℕ, cellInv ER (Rd I) κ (cell c k)) := by
  unfold ctx
  iintro ⟨H, -⟩
  have e : kcell (c, k.idx) = cell c k := by show cell c (kd k.idx) = _; rw [kd_idx k h]
  rw [← e]
  iapply (bigSep_at (F := F) (c, k.idx) (fun ck : Dev nD × Fin 34 => iprop(∃ κ : ℕ, cellInv ER (Rd I) κ (kcell ck))))
  iexact H

theorem ctx_reached (c : Dev nD) (k : Kd) (h : k.used = true) : ctx I ⊢ reached ER (cell c k) 0 := by
  unfold ctx
  iintro ⟨-, H, -⟩
  have e : kcell (c, k.idx) = cell c k := by show cell c (kd k.idx) = _; rw [kd_idx k h]
  rw [← e]
  iapply (bigSep_at (F := F) (c, k.idx) (fun ck : Dev nD × Fin 34 => reached ER (kcell ck) 0))
  iexact H

theorem ctx_mayWait (c : Dev nD) (k : Kd) (l : List (Dev nD × Kd)) (h : ∀ a ∈ l, k.lvl < a.2.lvl) :
    ctx I ⊢ MayWait (c : Thread nD τ) k.loc () (owe l) := by
  unfold ctx
  iintro ⟨-, -, H⟩
  iapply (MayOwe.of_cut (L := L) (lev := lv) k.lvl (fun p hp => by rw [Finset.mem_singleton.mp hp, L_tc]; exact Finset.mem_singleton_self _)
    (fun g u hg => by obtain ⟨a, -, rfl⟩ := owe_pos hg; exact Finset.mem_singleton_self _)
    (fun p hp => by rw [Finset.mem_singleton.mp hp]; show (kdOf k.loc).lvl ≤ _; rw [kdOf_loc])
    (fun g u hg => by obtain ⟨a, ha, rfl⟩ := owe_pos hg; show _ < (kdOf a.2.loc).lvl; rw [kdOf_loc]; exact h a ha))
  iexact H

end Cert.MoE

end
-- ==== Proof.Rules.lean ====
/-
# One rule per kind of step

The library's rules for signals, waits, transfers, loads and stores, stated for this kernel's cells and buffers.
-/
module

public import proofs.«01_k».proof.Proof.Protocol

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

/-- The program of a device's TensorCore, run to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (I : Inp F)

/-- What a device owes, whatever it has waited for. -/
def ow (c : Dev nD) (l : List (Dev nD × Kd)) : sProp 𝕄 := iprop(∃ W, owes (c : Thread nD τ) (owe l) W)

/-- The token of a duty, and a device's place at a cell. -/
abbrev tk (c : Dev nD) (k : Kd) (r : ℕ) (d : Fin 4) : sProp 𝕄 := dutyTok ER (cell c k) r d
abbrev ap (c : Dev nD) (k : Kd) (r : ℕ) : sProp 𝕄 := atPos ER (cell c k) r ∅ 0
abbrev cr (c : Dev nD) (k : Kd) (n : ℕ) : sProp 𝕄 := cred (tallyAt (cell c k) () n)

theorem owe_cons (n : Dev nD) (k : Kd) (l : List (Dev nD × Kd)) : owe ((n, k) :: l) = owe l + tallyAt (cell n k) () k.amt := rfl

/-! ## Signals -/

theorem r_signal (c n n' : Dev nD) (k : Kd) (d : Fin 4) (l : List (Dev nD × Kd)) {sem : Sem sig} {k' : ℕ}
    (hn : n' = n) (hs : SemLoc.reg sem = k.loc) (hu : k.used = true) (hd : d ∈ dut n k 0) (hk : k.amt = k')
    {α : Type} {Q : α → sProp 𝕄} {kk : PUnit → Prog (TpuEff nD τ sig (Elt F) Λ₀ .tc) α} :
    iprop(ctx I ∗ ow c ((n, k) :: l) ∗ tk n k 0 d ∗ pay I n k 0 d)
      ⊢ iprop((ow c l -∗ WP c (kk ⟨⟩) Q) -∗ WP c (.op (.semSignal (n' : Thread nD τ) sem k') kk) Q) := by
  subst hn
  have h {W : Waits sig Unit} {κ : ℕ} := Rounds.wp_signal (defs := defs₀ (F := F)) (Γ := .empty) (Q := Q) 𝒱₀ ER (Rd I) (c : Thread nD τ) none (dst := (n' : Thread nD τ)) (sem := sem) (k := kk) (κ := κ) (r := 0)
      (d := d) (k' := k') (by rw [hs, Rd_duties]; exact hd) (by rw [hs, Rd_amount, hk]) () (O₀ := owe ((n', k) :: l)) (owe l)
      (by rw [hs, owe_cons, hk]) (W := W) (Es := Set.univ)
  rw [hs, Rd_payload] at h
  iintro ⟨#Hc, Ho, Ht, Hp⟩ Hk
  unfold ow
  icases Ho with ⟨%W, Ho⟩
  ihave Hi := (ctx_inv I n' k hu) $$ Hc
  icases Hi with ⟨%κ, #Hi⟩
  ihave #Hr := (ctx_reached I n' k hu) $$ Hc
  iapply (h (W := W) (κ := κ)) $$ [Ho Ht Hp]
  · isplitr; · iexact Hi
    isplitl [Ho]; · iexact Ho
    isplitl [Ht]; · iexact Ht
    isplitl [Hp]; · iexact Hp
    iexact Hr
  iintro Ho
  iapply Hk
  iexists W; iexact Ho

/-! ## Waits -/

/-- A wait for a whole round, the cell left open for the next round; -/
theorem r_wait (c : Dev nD) (k : Kd) (l : List (Dev nD × Kd)) (R : ℕ) {sm : SemLoc sig} {k' : ℕ} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm k' K)
    (hs : sm = k.loc) (hu : k.used = true) (hk : k' = (dut c k R).card * k.amt) (hl : ∀ a ∈ l, k.lvl < a.2.lvl)
    {α : Type} {Q : α → sProp 𝕄} {kk : PUnit → Prog (TpuEff nD τ sig (Elt F) Λ₀ .tc) α} :
    iprop(ctx I ∗ cr c k k' ∗ ow c l ∗ ap c k R)
      ⊢ iprop(((ow c l ∗ ap c k (R + 1) ∗ reached ER (cell c k) (R + 1) ∗ bigSep (dut c k R) (fun d => pay I c k R d)) -∗ WP c (kk ⟨⟩) Q)
          -∗ WP c (.op w kk) Q) := by
  subst hs
  iintro ⟨#Hc, Hcr, Ho, Ha⟩ Hk
  unfold ow
  icases Ho with ⟨%W, Ho⟩
  ihave Hi := (ctx_inv I c k hu) $$ Hc
  icases Hi with ⟨%κ, #Hi⟩
  have e : bigSep ((Rd I).duties (cell c k) R \ ∅) (fun d => (Rd I).payload (cell c k) R d) = bigSep (dut c k R) (fun d => pay I c k R d) := by
    rw [Finset.sdiff_empty, Rd_duties]; exact bigSep_congr fun d _ => Rd_payload I c k R d
  iapply (Rounds.wp_wait_rest_token 𝒱₀ ER (Rd I) (c : Thread nD τ) none (κ := κ) (w := w) (sm := k.loc) (k' := k')
      hw (Set.mem_univ _) () (O := owe l) (W := W) (R := R) (m := 0) (T := ∅)
      (by rw [Nat.zero_add, Rd_expect, hk])) $$ [Hcr Ho Ha]
  · isplitr; · iexact Hi
    isplitl [Hcr]; · iexact Hcr
    isplitl [Ho]; · iexact Ho
    isplitr; · iapply (ctx_mayWait I c k l hl); iexact Hc
    iexact Ha
  iintro ⟨Ho, Ha, Hr, Hp⟩
  ihave Hp := (Entails.of_eq e) $$ Hp
  iapply Hk
  isplitl [Ho]; · iexists _; iexact Ho
  isplitl [Ha]; · iexact Ha
  isplitl [Hr]; · iexact Hr
  iexact Hp

/-- closing a cell that has no further round; -/
theorem r_close (c : Dev nD) (k : Kd) (R : ℕ) (hu : k.used = true) (h : ∀ r, R ≤ r → dut c k r = ∅) :
    iprop(ctx I ∗ ap c k R) ⊢ iprop(|={Set.univ}=> semVal (cell c k) 0) := by
  iintro ⟨#Hc, Ha⟩
  ihave Hi := (ctx_inv I c k hu) $$ Hc
  icases Hi with ⟨%κ, #Hi⟩
  iapply (Rounds.cell_close ER (Rd I) (Set.mem_univ κ) (fun h => h) (R := R) (fun r hr => by rw [Rd_duties]; exact h r hr))
  isplitr; · iexact Hi
  iexact Ha

/-- a wait for the last round of a cell with one duty, the cell closed. -/
theorem r_last (c : Dev nD) (k : Kd) (l : List (Dev nD × Kd)) (R : ℕ) {sm : SemLoc sig} {k' : ℕ} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm k' K)
    (hs : sm = k.loc) (hu : k.used = true) (hd : dut c k R = {0}) (hk : k' = k.amt) (hl : ∀ a ∈ l, k.lvl < a.2.lvl)
    (h : ∀ r, R + 1 ≤ r → dut c k r = ∅)
    {α : Type} {Q : α → sProp 𝕄} {kk : PUnit → Prog (TpuEff nD τ sig (Elt F) Λ₀ .tc) α} :
    iprop(ctx I ∗ cr c k k.amt ∗ ow c l ∗ ap c k R)
      ⊢ iprop(((ow c l ∗ semVal (cell c k) 0 ∗ pay I c k R 0) -∗ WP c (kk ⟨⟩) Q) -∗ WP c (.op w kk) Q) := by
  subst hk
  iintro ⟨#Hc, Hcr, Ho, Ha⟩ Hk
  iapply (r_wait I c k l R hw hs hu (by rw [hd, Finset.card_singleton, one_mul]) hl) $$ [Hcr Ho Ha]
  · isplitr; · iexact Hc
    isplitl [Hcr]; · iexact Hcr
    isplitl [Ho] <;> iassumption
  iintro ⟨Ho, Ha, -, Hp⟩
  imod (r_close I c k (R + 1) hu h) $$ [Ha] with Hz
  · isplitr; · iexact Hc
    iexact Ha
  iapply Hk
  isplitl [Ho]; · iexact Ho
  isplitl [Hz]; · iexact Hz
  ihave Hp := (Entails.of_eq (by rw [hd, bigSep_singleton] : bigSep (dut c k R) (fun d => pay I c k R d) = pay I c k R 0)) $$ Hp
  iexact Hp

/-- The same with a round still to come. -/
theorem r_next (c : Dev nD) (k : Kd) (l : List (Dev nD × Kd)) (R : ℕ) {sm : SemLoc sig} {k' : ℕ} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm k' K)
    (hs : sm = k.loc) (hu : k.used = true) (hd : dut c k R = {0}) (hk : k' = k.amt) (hl : ∀ a ∈ l, k.lvl < a.2.lvl)
    {α : Type} {Q : α → sProp 𝕄} {kk : PUnit → Prog (TpuEff nD τ sig (Elt F) Λ₀ .tc) α} :
    iprop(ctx I ∗ cr c k k.amt ∗ ow c l ∗ ap c k R)
      ⊢ iprop(((ow c l ∗ ap c k (R + 1) ∗ reached ER (cell c k) (R + 1) ∗ pay I c k R 0) -∗ WP c (kk ⟨⟩) Q) -∗ WP c (.op w kk) Q) := by
  subst hk
  iintro ⟨#Hc, Hcr, Ho, Ha⟩ Hk
  iapply (r_wait I c k l R hw hs hu (by rw [hd, Finset.card_singleton, one_mul]) hl) $$ [Hcr Ho Ha]
  · isplitr; · iexact Hc
    isplitl [Hcr]; · iexact Hcr
    isplitl [Ho] <;> iassumption
  iintro ⟨Ho, Ha, Hr, Hp⟩
  iapply Hk
  isplitl [Ho]; · iexact Ho
  isplitl [Ha]; · iexact Ha
  isplitl [Hr]; · iexact Hr
  ihave Hp := (Entails.of_eq (by rw [hd, bigSep_singleton] : bigSep (dut c k R) (fun d => pay I c k R d) = pay I c k R 0)) $$ Hp
  iexact Hp

/-! ## Transfers -/

/-- What a transfer leaves at its destination, by what is read there. -/
theorem land {c : Thread nD τ} {sp : Space} {s : Shape} {e : EltTy} (v : View sig c.2.kind sp s e) (q : PosShare TreeShare)
    (fd g : Buf (Elt F) (v.loc c)) (X : s.Idx → Elt F e) (h : v.read (Elt F) g = X) :
    (v.loc c ↦[v.set]{q} v.write (Elt F) fd X Finset.univ : sProp 𝕄) = (v.loc c ↦[v.set]{q} g) := by
  refine pointsTo_congr fun i hi => ?_
  rw [← h, View.write_read_eq_piecewise]
  exact Finset.piecewise_eq_of_mem _ _ _ hi

/-- An addressed transfer: the source share goes to the send cell, the landed elements to the receive cell of `n`. -/
theorem r_send (c n n' : Dev nD) (k₁ k₂ : Kd) (l : List (Dev nD × Kd)) (hn : n' = n)
    {sp sp' : Space} {s : Shape} {e : EltTy} {src : Memref sig .tc sp s e} {dst : Memref sig .tc sp' s e}
    {hsc : (dst : Memref sig (Dev.tc n' : Thread nD τ).2.kind sp' s e).view.ref.isScScratch = false} {sS sR : SemLoc sig}
    {hsrc : src.view.WordExact} {hdst : dst.view.WordExact} {hsem : DmaTarget.Typed sp sR (.remote (Dev.tc n' : Thread nD τ) dst sS hsc)}
    (hs₁ : sS = k₁.loc) (hs₂ : sR = k₂.loc) (hu₁ : k₁.used = true) (hu₂ : k₂.used = true)
    (hd₁ : (0 : Fin 4) ∈ dut c k₁ 0) (hd₂ : (0 : Fin 4) ∈ dut n k₂ 0)
    (hN : dst.view.amount sR = k₁.amt) (hk : k₁.amt = k₂.amt)
    {q : PosShare TreeShare} {fs : Buf (Elt F) (src.view.loc (c : Thread nD τ))} {S R : sProp 𝕄}
    (hS : S ⊢ (src.view.loc (c : Thread nD τ) ↦[src.view.set]{q} fs : sProp 𝕄))
    (hR : R ⊢ iprop(∃ fd, (dst.view.loc (n : Thread nD τ) ↦[dst.view.set]{fullShare} fd : sProp 𝕄)))
    (hp₁ : (src.view.loc (c : Thread nD τ) ↦[src.view.set]{q} fs : sProp 𝕄) ⊢ pay I c k₁ 0 0)
    (hp₂ : ∀ fd, (dst.view.loc (n : Thread nD τ) ↦[dst.view.set]{fullShare} dst.view.write (Elt F) fd (src.view.read (Elt F) fs) Finset.univ : sProp 𝕄) ⊢ pay I n k₂ 0 0)
    {α : Type} {Q : α → sProp 𝕄} {kk : PUnit → Prog (TpuEff nD τ sig (Elt F) Λ₀ .tc) α} :
    iprop(ctx I ∗ S ∗ R ∗ ow c ((n, k₂) :: l) ∗ tk c k₁ 0 0 ∗ tk n k₂ 0 0)
      ⊢ iprop(((cr c k₁ k₁.amt ∗ ow c l) -∗ WP c (kk ⟨⟩) Q)
          -∗ WP c (.op (.enqueueDma src (.remote (Dev.tc n' : Thread nD τ) dst sS hsc) sR hsrc hdst hsem) kk) Q) := by
  subst hn hs₁ hs₂
  iintro ⟨#Hc, HS, HR, Ho, Ht1, Ht2⟩ Hk
  unfold ow
  icases Ho with ⟨%W, Ho⟩
  ihave Hi1 := (ctx_inv I c k₁ hu₁) $$ Hc
  icases Hi1 with ⟨%κ₁, #Hi1⟩
  ihave Hi2 := (ctx_inv I n' k₂ hu₂) $$ Hc
  icases Hi2 with ⟨%κ₂, #Hi2⟩
  ihave #Hr1 := (ctx_reached I c k₁ hu₁) $$ Hc
  ihave #Hr2 := (ctx_reached I n' k₂ hu₂) $$ Hc
  ihave HS := hS $$ HS
  ihave HR := hR $$ HR
  icases HR with ⟨%fd, HR⟩
  iapply (Rounds.wp_send_pointsTo 𝒱₀ ER (Rd I) (c : Thread nD τ) none (κ₁ := κ₁) (κ₂ := κ₂) (c' := (n' : Thread nD τ))
    (r₁ := 0) (r₂ := 0) (d₁ := 0) (d₂ := 0) (fd := fd) (fs := fs)
    (by rw [Rd_duties I c k₁ 0]; exact hd₁) (by rw [Rd_duties I n' k₂ 0]; exact hd₂)
    () () k₁.amt hN (Rd_amount I c k₁ 0 0) ((Rd_amount I n' k₂ 0 0).trans hk.symm) (O₀ := owe ((n', k₂) :: l)) (owe l) (by rw [owe_cons, hk]) (W := W)
    (by rw [Rd_payload I c k₁ 0 0]; exact hp₁)
    (by rw [Rd_payload I n' k₂ 0 0]; exact hp₂ fd)) $$ [HS HR Ho Ht1 Ht2]
  · isplitr; · iexact Hi1
    isplitr; · iexact Hi2
    isplitl [HS]; · iexact HS
    isplitl [HR]; · iexact HR
    isplitl [Ho]; · iexact Ho
    isplitl [Ht1]; · iexact Ht1
    isplitr; · iexact Hr1
    isplitl [Ht2]; · iexact Ht2
    iexact Hr2
  iintro ⟨Hcr, Ho⟩
  iapply Hk
  isplitl [Hcr]; · iexact Hcr
  iexists W; iexact Ho

/-- A local transfer, paying round `r` of the device's own cell. -/
theorem r_copy (c : Dev nD) (k : Kd) (r : ℕ)
    {sp sp' : Space} {s : Shape} {e : EltTy} {src : Memref sig .tc sp s e} {dst : Memref sig .tc sp' s e} {sem : SemLoc sig}
    {hsrc : src.view.WordExact} {hdst : dst.view.WordExact} {hsem : DmaTarget.Typed (nD := nD) (τ := τ) sp sem (.here (p := .tc) dst)}
    (hs : sem = k.loc) (hu : k.used = true) (hd : (0 : Fin 4) ∈ dut c k r) (hN : dst.view.amount sem = k.amt)
    {fs : Buf (Elt F) (src.view.loc (c : Thread nD τ))} {S R : sProp 𝕄}
    (hS : S ⊢ (src.view.loc (c : Thread nD τ) ↦[src.view.set]{fullShare} fs : sProp 𝕄))
    (hR : R ⊢ iprop(∃ fd, (dst.view.loc (c : Thread nD τ) ↦[dst.view.set]{fullShare} fd : sProp 𝕄)))
    (hp : ∀ fd, iprop((dst.view.loc (c : Thread nD τ) ↦[dst.view.set]{fullShare} dst.view.write (Elt F) fd (src.view.read (Elt F) fs) Finset.univ)
      ∗ (src.view.loc (c : Thread nD τ) ↦[src.view.set]{fullShare} fs)) ⊢ pay I c k r 0)
    {α : Type} {Q : α → sProp 𝕄} {kk : PUnit → Prog (TpuEff nD τ sig (Elt F) Λ₀ .tc) α} :
    iprop(ctx I ∗ S ∗ R ∗ tk c k r 0 ∗ reached ER (cell c k) r)
      ⊢ iprop((cr c k k.amt -∗ WP c (kk ⟨⟩) Q) -∗ WP c (.op (.enqueueDma src (.here dst) sem hsrc hdst hsem) kk) Q) := by
  subst hs
  iintro ⟨#Hc, HS, HR, Ht, Hr⟩ Hk
  ihave Hi := (ctx_inv I c k hu) $$ Hc
  icases Hi with ⟨%κ, #Hi⟩
  ihave HS := hS $$ HS
  ihave HR := hR $$ HR
  icases HR with ⟨%fd, HR⟩
  iapply (Rounds.wp_copy_pointsTo 𝒱₀ ER (Rd I) (c : Thread nD τ) none (κ := κ) (r := r) (d := 0) (fd := fd) (fs := fs)
    (by rw [Rd_duties I c k r]; exact hd) () k.amt hN (Rd_amount I c k r 0)
    (by rw [Rd_payload I c k r 0]; exact hp fd)) $$ [HS HR Ht Hr]
  · isplitr; · iexact Hi
    isplitl [HS]; · iexact HS
    isplitl [HR]; · iexact HR
    isplitl [Ht] <;> iassumption
  iintro Hcr
  iapply Hk; iexact Hcr

end Cert.MoE

end
-- ==== Proof.Steps.lean ====
/-
# The steps on this kernel's buffers

Loads and stores of a slot, and the transfers between slots, in terms of what the slots hold.
-/
module

public import proofs.«01_k».proof.Proof.Rules

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Loads and stores of a slot -/

theorem set_x (j : Fin 4) {off : Fin 3 → Nat} (h : off = ![j.val, 0, 0]) (inb) :
    (XM.access (Rect.unit (s := S4x256x1024) off S1x256x1024.size inb)).set = slot (n := 4) (a := 256) (b := 1024) j := by
  rw [← unit_slot_set j h inb]; exact View.set_slice_whole _ _

/-- A load of slot `j` of the token buffer. -/
theorem ld_x (c : Dev nD) (j : Fin 4) {off : Fin 3 → Nat} (h : off = ![j.val, 0, 0]) {inb} {q : PosShare TreeShare} {f : Vec F S4x256x1024 .bf16}
    {hl : XM.view.LoadsAt (Rect.unit (s := S4x256x1024) off S1x256x1024.size inb).toLoadRect}
    {α : Type} {Q : α → sProp 𝕄} {kk : Vec F S1x256x1024 .bf16 → Prog (TpuEff nD τ sig (Elt F) Λ₀ .tc) α} :
    xP c j q f ⊢ iprop((xP c j q f -∗ WP c (kk (sl3 f j)) Q)
      -∗ WP c (.op (.load XM (Rect.unit (s := S4x256x1024) off S1x256x1024.size inb).toLoadRect hl) kk) Q) := by
  have e := unit_slot_read j h inb f
  rw [← e]
  unfold xP
  exact wp_load_rect 𝒱₀ (c : Thread nD τ) none Set.univ (m := XM) (r := Rect.unit (s := S4x256x1024) off S1x256x1024.size inb) (f := f)
    (by rw [set_x j h inb])

/-- A store of slot `j` of the token buffer. -/
theorem st_x (c : Dev nD) (j : Fin 4) {off : Fin 3 → Nat} (h : off = ![j.val, 0, 0]) {inb} {f : Vec F S4x256x1024 .bf16} {w : Vec F S1x256x1024 .bf16}
    {hx : (XM.access (Rect.unit (s := S4x256x1024) off S1x256x1024.size inb)).Stores Finset.univ} {hm}
    {α : Type} {Q : α → sProp 𝕄} {kk : PUnit → Prog (TpuEff nD τ sig (Elt F) Λ₀ .tc) α} :
    xP c j fullShare f ⊢ iprop((xP c j fullShare (spread w) -∗ WP c (kk ⟨⟩) Q)
      -∗ WP c (.op (.store XM (Rect.unit (s := S4x256x1024) off S1x256x1024.size inb) w Finset.univ hx hm) kk) Q) := by
  have e := land (c := (c : Thread nD τ)) (XM.access (Rect.unit (s := S4x256x1024) off S1x256x1024.size inb)) fullShare f (spread w) w
    ((unit_slot_read j h inb (spread w)).trans (sl3_spread w j))
  rw [set_x j h inb] at e
  unfold xP
  iintro H Hk
  iapply (wp_store 𝒱₀ (c : Thread nD τ) none Set.univ (m := XM) (r := Rect.unit (s := S4x256x1024) off S1x256x1024.size inb) (Mk := Finset.univ) (f := f)
    (S := slot (n := 4) (a := 256) (b := 1024) j) (by rw [← set_x j h inb]; exact Finset.Subset.refl _)) $$ H
  iintro H
  ihave H := (Entails.of_eq e) $$ H
  iapply Hk; iexact H

theorem sset_x (j : Fin 4) {off : Fin 3 → Nat} (h : off = ![j.val, 0, 0]) (inb) :
    (xSlot off inb).view.set = slot (n := 4) (a := 256) (b := 1024) j := by
  rw [Memref.set_view_squeeze]; exact set_x j h inb

theorem sread_x (j : Fin 4) {off : Fin 3 → Nat} (h : off = ![j.val, 0, 0]) (inb) (f : Vec F S4x256x1024 .bf16) :
    (xSlot off inb).view.read (Elt F) f = shapeCast (s := S1x256x1024) S256x1024 (sl3 f j) shapeCasts_S1x256x1024_S256x1024 := by
  rw [← unit_slot_read j h inb f]; rfl

theorem set_r (j : Fin 4) {off : Fin 3 → Nat} (h : off = ![j.val, 0, 0]) (inb) :
    (RM.access (Rect.unit (s := S4x1024x4) off S1x1024x4.size inb)).set = slot (n := 4) (a := 1024) (b := 4) j := by
  rw [← unit_slot_set j h inb]; exact View.set_slice_whole _ _

/-- A load of slot `j` of the router buffer. -/
theorem ld_r (c : Dev nD) (j : Fin 4) {off : Fin 3 → Nat} (h : off = ![j.val, 0, 0]) {inb} {q : PosShare TreeShare} {f : Vec F S4x1024x4 .f32}
    {hl : RM.view.LoadsAt (Rect.unit (s := S4x1024x4) off S1x1024x4.size inb).toLoadRect}
    {α : Type} {Q : α → sProp 𝕄} {kk : Vec F S1x1024x4 .f32 → Prog (TpuEff nD τ sig (Elt F) Λ₀ .tc) α} :
    rP c j q f ⊢ iprop((rP c j q f -∗ WP c (kk (sl3 f j)) Q)
      -∗ WP c (.op (.load RM (Rect.unit (s := S4x1024x4) off S1x1024x4.size inb).toLoadRect hl) kk) Q) := by
  have e := unit_slot_read j h inb f
  rw [← e]
  unfold rP
  exact wp_load_rect 𝒱₀ (c : Thread nD τ) none Set.univ (m := RM) (r := Rect.unit (s := S4x1024x4) off S1x1024x4.size inb) (f := f)
    (by rw [set_r j h inb])

/-- A store of slot `j` of the router buffer. -/
theorem st_r (c : Dev nD) (j : Fin 4) {off : Fin 3 → Nat} (h : off = ![j.val, 0, 0]) {inb} {f : Vec F S4x1024x4 .f32} {w : Vec F S1x1024x4 .f32}
    {hx : (RM.access (Rect.unit (s := S4x1024x4) off S1x1024x4.size inb)).Stores Finset.univ} {hm}
    {α : Type} {Q : α → sProp 𝕄} {kk : PUnit → Prog (TpuEff nD τ sig (Elt F) Λ₀ .tc) α} :
    rP c j fullShare f ⊢ iprop((rP c j fullShare (spread w) -∗ WP c (kk ⟨⟩) Q)
      -∗ WP c (.op (.store RM (Rect.unit (s := S4x1024x4) off S1x1024x4.size inb) w Finset.univ hx hm) kk) Q) := by
  have e := land (c := (c : Thread nD τ)) (RM.access (Rect.unit (s := S4x1024x4) off S1x1024x4.size inb)) fullShare f (spread w) w
    ((unit_slot_read j h inb (spread w)).trans (sl3_spread w j))
  rw [set_r j h inb] at e
  unfold rP
  iintro H Hk
  iapply (wp_store 𝒱₀ (c : Thread nD τ) none Set.univ (m := RM) (r := Rect.unit (s := S4x1024x4) off S1x1024x4.size inb) (Mk := Finset.univ) (f := f)
    (S := slot (n := 4) (a := 1024) (b := 4) j) (by rw [← set_r j h inb]; exact Finset.Subset.refl _)) $$ H
  iintro H
  ihave H := (Entails.of_eq e) $$ H
  iapply Hk; iexact H

theorem sset_r (j : Fin 4) {off : Fin 3 → Nat} (h : off = ![j.val, 0, 0]) (inb) :
    (rSlot off inb).view.set = slot (n := 4) (a := 1024) (b := 4) j := by
  rw [Memref.set_view_squeeze]; exact set_r j h inb

theorem sread_r (j : Fin 4) {off : Fin 3 → Nat} (h : off = ![j.val, 0, 0]) (inb) (f : Vec F S4x1024x4 .f32) :
    (rSlot off inb).view.read (Elt F) f = shapeCast (s := S1x1024x4) S1024x4 (sl3 f j) shapeCasts_S1x1024x4_S1024x4 := by
  rw [← unit_slot_read j h inb f]; rfl

theorem set_g (j : Fin 4) {off : Fin 3 → Nat} (h : off = ![j.val, 0, 0]) (inb) :
    (GM.access (Rect.unit (s := S4x256x16) off S1x256x16.size inb)).set = slot (n := 4) (a := 256) (b := 16) j := by
  rw [← unit_slot_set j h inb]; exact View.set_slice_whole _ _

/-- A load of slot `j` of the gate buffer. -/
theorem ld_g (c : Dev nD) (j : Fin 4) {off : Fin 3 → Nat} (h : off = ![j.val, 0, 0]) {inb} {q : PosShare TreeShare} {f : Vec F S4x256x16 .f32}
    {hl : GM.view.LoadsAt (Rect.unit (s := S4x256x16) off S1x256x16.size inb).toLoadRect}
    {α : Type} {Q : α → sProp 𝕄} {kk : Vec F S1x256x16 .f32 → Prog (TpuEff nD τ sig (Elt F) Λ₀ .tc) α} :
    gP c j q f ⊢ iprop((gP c j q f -∗ WP c (kk (sl3 f j)) Q)
      -∗ WP c (.op (.load GM (Rect.unit (s := S4x256x16) off S1x256x16.size inb).toLoadRect hl) kk) Q) := by
  have e := unit_slot_read j h inb f
  rw [← e]
  unfold gP
  exact wp_load_rect 𝒱₀ (c : Thread nD τ) none Set.univ (m := GM) (r := Rect.unit (s := S4x256x16) off S1x256x16.size inb) (f := f)
    (by rw [set_g j h inb])

theorem sset_g (j : Fin 4) {off : Fin 3 → Nat} (h : off = ![j.val, 0, 0]) (inb) :
    (gSlot off inb).view.set = slot (n := 4) (a := 256) (b := 16) j := by
  rw [Memref.set_view_squeeze]; exact set_g j h inb

theorem sread_g (j : Fin 4) {off : Fin 3 → Nat} (h : off = ![j.val, 0, 0]) (inb) (f : Vec F S4x256x16 .f32) :
    (gSlot off inb).view.read (Elt F) f = shapeCast (s := S1x256x16) S256x16 (sl3 f j) shapeCasts_S1x256x16_S256x16 := by
  rw [← unit_slot_read j h inb f]; rfl

theorem set_v (j : Fin 3) {off : Fin 3 → Nat} (h : off = ![j.val, 0, 0]) (inb) :
    (VM.access (Rect.unit (s := S3x256x1024) off S1x256x1024.size inb)).set = slot (n := 3) (a := 256) (b := 1024) j := by
  rw [← unit_slot_set j h inb]; exact View.set_slice_whole _ _

/-- A load of slot `j` of the landing buffer. -/
theorem ld_v (c : Dev nD) (j : Fin 3) {off : Fin 3 → Nat} (h : off = ![j.val, 0, 0]) {inb} {q : PosShare TreeShare} {f : Vec F S3x256x1024 .bf16}
    {hl : VM.view.LoadsAt (Rect.unit (s := S3x256x1024) off S1x256x1024.size inb).toLoadRect}
    {α : Type} {Q : α → sProp 𝕄} {kk : Vec F S1x256x1024 .bf16 → Prog (TpuEff nD τ sig (Elt F) Λ₀ .tc) α} :
    vP c j q f ⊢ iprop((vP c j q f -∗ WP c (kk (sl3 f j)) Q)
      -∗ WP c (.op (.load VM (Rect.unit (s := S3x256x1024) off S1x256x1024.size inb).toLoadRect hl) kk) Q) := by
  have e := unit_slot_read j h inb f
  rw [← e]
  unfold vP
  exact wp_load_rect 𝒱₀ (c : Thread nD τ) none Set.univ (m := VM) (r := Rect.unit (s := S3x256x1024) off S1x256x1024.size inb) (f := f)
    (by rw [set_v j h inb])

theorem sset_v (j : Fin 3) {off : Fin 3 → Nat} (h : off = ![j.val, 0, 0]) (inb) :
    (vSlot off inb).view.set = slot (n := 3) (a := 256) (b := 1024) j := by
  rw [Memref.set_view_squeeze]; exact set_v j h inb

theorem sread_v (j : Fin 3) {off : Fin 3 → Nat} (h : off = ![j.val, 0, 0]) (inb) (f : Vec F S3x256x1024 .bf16) :
    (vSlot off inb).view.read (Elt F) f = shapeCast (s := S1x256x1024) S256x1024 (sl3 f j) shapeCasts_S1x256x1024_S256x1024 := by
  rw [← unit_slot_read j h inb f]; rfl

theorem set_s (j : Fin 3) {off : Fin 3 → Nat} (h : off = ![j.val, 0, 0]) (inb) :
    (SM.access (Rect.unit (s := S3x256x1024) off S1x256x1024.size inb)).set = slot (n := 3) (a := 256) (b := 1024) j := by
  rw [← unit_slot_set j h inb]; exact View.set_slice_whole _ _

/-- A load of slot `j` of the partial-sum buffer. -/
theorem ld_s (c : Dev nD) (j : Fin 3) {off : Fin 3 → Nat} (h : off = ![j.val, 0, 0]) {inb} {q : PosShare TreeShare} {f : Vec F S3x256x1024 .bf16}
    {hl : SM.view.LoadsAt (Rect.unit (s := S3x256x1024) off S1x256x1024.size inb).toLoadRect}
    {α : Type} {Q : α → sProp 𝕄} {kk : Vec F S1x256x1024 .bf16 → Prog (TpuEff nD τ sig (Elt F) Λ₀ .tc) α} :
    sP c j q f ⊢ iprop((sP c j q f -∗ WP c (kk (sl3 f j)) Q)
      -∗ WP c (.op (.load SM (Rect.unit (s := S3x256x1024) off S1x256x1024.size inb).toLoadRect hl) kk) Q) := by
  have e := unit_slot_read j h inb f
  rw [← e]
  unfold sP
  exact wp_load_rect 𝒱₀ (c : Thread nD τ) none Set.univ (m := SM) (r := Rect.unit (s := S3x256x1024) off S1x256x1024.size inb) (f := f)
    (by rw [set_s j h inb])

/-- A store of slot `j` of the partial-sum buffer. -/
theorem st_s (c : Dev nD) (j : Fin 3) {off : Fin 3 → Nat} (h : off = ![j.val, 0, 0]) {inb} {f : Vec F S3x256x1024 .bf16} {w : Vec F S1x256x1024 .bf16}
    {hx : (SM.access (Rect.unit (s := S3x256x1024) off S1x256x1024.size inb)).Stores Finset.univ} {hm}
    {α : Type} {Q : α → sProp 𝕄} {kk : PUnit → Prog (TpuEff nD τ sig (Elt F) Λ₀ .tc) α} :
    sP c j fullShare f ⊢ iprop((sP c j fullShare (spread w) -∗ WP c (kk ⟨⟩) Q)
      -∗ WP c (.op (.store SM (Rect.unit (s := S3x256x1024) off S1x256x1024.size inb) w Finset.univ hx hm) kk) Q) := by
  have e := land (c := (c : Thread nD τ)) (SM.access (Rect.unit (s := S3x256x1024) off S1x256x1024.size inb)) fullShare f (spread w) w
    ((unit_slot_read j h inb (spread w)).trans (sl3_spread w j))
  rw [set_s j h inb] at e
  unfold sP
  iintro H Hk
  iapply (wp_store 𝒱₀ (c : Thread nD τ) none Set.univ (m := SM) (r := Rect.unit (s := S3x256x1024) off S1x256x1024.size inb) (Mk := Finset.univ) (f := f)
    (S := slot (n := 3) (a := 256) (b := 1024) j) (by rw [← set_s j h inb]; exact Finset.Subset.refl _)) $$ H
  iintro H
  ihave H := (Entails.of_eq e) $$ H
  iapply Hk; iexact H

theorem sset_s (j : Fin 3) {off : Fin 3 → Nat} (h : off = ![j.val, 0, 0]) (inb) :
    (sSlot off inb).view.set = slot (n := 3) (a := 256) (b := 1024) j := by
  rw [Memref.set_view_squeeze]; exact set_s j h inb

theorem sread_s (j : Fin 3) {off : Fin 3 → Nat} (h : off = ![j.val, 0, 0]) (inb) (f : Vec F S3x256x1024 .bf16) :
    (sSlot off inb).view.read (Elt F) f = shapeCast (s := S1x256x1024) S256x1024 (sl3 f j) shapeCasts_S1x256x1024_S256x1024 := by
  rw [← unit_slot_read j h inb f]; rfl

theorem set_b1 (j : Fin 2) {off : Fin 3 → Nat} (h : off = ![j.val, 0, 0]) (inb) :
    (B1M.access (Rect.unit (s := S2x1024x2048) off S1x1024x2048.size inb)).set = slot (n := 2) (a := 1024) (b := 2048) j := by
  rw [← unit_slot_set j h inb]; exact View.set_slice_whole _ _

/-- A load of slot `j` of the up weights' buffer. -/
theorem ld_b1 (c : Dev nD) (j : Fin 2) {off : Fin 3 → Nat} (h : off = ![j.val, 0, 0]) {inb} {q : PosShare TreeShare} {f : Vec F S2x1024x2048 .f32}
    {hl : B1M.view.LoadsAt (Rect.unit (s := S2x1024x2048) off S1x1024x2048.size inb).toLoadRect}
    {α : Type} {Q : α → sProp 𝕄} {kk : Vec F S1x1024x2048 .f32 → Prog (TpuEff nD τ sig (Elt F) Λ₀ .tc) α} :
    b1P c j q f ⊢ iprop((b1P c j q f -∗ WP c (kk (sl3 f j)) Q)
      -∗ WP c (.op (.load B1M (Rect.unit (s := S2x1024x2048) off S1x1024x2048.size inb).toLoadRect hl) kk) Q) := by
  have e := unit_slot_read j h inb f
  rw [← e]
  unfold b1P
  exact wp_load_rect 𝒱₀ (c : Thread nD τ) none Set.univ (m := B1M) (r := Rect.unit (s := S2x1024x2048) off S1x1024x2048.size inb) (f := f)
    (by rw [set_b1 j h inb])

theorem sset_b1 (j : Fin 2) {off : Fin 3 → Nat} (h : off = ![j.val, 0, 0]) (inb) :
    (b1Slot off inb).view.set = slot (n := 2) (a := 1024) (b := 2048) j := by
  rw [Memref.set_view_squeeze]; exact set_b1 j h inb

theorem sread_b1 (j : Fin 2) {off : Fin 3 → Nat} (h : off = ![j.val, 0, 0]) (inb) (f : Vec F S2x1024x2048 .f32) :
    (b1Slot off inb).view.read (Elt F) f = shapeCast (s := S1x1024x2048) S1024x2048 (sl3 f j) shapeCasts_S1x1024x2048_S1024x2048 := by
  rw [← unit_slot_read j h inb f]; rfl

theorem set_b2 (j : Fin 2) {off : Fin 3 → Nat} (h : off = ![j.val, 0, 0]) (inb) :
    (B2M.access (Rect.unit (s := S2x2048x1024) off S1x2048x1024.size inb)).set = slot (n := 2) (a := 2048) (b := 1024) j := by
  rw [← unit_slot_set j h inb]; exact View.set_slice_whole _ _

/-- A load of slot `j` of the down weights' buffer. -/
theorem ld_b2 (c : Dev nD) (j : Fin 2) {off : Fin 3 → Nat} (h : off = ![j.val, 0, 0]) {inb} {q : PosShare TreeShare} {f : Vec F S2x2048x1024 .f32}
    {hl : B2M.view.LoadsAt (Rect.unit (s := S2x2048x1024) off S1x2048x1024.size inb).toLoadRect}
    {α : Type} {Q : α → sProp 𝕄} {kk : Vec F S1x2048x1024 .f32 → Prog (TpuEff nD τ sig (Elt F) Λ₀ .tc) α} :
    b2P c j q f ⊢ iprop((b2P c j q f -∗ WP c (kk (sl3 f j)) Q)
      -∗ WP c (.op (.load B2M (Rect.unit (s := S2x2048x1024) off S1x2048x1024.size inb).toLoadRect hl) kk) Q) := by
  have e := unit_slot_read j h inb f
  rw [← e]
  unfold b2P
  exact wp_load_rect 𝒱₀ (c : Thread nD τ) none Set.univ (m := B2M) (r := Rect.unit (s := S2x2048x1024) off S1x2048x1024.size inb) (f := f)
    (by rw [set_b2 j h inb])

theorem sset_b2 (j : Fin 2) {off : Fin 3 → Nat} (h : off = ![j.val, 0, 0]) (inb) :
    (b2Slot off inb).view.set = slot (n := 2) (a := 2048) (b := 1024) j := by
  rw [Memref.set_view_squeeze]; exact set_b2 j h inb

theorem sread_b2 (j : Fin 2) {off : Fin 3 → Nat} (h : off = ![j.val, 0, 0]) (inb) (f : Vec F S2x2048x1024 .f32) :
    (b2Slot off inb).view.read (Elt F) f = shapeCast (s := S1x2048x1024) S2048x1024 (sl3 f j) shapeCasts_S1x2048x1024_S2048x1024 := by
  rw [← unit_slot_read j h inb f]; rfl

theorem set_e1 (j : Fin 4) {off : Fin 3 → Nat} (h : off = ![j.val, 0, 0]) (inb) :
    (w1M.access (Rect.unit (s := S4x1024x2048) off S1x1024x2048.size inb)).set = slot (n := 4) (a := 1024) (b := 2048) j := by
  rw [← unit_slot_set j h inb]; exact View.set_slice_whole _ _

theorem sset_e1 (j : Fin 4) {off : Fin 3 → Nat} (h : off = ![j.val, 0, 0]) (inb) :
    (e1Slot off inb).view.set = slot (n := 4) (a := 1024) (b := 2048) j := by
  rw [Memref.set_view_squeeze]; exact set_e1 j h inb

theorem sread_e1 (j : Fin 4) {off : Fin 3 → Nat} (h : off = ![j.val, 0, 0]) (inb) (f : Vec F S4x1024x2048 .f32) :
    (e1Slot off inb).view.read (Elt F) f = shapeCast (s := S1x1024x2048) S1024x2048 (sl3 f j) shapeCasts_S1x1024x2048_S1024x2048 := by
  rw [← unit_slot_read j h inb f]; rfl

theorem set_e2 (j : Fin 4) {off : Fin 3 → Nat} (h : off = ![j.val, 0, 0]) (inb) :
    (w2M.access (Rect.unit (s := S4x2048x1024) off S1x2048x1024.size inb)).set = slot (n := 4) (a := 2048) (b := 1024) j := by
  rw [← unit_slot_set j h inb]; exact View.set_slice_whole _ _

theorem sset_e2 (j : Fin 4) {off : Fin 3 → Nat} (h : off = ![j.val, 0, 0]) (inb) :
    (e2Slot off inb).view.set = slot (n := 4) (a := 2048) (b := 1024) j := by
  rw [Memref.set_view_squeeze]; exact set_e2 j h inb

theorem sread_e2 (j : Fin 4) {off : Fin 3 → Nat} (h : off = ![j.val, 0, 0]) (inb) (f : Vec F S4x2048x1024 .f32) :
    (e2Slot off inb).view.read (Elt F) f = shapeCast (s := S1x2048x1024) S2048x1024 (sl3 f j) shapeCasts_S1x2048x1024_S2048x1024 := by
  rw [← unit_slot_read j h inb f]; rfl

variable (I : Inp F)

/-! ## Transfers between slots -/

/-- A copy of slot `j` of the token buffer to the same slot of device `n`. -/
theorem send_x (c n n' : Dev nD) (k₁ k₂ : Kd) (l : List (Dev nD × Kd)) (hn : n' = n) (j : Fin 4) {off : Fin 3 → Nat} (h : off = ![j.val, 0, 0]) {inb}
    {hsc : (xSlot off inb : Memref sig (Dev.tc n' : Thread nD τ).2.kind .vmem _ _).view.ref.isScScratch = false} {sS sR : SemLoc sig}
    {hsrc : (xSlot off inb).view.WordExact} {hdst : (xSlot off inb).view.WordExact}
    {hsem : DmaTarget.Typed .vmem sR (.remote (Dev.tc n' : Thread nD τ) (xSlot off inb) sS hsc)}
    (hs₁ : sS = k₁.loc) (hs₂ : sR = k₂.loc) (hu₁ : k₁.used = true) (hu₂ : k₂.used = true)
    (hd₁ : (0 : Fin 4) ∈ dut c k₁ 0) (hd₂ : (0 : Fin 4) ∈ dut n k₂ 0)
    (hN : (xSlot off inb).view.amount sR = k₁.amt) (hk : k₁.amt = k₂.amt) (q : PosShare TreeShare)
    (hp₁ : pay I c k₁ 0 0 = xP c j q (XC I)) (hp₂ : pay I n k₂ 0 0 = xP n j fullShare (XC I))
    {α : Type} {Q : α → sProp 𝕄} {kk : PUnit → Prog (TpuEff nD τ sig (Elt F) Λ₀ .tc) α} :
    iprop(ctx I ∗ xP c j q (XC I) ∗ (∃ f, xP (F := F) n j fullShare f) ∗ ow c ((n, k₂) :: l) ∗ tk c k₁ 0 0 ∗ tk n k₂ 0 0)
      ⊢ iprop(((cr c k₁ k₁.amt ∗ ow c l) -∗ WP c (kk ⟨⟩) Q)
          -∗ WP c (.op (.enqueueDma (xSlot off inb) (.remote (Dev.tc n' : Thread nD τ) (xSlot off inb) sS hsc) sR hsrc hdst hsem) kk) Q) := by
  have e := sset_x j h inb
  refine r_send I c n n' k₁ k₂ l hn hs₁ hs₂ hu₁ hu₂ hd₁ hd₂ hN hk (q := q) (fs := XC I) ?_ ?_ ?_ ?_
  · rw [e]; unfold xP; exact BIBase.Entails.refl
  · rw [e]; unfold xP; exact BIBase.Entails.refl
  · rw [hp₁, e]; unfold xP; exact BIBase.Entails.refl
  · intro fd
    rw [hp₂, land (c := (n : Thread nD τ)) (xSlot off inb).view fullShare fd (XC I) _ rfl, e]; unfold xP; exact BIBase.Entails.refl

/-- A copy of slot `j` of the router buffer to the same slot of device `n`. -/
theorem send_r (c n n' : Dev nD) (k₁ k₂ : Kd) (l : List (Dev nD × Kd)) (hn : n' = n) (j : Fin 4) {off : Fin 3 → Nat} (h : off = ![j.val, 0, 0]) {inb}
    {hsc : (rSlot off inb : Memref sig (Dev.tc n' : Thread nD τ).2.kind .vmem _ _).view.ref.isScScratch = false} {sS sR : SemLoc sig}
    {hsrc : (rSlot off inb).view.WordExact} {hdst : (rSlot off inb).view.WordExact}
    {hsem : DmaTarget.Typed .vmem sR (.remote (Dev.tc n' : Thread nD τ) (rSlot off inb) sS hsc)}
    (hs₁ : sS = k₁.loc) (hs₂ : sR = k₂.loc) (hu₁ : k₁.used = true) (hu₂ : k₂.used = true)
    (hd₁ : (0 : Fin 4) ∈ dut c k₁ 0) (hd₂ : (0 : Fin 4) ∈ dut n k₂ 0)
    (hN : (rSlot off inb).view.amount sR = k₁.amt) (hk : k₁.amt = k₂.amt) (q : PosShare TreeShare)
    (hp₁ : pay I c k₁ 0 0 = rP c j q (RC I)) (hp₂ : pay I n k₂ 0 0 = rP n j fullShare (RC I))
    {α : Type} {Q : α → sProp 𝕄} {kk : PUnit → Prog (TpuEff nD τ sig (Elt F) Λ₀ .tc) α} :
    iprop(ctx I ∗ rP c j q (RC I) ∗ (∃ f, rP (F := F) n j fullShare f) ∗ ow c ((n, k₂) :: l) ∗ tk c k₁ 0 0 ∗ tk n k₂ 0 0)
      ⊢ iprop(((cr c k₁ k₁.amt ∗ ow c l) -∗ WP c (kk ⟨⟩) Q)
          -∗ WP c (.op (.enqueueDma (rSlot off inb) (.remote (Dev.tc n' : Thread nD τ) (rSlot off inb) sS hsc) sR hsrc hdst hsem) kk) Q) := by
  have e := sset_r j h inb
  refine r_send I c n n' k₁ k₂ l hn hs₁ hs₂ hu₁ hu₂ hd₁ hd₂ hN hk (q := q) (fs := RC I) ?_ ?_ ?_ ?_
  · rw [e]; unfold rP; exact BIBase.Entails.refl
  · rw [e]; unfold rP; exact BIBase.Entails.refl
  · rw [hp₁, e]; unfold rP; exact BIBase.Entails.refl
  · intro fd
    rw [hp₂, land (c := (n : Thread nD τ)) (rSlot off inb).view fullShare fd (RC I) _ rfl, e]; unfold rP; exact BIBase.Entails.refl

/-- A copy of slot `j` of the gate buffer to the same slot of device `n`. -/
theorem send_g (c n n' : Dev nD) (k₁ k₂ : Kd) (l : List (Dev nD × Kd)) (hn : n' = n) (j : Fin 4) {off : Fin 3 → Nat} (h : off = ![j.val, 0, 0]) {inb}
    {hsc : (gSlot off inb : Memref sig (Dev.tc n' : Thread nD τ).2.kind .vmem _ _).view.ref.isScScratch = false} {sS sR : SemLoc sig}
    {hsrc : (gSlot off inb).view.WordExact} {hdst : (gSlot off inb).view.WordExact}
    {hsem : DmaTarget.Typed .vmem sR (.remote (Dev.tc n' : Thread nD τ) (gSlot off inb) sS hsc)}
    (hs₁ : sS = k₁.loc) (hs₂ : sR = k₂.loc) (hu₁ : k₁.used = true) (hu₂ : k₂.used = true)
    (hd₁ : (0 : Fin 4) ∈ dut c k₁ 0) (hd₂ : (0 : Fin 4) ∈ dut n k₂ 0)
    (hN : (gSlot off inb).view.amount sR = k₁.amt) (hk : k₁.amt = k₂.amt) (q : PosShare TreeShare)
    (hp₁ : pay I c k₁ 0 0 = gP c j q (GC I)) (hp₂ : pay I n k₂ 0 0 = gP n j fullShare (GC I))
    {α : Type} {Q : α → sProp 𝕄} {kk : PUnit → Prog (TpuEff nD τ sig (Elt F) Λ₀ .tc) α} :
    iprop(ctx I ∗ gP c j q (GC I) ∗ (∃ f, gP (F := F) n j fullShare f) ∗ ow c ((n, k₂) :: l) ∗ tk c k₁ 0 0 ∗ tk n k₂ 0 0)
      ⊢ iprop(((cr c k₁ k₁.amt ∗ ow c l) -∗ WP c (kk ⟨⟩) Q)
          -∗ WP c (.op (.enqueueDma (gSlot off inb) (.remote (Dev.tc n' : Thread nD τ) (gSlot off inb) sS hsc) sR hsrc hdst hsem) kk) Q) := by
  have e := sset_g j h inb
  refine r_send I c n n' k₁ k₂ l hn hs₁ hs₂ hu₁ hu₂ hd₁ hd₂ hN hk (q := q) (fs := GC I) ?_ ?_ ?_ ?_
  · rw [e]; unfold gP; exact BIBase.Entails.refl
  · rw [e]; unfold gP; exact BIBase.Entails.refl
  · rw [hp₁, e]; unfold gP; exact BIBase.Entails.refl
  · intro fd
    rw [hp₂, land (c := (n : Thread nD τ)) (gSlot off inb).view fullShare fd (GC I) _ rfl, e]; unfold gP; exact BIBase.Entails.refl

/-- A copy of slot `j` of the partial-sum buffer to slot `j` of the landing buffer of device `n`. -/
theorem send_s (c n n' : Dev nD) (k₁ k₂ : Kd) (l : List (Dev nD × Kd)) (hn : n' = n) (j : Fin 3) {off : Fin 3 → Nat} (h : off = ![j.val, 0, 0]) {inb}
    {hsc : (vSlot off inb : Memref sig (Dev.tc n' : Thread nD τ).2.kind .vmem _ _).view.ref.isScScratch = false} {sS sR : SemLoc sig}
    {hsrc : (sSlot off inb).view.WordExact} {hdst : (vSlot off inb).view.WordExact}
    {hsem : DmaTarget.Typed .vmem sR (.remote (Dev.tc n' : Thread nD τ) (vSlot off inb) sS hsc)}
    (hs₁ : sS = k₁.loc) (hs₂ : sR = k₂.loc) (hu₁ : k₁.used = true) (hu₂ : k₂.used = true)
    (hd₁ : (0 : Fin 4) ∈ dut c k₁ 0) (hd₂ : (0 : Fin 4) ∈ dut n k₂ 0)
    (hN : (vSlot off inb).view.amount sR = k₁.amt) (hk : k₁.amt = k₂.amt) (f : Vec F S3x256x1024 .bf16)
    (hp₁ : pay I c k₁ 0 0 = sP c j fullShare f) (hp₂ : pay I n k₂ 0 0 = vP n j fullShare f)
    {α : Type} {Q : α → sProp 𝕄} {kk : PUnit → Prog (TpuEff nD τ sig (Elt F) Λ₀ .tc) α} :
    iprop(ctx I ∗ sP c j fullShare f ∗ (∃ f, vP (F := F) n j fullShare f) ∗ ow c ((n, k₂) :: l) ∗ tk c k₁ 0 0 ∗ tk n k₂ 0 0)
      ⊢ iprop(((cr c k₁ k₁.amt ∗ ow c l) -∗ WP c (kk ⟨⟩) Q)
          -∗ WP c (.op (.enqueueDma (sSlot off inb) (.remote (Dev.tc n' : Thread nD τ) (vSlot off inb) sS hsc) sR hsrc hdst hsem) kk) Q) := by
  have e := sset_s j h inb
  have e' := sset_v j h inb
  refine r_send I c n n' k₁ k₂ l hn hs₁ hs₂ hu₁ hu₂ hd₁ hd₂ hN hk (q := fullShare) (fs := f) ?_ ?_ ?_ ?_
  · rw [e]; unfold sP; exact BIBase.Entails.refl
  · rw [e']; unfold vP; exact BIBase.Entails.refl
  · rw [hp₁, e]; unfold sP; exact BIBase.Entails.refl
  · intro fd
    rw [hp₂, land (c := (n : Thread nD τ)) (vSlot off inb).view fullShare fd f _ (by rw [sread_v j h inb, sread_s j h inb]), e']; unfold vP; exact BIBase.Entails.refl

/-- A load of expert `e`'s up weights into slot `j` of their buffer. -/
theorem copy_b1 (c : Dev nD) (j : Fin 2) (e : Fin 4) (r : ℕ) {off off' : Fin 3 → Nat} (h : off = ![j.val, 0, 0]) (h' : off' = ![e.val, 0, 0]) {inb inb'} {sem : SemLoc sig}
    {hsrc : (e1Slot off' inb').view.WordExact} {hdst : (b1Slot off inb).view.WordExact}
    {hsem : DmaTarget.Typed (nD := nD) (τ := τ) .hbm sem (.here (p := .tc) (b1Slot off inb))}
    (hs : sem = (Kd.w1 j).loc) (hd : (0 : Fin 4) ∈ dut c (.w1 j) r) (hN : (b1Slot off inb).view.amount sem = (Kd.w1 j).amt)
    (hp : pay I c (.w1 j) r 0 = iprop(b1P c j fullShare (WB1 I c e) ∗ e1P c e fullShare (I.w1 c)))
    {α : Type} {Q : α → sProp 𝕄} {kk : PUnit → Prog (TpuEff nD τ sig (Elt F) Λ₀ .tc) α} :
    iprop(ctx I ∗ e1P c e fullShare (I.w1 c) ∗ (∃ f, b1P (F := F) c j fullShare f) ∗ tk c (.w1 j) r 0 ∗ reached ER (cell c (.w1 j)) r)
      ⊢ iprop((cr c (.w1 j) (Kd.w1 j).amt -∗ WP c (kk ⟨⟩) Q)
          -∗ WP c (.op (.enqueueDma (e1Slot off' inb') (.here (b1Slot off inb)) sem hsrc hdst hsem) kk) Q) := by
  have e1 := sset_e1 e h' inb'
  have e2 := sset_b1 j h inb
  refine r_copy I c (.w1 j) r hs rfl hd hN (fs := I.w1 c) ?_ ?_ ?_
  · rw [e1]; unfold e1P; exact BIBase.Entails.refl
  · rw [e2]; unfold b1P; exact BIBase.Entails.refl
  · intro fd
    rw [hp, land (c := (c : Thread nD τ)) (b1Slot off inb).view fullShare fd (WB1 I c e) _
      (by rw [sread_e1 e h' inb', sread_b1 j h inb]; exact congrArg (fun v => shapeCast (s := S1x1024x2048) S1024x2048 v shapeCasts_S1x1024x2048_S1024x2048) (sl3_spread _ j)), e1, e2]
    unfold b1P e1P; exact BIBase.Entails.refl

/-- A load of expert `e`'s down weights into slot `j` of their buffer. -/
theorem copy_b2 (c : Dev nD) (j : Fin 2) (e : Fin 4) (r : ℕ) {off off' : Fin 3 → Nat} (h : off = ![j.val, 0, 0]) (h' : off' = ![e.val, 0, 0]) {inb inb'} {sem : SemLoc sig}
    {hsrc : (e2Slot off' inb').view.WordExact} {hdst : (b2Slot off inb).view.WordExact}
    {hsem : DmaTarget.Typed (nD := nD) (τ := τ) .hbm sem (.here (p := .tc) (b2Slot off inb))}
    (hs : sem = (Kd.w2 j).loc) (hd : (0 : Fin 4) ∈ dut c (.w2 j) r) (hN : (b2Slot off inb).view.amount sem = (Kd.w2 j).amt)
    (hp : pay I c (.w2 j) r 0 = iprop(b2P c j fullShare (WB2 I c e) ∗ e2P c e fullShare (I.w2 c)))
    {α : Type} {Q : α → sProp 𝕄} {kk : PUnit → Prog (TpuEff nD τ sig (Elt F) Λ₀ .tc) α} :
    iprop(ctx I ∗ e2P c e fullShare (I.w2 c) ∗ (∃ f, b2P (F := F) c j fullShare f) ∗ tk c (.w2 j) r 0 ∗ reached ER (cell c (.w2 j)) r)
      ⊢ iprop((cr c (.w2 j) (Kd.w2 j).amt -∗ WP c (kk ⟨⟩) Q)
          -∗ WP c (.op (.enqueueDma (e2Slot off' inb') (.here (b2Slot off inb)) sem hsrc hdst hsem) kk) Q) := by
  have e1 := sset_e2 e h' inb'
  have e2 := sset_b2 j h inb
  refine r_copy I c (.w2 j) r hs rfl hd hN (fs := I.w2 c) ?_ ?_ ?_
  · rw [e1]; unfold e2P; exact BIBase.Entails.refl
  · rw [e2]; unfold b2P; exact BIBase.Entails.refl
  · intro fd
    rw [hp, land (c := (c : Thread nD τ)) (b2Slot off inb).view fullShare fd (WB2 I c e) _
      (by rw [sread_e2 e h' inb', sread_b2 j h inb]; exact congrArg (fun v => shapeCast (s := S1x2048x1024) S2048x1024 v shapeCasts_S1x2048x1024_S2048x1024) (sl3_spread _ j)), e1, e2]
    unfold b2P e2P; exact BIBase.Entails.refl

/-! ## The whole buffers -/

theorem hz2 : (![0, 0] : Fin 2 → Nat) = fun _ => 0 := funext fun a => by fin_cases a <;> rfl

/-- The accumulator, and the three staged blocks. -/
def aP (c : Dev nD) (f : Vec F S1024x1024 .f32) : sProp 𝕄 := ((c : Thread nD τ).loc cc0_scratch5 ↦{fullShare} f)
def xsP (c : Dev nD) (f : Vec F S256x1024 .f32) : sProp 𝕄 := ((c : Thread nD τ).loc cc0_stg0_0 ↦{fullShare} f)
def rtP (c : Dev nD) (f : Vec F S1024x4 .f32) : sProp 𝕄 := ((c : Thread nD τ).loc cc0_stg1_0 ↦{fullShare} f)
def oP (c : Dev nD) (f : Vec F S256x1024 .f32) : sProp 𝕄 := ((c : Thread nD τ).loc cc0_stg2_0 ↦{fullShare} f)

/-- A load of the accumulator. -/
theorem ld_a (c : Dev nD) {inb} {f : Vec F S1024x1024 .f32} {hl : AM.view.LoadsAt (Rect.unit (s := S1024x1024) ![0, 0] S1024x1024.size inb).toLoadRect}
    {α : Type} {Q : α → sProp 𝕄} {kk : Vec F S1024x1024 .f32 → Prog (TpuEff nD τ sig (Elt F) Λ₀ .tc) α} :
    aP c f ⊢ iprop((aP c f -∗ WP c (kk f) Q) -∗ WP c (.op (.load AM (Rect.unit (s := S1024x1024) ![0, 0] S1024x1024.size inb).toLoadRect hl) kk) Q) := by
  have e : AM.view.readAt (Elt F) (Rect.unit (s := S1024x1024) ![0, 0] S1024x1024.size inb).toLoadRect f = f := Memref.readAt_unit_zero (Elt F) cc0_scratch5 hz2 _ f
  have h := wp_load (defs := defs₀ (F := F)) (Γ := .empty) 𝒱₀ (c : Thread nD τ) none Set.univ (Q := Q) (hl := hl) (k := kk) (q := fullShare) (m := AM) (r := (Rect.unit (s := S1024x1024) ![0, 0] S1024x1024.size inb).toLoadRect) (f := f) (S := Finset.univ) (Finset.subset_univ _)
  rw [e] at h
  unfold aP; exact h

/-- A store of all of it. -/
theorem st_a (c : Dev nD) {inb} {f w : Vec F S1024x1024 .f32} {hx : (AM.access (Rect.unit (s := S1024x1024) ![0, 0] S1024x1024.size inb)).Stores Finset.univ} {hm}
    {α : Type} {Q : α → sProp 𝕄} {kk : PUnit → Prog (TpuEff nD τ sig (Elt F) Λ₀ .tc) α} :
    aP c f ⊢ iprop((aP c w -∗ WP c (kk ⟨⟩) Q) -∗ WP c (.op (.store AM (Rect.unit (s := S1024x1024) ![0, 0] S1024x1024.size inb) w Finset.univ hx hm) kk) Q) := by
  have e : (AM.access (Rect.unit (s := S1024x1024) ![0, 0] S1024x1024.size inb)).write (Elt F) f w Finset.univ = w := Memref.write_access_unit_zero_univ (Elt F) cc0_scratch5 hz2 _ f w
  have h := wp_store (defs := defs₀ (F := F)) (Γ := .empty) 𝒱₀ (c : Thread nD τ) none Set.univ (Q := Q) (hx := hx) (hm := hm) (k := kk) (m := AM) (r := Rect.unit (s := S1024x1024) ![0, 0] S1024x1024.size inb) (w := w) (Mk := Finset.univ) (f := f) (S := Finset.univ) (Finset.subset_univ _)
  rw [e] at h
  unfold aP; exact h

/-- A load of the token block. -/
theorem ld_xs (c : Dev nD) {inb} {f : Vec F S256x1024 .f32} {hl : xM.view.LoadsAt (Rect.unit (s := S256x1024) ![0, 0] S256x1024.size inb).toLoadRect}
    {α : Type} {Q : α → sProp 𝕄} {kk : Vec F S256x1024 .f32 → Prog (TpuEff nD τ sig (Elt F) Λ₀ .tc) α} :
    xsP c f ⊢ iprop((xsP c f -∗ WP c (kk f) Q) -∗ WP c (.op (.load xM (Rect.unit (s := S256x1024) ![0, 0] S256x1024.size inb).toLoadRect hl) kk) Q) := by
  have e : xM.view.readAt (Elt F) (Rect.unit (s := S256x1024) ![0, 0] S256x1024.size inb).toLoadRect f = f := Memref.readAt_unit_zero (Elt F) cc0_stg0_0 hz2 _ f
  have h := wp_load (defs := defs₀ (F := F)) (Γ := .empty) 𝒱₀ (c : Thread nD τ) none Set.univ (Q := Q) (hl := hl) (k := kk) (q := fullShare) (m := xM) (r := (Rect.unit (s := S256x1024) ![0, 0] S256x1024.size inb).toLoadRect) (f := f) (S := Finset.univ) (Finset.subset_univ _)
  rw [e] at h
  unfold xsP; exact h

/-- A load of the router block. -/
theorem ld_rt (c : Dev nD) {inb} {f : Vec F S1024x4 .f32} {hl : rtM.view.LoadsAt (Rect.unit (s := S1024x4) ![0, 0] S1024x4.size inb).toLoadRect}
    {α : Type} {Q : α → sProp 𝕄} {kk : Vec F S1024x4 .f32 → Prog (TpuEff nD τ sig (Elt F) Λ₀ .tc) α} :
    rtP c f ⊢ iprop((rtP c f -∗ WP c (kk f) Q) -∗ WP c (.op (.load rtM (Rect.unit (s := S1024x4) ![0, 0] S1024x4.size inb).toLoadRect hl) kk) Q) := by
  have e : rtM.view.readAt (Elt F) (Rect.unit (s := S1024x4) ![0, 0] S1024x4.size inb).toLoadRect f = f := Memref.readAt_unit_zero (Elt F) cc0_stg1_0 hz2 _ f
  have h := wp_load (defs := defs₀ (F := F)) (Γ := .empty) 𝒱₀ (c : Thread nD τ) none Set.univ (Q := Q) (hl := hl) (k := kk) (q := fullShare) (m := rtM) (r := (Rect.unit (s := S1024x4) ![0, 0] S1024x4.size inb).toLoadRect) (f := f) (S := Finset.univ) (Finset.subset_univ _)
  rw [e] at h
  unfold rtP; exact h

/-- A load of the result block. -/
theorem ld_o (c : Dev nD) {inb} {f : Vec F S256x1024 .f32} {hl : oM.view.LoadsAt (Rect.unit (s := S256x1024) ![0, 0] S256x1024.size inb).toLoadRect}
    {α : Type} {Q : α → sProp 𝕄} {kk : Vec F S256x1024 .f32 → Prog (TpuEff nD τ sig (Elt F) Λ₀ .tc) α} :
    oP c f ⊢ iprop((oP c f -∗ WP c (kk f) Q) -∗ WP c (.op (.load oM (Rect.unit (s := S256x1024) ![0, 0] S256x1024.size inb).toLoadRect hl) kk) Q) := by
  have e : oM.view.readAt (Elt F) (Rect.unit (s := S256x1024) ![0, 0] S256x1024.size inb).toLoadRect f = f := Memref.readAt_unit_zero (Elt F) cc0_stg2_0 hz2 _ f
  have h := wp_load (defs := defs₀ (F := F)) (Γ := .empty) 𝒱₀ (c : Thread nD τ) none Set.univ (Q := Q) (hl := hl) (k := kk) (q := fullShare) (m := oM) (r := (Rect.unit (s := S256x1024) ![0, 0] S256x1024.size inb).toLoadRect) (f := f) (S := Finset.univ) (Finset.subset_univ _)
  rw [e] at h
  unfold oP; exact h

/-- A store of all of it. -/
theorem st_o (c : Dev nD) {inb} {f w : Vec F S256x1024 .f32} {hx : (oM.access (Rect.unit (s := S256x1024) ![0, 0] S256x1024.size inb)).Stores Finset.univ} {hm}
    {α : Type} {Q : α → sProp 𝕄} {kk : PUnit → Prog (TpuEff nD τ sig (Elt F) Λ₀ .tc) α} :
    oP c f ⊢ iprop((oP c w -∗ WP c (kk ⟨⟩) Q) -∗ WP c (.op (.store oM (Rect.unit (s := S256x1024) ![0, 0] S256x1024.size inb) w Finset.univ hx hm) kk) Q) := by
  have e : (oM.access (Rect.unit (s := S256x1024) ![0, 0] S256x1024.size inb)).write (Elt F) f w Finset.univ = w := Memref.write_access_unit_zero_univ (Elt F) cc0_stg2_0 hz2 _ f w
  have h := wp_store (defs := defs₀ (F := F)) (Γ := .empty) 𝒱₀ (c : Thread nD τ) none Set.univ (Q := Q) (hx := hx) (hm := hm) (k := kk) (m := oM) (r := Rect.unit (s := S256x1024) ![0, 0] S256x1024.size inb) (w := w) (Mk := Finset.univ) (f := f) (S := Finset.univ) (Finset.subset_univ _)
  rw [e] at h
  unfold oP; exact h

/-- A load of the accumulator's rows of device `j`'s tokens. -/
theorem ld_rows (c j : Dev nD) {off : Fin 2 → Nat} (h : off = ![256 * j.val, 0]) {inb} {f : Vec F S1024x1024 .f32}
    {hl : AM.view.LoadsAt (Rect.unit (s := S1024x1024) off S256x1024.size inb).toLoadRect}
    {α : Type} {Q : α → sProp 𝕄} {kk : Vec F S256x1024 .f32 → Prog (TpuEff nD τ sig (Elt F) Λ₀ .tc) α} :
    aP c f ⊢ iprop((aP c f -∗ WP c (kk (rowsOf f j)) Q)
      -∗ WP c (.op (.load AM (Rect.unit (s := S1024x1024) off S256x1024.size inb).toLoadRect hl) kk) Q) := by
  have e : AM.view.readAt (Elt F) (Rect.unit (s := S1024x1024) off S256x1024.size inb).toLoadRect f = rowsOf f j := by
    subst h
    funext y
    refine congrArg f ?_
    funext x
    refine Fin.ext ?_
    fin_cases x
    · show 256 * j.val + 1 * (y 0).val = 256 * j.val + (y 0).val
      omega
    · show 0 + 1 * (y 1).val = (y 1).val
      omega
  rw [← e]
  unfold aP
  exact wp_load 𝒱₀ (c : Thread nD τ) none Set.univ (m := AM) (r := (Rect.unit (s := S1024x1024) off S256x1024.size inb).toLoadRect) (f := f) (Finset.subset_univ _)

/-! ## The gate buffer's own slot, filled four columns at a time -/

/-- Slot `c` of device `c`'s gate buffer, the columns of the first `k` devices' experts written. -/
def gFill (c : Dev nD) (k : ℕ) : sProp 𝕄 :=
  iprop(∃ f : Vec F S4x256x16 .f32, ⌜∀ i, i 0 = c → (i 2).val < 4 * k → f i = GC I i⌝ ∗ gP c c fullShare f)

/-- A load of four columns, its value unused. -/
theorem ld_gcol (c : Dev nD) (k : Fin 4) {off : Fin 3 → Nat} (h : off = ![c.val, 0, 4 * k.val]) {inb} {n : ℕ}
    {hl : GM.view.LoadsAt (Rect.unit (s := S4x256x16) off S1x256x4.size inb).toLoadRect}
    {α : Type} {Q : α → sProp 𝕄} {kk : Vec F S1x256x4 .f32 → Prog (TpuEff nD τ sig (Elt F) Λ₀ .tc) α} :
    gFill I c n ⊢ iprop((∀ v, gFill I c n -∗ WP c (kk v) Q)
      -∗ WP c (.op (.load GM (Rect.unit (s := S4x256x16) off S1x256x4.size inb).toLoadRect hl) kk) Q) := by
  unfold gFill gP
  iintro ⟨%f, %hf, H⟩ Hk
  iapply (wp_load_rect 𝒱₀ (c : Thread nD τ) none Set.univ (m := GM) (r := Rect.unit (s := S4x256x16) off S1x256x4.size inb) (f := f)
    (S := slot (n := 4) (a := 256) (b := 16) c) (by
      refine (Finset.Subset.trans (show _ ⊆ (Rect.unit (s := S4x256x16) off S1x256x4.size inb).set from
        Finset.subset_of_eq (View.set_slice_whole _ _)) fun i hi => ?_)
      rw [Rect.mem_set_unit] at hi
      subst h
      have h0 := hi 0
      simp only [Matrix.cons_val_zero] at h0
      have h1 : S1x256x4.size 0 = 1 := rfl
      exact mem_slot.mpr (Fin.ext (by omega)))) $$ H
  iintro H
  iapply Hk
  iexists f
  isplitr; · ipureintro; exact hf
  iexact H

/-- A store of the columns of device `k`'s experts. -/
theorem st_gcol (c : Dev nD) (k : Fin 4) {off : Fin 3 → Nat} (h : off = ![c.val, 0, 4 * k.val]) {inb}
    {w : Vec F S1x256x4 .f32} (hw : w = gcol I c k)
    {hx : (GM.access (Rect.unit (s := S4x256x16) off S1x256x4.size inb)).Stores Finset.univ} {hm}
    {α : Type} {Q : α → sProp 𝕄} {kk : PUnit → Prog (TpuEff nD τ sig (Elt F) Λ₀ .tc) α} :
    gFill I c k.val ⊢ iprop((gFill I c (k.val + 1) -∗ WP c (kk ⟨⟩) Q)
      -∗ WP c (.op (.store GM (Rect.unit (s := S4x256x16) off S1x256x4.size inb) w Finset.univ hx hm) kk) Q) := by
  unfold gFill gP
  iintro ⟨%f, %hf, H⟩ Hk
  iapply (wp_store 𝒱₀ (c : Thread nD τ) none Set.univ (m := GM) (r := Rect.unit (s := S4x256x16) off S1x256x4.size inb) (Mk := Finset.univ) (f := f)
    (S := slot (n := 4) (a := 256) (b := 16) c) (by
      refine (Finset.Subset.trans (show _ ⊆ (Rect.unit (s := S4x256x16) off S1x256x4.size inb).set from
        Finset.subset_of_eq (View.set_slice_whole _ _)) fun i hi => ?_)
      rw [Rect.mem_set_unit] at hi
      subst h
      have h0 := hi 0
      simp only [Matrix.cons_val_zero] at h0
      have h1 : S1x256x4.size 0 = 1 := rfl
      exact mem_slot.mpr (Fin.ext (by omega)))) $$ H
  iintro H
  iapply Hk
  iexists _
  isplitr [H]
  rotate_left
  · iexact H
  ipureintro
  intro i hi hlt
  by_cases hm : (i 2).val < 4 * k.val
  · rw [← hf i hi hm]
    refine View.write_of_not_mem _ _ _ fun hmem => ?_
    have hmem' : i ∈ (Rect.unit (s := S4x256x16) off S1x256x4.size inb).set :=
      Finset.subset_of_eq (View.set_slice_whole cc0_scratch2 _) hmem
    rw [Rect.mem_set_unit] at hmem'
    subst h
    have h2 := (hmem' 2).1
    have : 4 * k.val ≤ (i 2).val := h2
    omega
  · have hi2 : (i 2).val < 16 := (i 2).isLt
    have hb : (i 2).val - 4 * k.val < 4 := by omega
    have hemb : i = (GM.access (Rect.unit (s := S4x256x16) off S1x256x4.size inb)).emb (ix3 (0 : Fin 1) (i 1) (⟨(i 2).val - 4 * k.val, hb⟩ : Fin 4)) := by
      subst h
      funext x
      refine Fin.ext ?_
      fin_cases x
      · show (i 0).val = c.val + 1 * 0
        rw [hi]; omega
      · show (i 1).val = 0 + 1 * (i 1).val
        omega
      · show (i 2).val = 4 * k.val + 1 * ((i 2).val - 4 * k.val)
        omega
    conv_lhs => rw [hemb]
    rw [View.write_emb_of_mem _ _ (Finset.mem_univ _)]
    subst hw
    have hk' : (⟨(i 2).val / 4, by omega⟩ : Fin 4) = k := Fin.ext (by show (i 2).val / 4 = k.val; omega)
    have hr' : (⟨(i 2).val % 4, Nat.mod_lt _ (by decide)⟩ : Fin 4) = ⟨(i 2).val - 4 * k.val, hb⟩ := Fin.ext (by show (i 2).val % 4 = (i 2).val - 4 * k.val; omega)
    unfold GC
    rw [hk', hr', hi]
    rfl

end Cert.MoE

end
-- ==== Proof.Slots.lean ====
/-
# Slots, shares and hand-overs

The devices the transfers address, the payloads at the places they are used, and how the slots of the gathered buffers are
split for the sends and put together for the loads.
-/
module

public import proofs.«01_k».proof.Proof.Steps

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Devices -/

theorem dv1 (c : Dev nD) : (⟨k0_dev1 c, k0_dev1_lt c⟩ : Dev nD) = fwd c 1 := by revert c; decide
theorem dv2 (c : Dev nD) : (⟨k0_dev2 c, k0_dev2_lt c⟩ : Dev nD) = fwd c 2 := by revert c; decide
theorem dv3 (c : Dev nD) : (⟨k0_dev3 c, k0_dev3_lt c⟩ : Dev nD) = fwd c 3 := by revert c; decide
theorem dv4 (c : Dev nD) : (⟨k0_dev4 c, k0_dev4_lt c⟩ : Dev nD) = fwd c 1 := by revert c; decide
theorem dv5 (c : Dev nD) : (⟨k0_dev5 c, k0_dev5_lt c⟩ : Dev nD) = fwd c 1 := by revert c; decide
theorem dv6 (c : Dev nD) : (⟨k0_dev6 c, k0_dev6_lt c⟩ : Dev nD) = fwd c 2 := by revert c; decide
theorem dv7 (c : Dev nD) : (⟨k0_dev7 c, k0_dev7_lt c⟩ : Dev nD) = fwd c 3 := by revert c; decide
theorem dv8 (c : Dev nD) : (⟨k0_dev8 c, k0_dev8_lt c⟩ : Dev nD) = fwd c 1 := by revert c; decide
theorem dv9 (c : Dev nD) : (⟨k0_dev9 c, k0_dev9_lt c⟩ : Dev nD) = fwd c 2 := by revert c; decide
theorem dv10 (c : Dev nD) : (⟨k0_dev10 c, k0_dev10_lt c⟩ : Dev nD) = fwd c 3 := by revert c; decide
theorem dv11 (c : Dev nD) : (⟨k0_dev11 c, k0_dev11_lt c⟩ : Dev nD) = fwd c 1 := by revert c; decide
theorem dv12 (c : Dev nD) : (⟨k0_dev12 c, k0_dev12_lt c⟩ : Dev nD) = fwd c 1 := by revert c; decide
theorem dv13 (c : Dev nD) : (⟨k0_dev13 c, k0_dev13_lt c⟩ : Dev nD) = fwd c 1 := by revert c; decide
theorem dv14 (c : Dev nD) : (⟨k0_dev14 c, k0_dev14_lt c⟩ : Dev nD) = fwd c 1 := by revert c; decide
theorem dv15 (c : Dev nD) : (⟨k0_dev15 c, k0_dev15_lt c⟩ : Dev nD) = fwd c 1 := by revert c; decide
theorem dv16 (c : Dev nD) : (⟨k0_dev16 c, k0_dev16_lt c⟩ : Dev nD) = fwd c 1 := by revert c; decide
theorem dv17 (c : Dev nD) : (⟨k0_dev17 c, k0_dev17_lt c⟩ : Dev nD) = fwd c 2 := by revert c; decide
theorem dv18 (c : Dev nD) : (⟨k0_dev18 c, k0_dev18_lt c⟩ : Dev nD) = fwd c 3 := by revert c; decide

theorem back_zero (c : Dev nD) : back c 0 = c := by revert c; decide
theorem back_fwd1 (c : Dev nD) : back (fwd c 1) 1 = c := by revert c; decide
theorem back_fwd2 (c : Dev nD) : back (fwd c 2) 2 = c := by revert c; decide
theorem back_fwd3 (c : Dev nD) : back (fwd c 3) 3 = c := by revert c; decide
theorem fwd_back1 (c : Dev nD) : back c 1 = fwd c 3 := by revert c; decide
theorem fwd_back2 (c : Dev nD) : back c 2 = fwd c 2 := by revert c; decide
theorem fwd_back3 (c : Dev nD) : back c 3 = fwd c 1 := by revert c; decide
theorem back12 (c : Dev nD) : back (fwd c 1) 2 = back c 1 := by revert c; decide
theorem back13 (c : Dev nD) : back (fwd c 1) 3 = back c 2 := by revert c; decide

/-! ## Rounds -/

def Kd.two : Kd → Bool
  | .w1 _ | .w2 _ => true
  | _ => false

/-- A cell used once has no duty after its first round; -/
theorem dut1 (c : Dev nD) (k : Kd) (hk : k.two = false) : ∀ r, 0 + 1 ≤ r → dut c k r = ∅ := by
  intro r hr
  have h0 : r ≠ 0 := by omega
  cases k <;> first
    | rfl
    | exact if_neg h0
    | exact if_neg (fun h => h0 (And.left h))
    | exact Bool.noConfusion hk
/-- one used twice, none after its second. -/
theorem dut2 (c : Dev nD) (k : Kd) : ∀ r, 1 + 1 ≤ r → dut c k r = ∅ := by
  intro r hr
  have h0 : r ≠ 0 := by omega
  have h1 : ¬ r < 2 := by omega
  cases k <;> first
    | rfl
    | exact if_neg h0
    | exact if_neg h1
    | exact if_neg (fun h => h0 (And.left h))

variable (I : Inp F)

/-! ## Payloads where they are used -/

theorem pay_bar1 (c : Dev nD) : pay I (fwd c 1) .bar 0 1 = barPay c (fwd c 1) := by
  show barPay (back (fwd c 1) 1) (fwd c 1) = _; rw [back_fwd1]
theorem pay_bar2 (c : Dev nD) : pay I (fwd c 2) .bar 0 2 = barPay c (fwd c 2) := by
  show barPay (back (fwd c 2) 2) (fwd c 2) = _; rw [back_fwd2]
theorem pay_bar3 (c : Dev nD) : pay I (fwd c 3) .bar 0 3 = iprop(barPay c (fwd c 3) ∗ barExtra c) := by
  show iprop(barPay (back (fwd c 3) 3) (fwd c 3) ∗ barExtra (back (fwd c 3) 3)) = _; rw [back_fwd3]
theorem pay_b2 (c : Dev nD) (d : Fin 4) : pay I c .bar2 0 d = iprop(emp) := rfl
theorem pay_agS0 (c : Dev nD) : pay I c (.agS 0) 0 0 = xP c c fullShare.left (XC I) := by
  show xP c (back c 0) _ _ = _; rw [back_zero]
theorem pay_agR0 (c : Dev nD) : pay I (fwd c 1) (.agR 0) 0 0 = xP (fwd c 1) c fullShare (XC I) := by
  show xP (fwd c 1) (back (fwd c 1) 1) _ _ = _; rw [back_fwd1]
theorem pay_agR1 (c : Dev nD) : pay I (fwd c 1) (.agR 1) 0 0 = xP (fwd c 1) (back c 1) fullShare (XC I) := by
  show xP (fwd c 1) (back (fwd c 1) 2) _ _ = _; rw [back12]
theorem pay_agR2 (c : Dev nD) : pay I (fwd c 1) (.agR 2) 0 0 = xP (fwd c 1) (back c 2) fullShare (XC I) := by
  show xP (fwd c 1) (back (fwd c 1) 3) _ _ = _; rw [back13]
theorem pay_sR (c : Dev nD) (s : Fin 3) : pay I (fwd c 1) (.sR s) 0 0 = vP (fwd c 1) s fullShare (RSB I c s) := by
  show vP _ s fullShare (RSB I (back (fwd c 1) 1) s) = _; rw [back_fwd1]

/-- What the start barrier's wait brings. -/
theorem bar_got (c : Dev nD) : bigSep (dut c .bar 0) (fun d => pay I c .bar 0 d) ⊢
    iprop((∃ f, rP (F := F) (fwd c 1) c fullShare f) ∗ (∃ f, gP (F := F) (fwd c 1) c fullShare f)
      ∗ (∃ f, rP (F := F) (fwd c 2) c fullShare f) ∗ (∃ f, gP (F := F) (fwd c 2) c fullShare f)
      ∗ (∃ f, rP (F := F) (fwd c 3) c fullShare f) ∗ (∃ f, gP (F := F) (fwd c 3) c fullShare f)
      ∗ (∃ f, xP (F := F) (fwd c 1) c fullShare f) ∗ (∃ f, xP (F := F) (fwd c 1) (back c 1) fullShare f) ∗ (∃ f, xP (F := F) (fwd c 1) (back c 2) fullShare f)
      ∗ (∃ f, vP (F := F) (fwd c 1) 0 fullShare f) ∗ (∃ f, vP (F := F) (fwd c 1) 1 fullShare f) ∗ (∃ f, vP (F := F) (fwd c 1) 2 fullShare f)) := by
  have e : bigSep (dut c .bar 0) (fun d => pay I c .bar 0 d)
      = iprop(barPay (fwd c 3) c ∗ barPay (fwd c 2) c ∗ (barPay (fwd c 1) c ∗ barExtra (F := F) (fwd c 1))) := by
    rw [show dut c .bar 0 = ({1, 2, 3} : Finset (Fin 4)) from rfl, bigSep_eq_bigSepL_of_eq [1, 2, 3] (by decide) (by decide)]
    show iprop(barPay (back c 1) c ∗ barPay (back c 2) c ∗ (barPay (back c 3) c ∗ barExtra (F := F) (back c 3))) = _
    rw [fwd_back1, fwd_back2, fwd_back3]
  rw [e]
  unfold barPay barExtra
  rw [back_fwd1, back12, back13]
  iintro ⟨⟨R3, G3⟩, ⟨R2, G2⟩, ⟨R1, G1⟩, X0, X1, X2, V0, V1, V2⟩
  isplitl [R1]; · iexact R1
  isplitl [G1]; · iexact G1
  isplitl [R2]; · iexact R2
  isplitl [G2]; · iexact G2
  isplitl [R3]; · iexact R3
  isplitl [G3]; · iexact G3
  isplitl [X0]; · iexact X0
  isplitl [X1]; · iexact X1
  isplitl [X2]; · iexact X2
  isplitl [V0]; · iexact V0
  isplitl [V1]; · iexact V1
  iexact V2

/-! ## Slots by device and by place on the ring -/

omit [FloatOps F] [Named F] in
theorem abs4 (Φ : Dev nD → sProp 𝕄) : bigSep Finset.univ Φ = iprop(Φ 0 ∗ Φ 1 ∗ Φ 2 ∗ Φ 3) :=
  bigSep_univ_eq_bigSepL [0, 1, 2, 3] (by decide) (by decide) Φ
omit [FloatOps F] [Named F] in
theorem rel4 (c : Dev nD) (Φ : Dev nD → sProp 𝕄) : bigSep Finset.univ Φ = iprop(Φ c ∗ Φ (back c 1) ∗ Φ (back c 2) ∗ Φ (back c 3)) :=
  bigSep_univ_eq_bigSepL [c, back c 1, back c 2, back c 3] (by revert c; decide) (by revert c; decide) Φ
omit [FloatOps F] [Named F] in
theorem rel4' (c : Dev nD) (Φ : Dev nD → sProp 𝕄) : bigSep Finset.univ Φ = iprop(Φ c ∗ Φ (fwd c 1) ∗ Φ (fwd c 2) ∗ Φ (fwd c 3)) :=
  bigSep_univ_eq_bigSepL [c, fwd c 1, fwd c 2, fwd c 3] (by revert c; decide) (by revert c; decide) Φ

/-! ## Shares -/

omit [FloatOps F] [Named F] in
theorem xP_half (c : Dev nD) (j : Fin 4) (q : PosShare TreeShare) (f : Vec F S4x256x1024 .bf16) :
    xP c j q f = iprop(xP c j q.left f ∗ xP c j q.right f) := by
  unfold xP
  exact BI.Entails.antisymm (pointsTo_share (PosShare.mem_left_op_right q)).1 (pointsTo_share (PosShare.mem_left_op_right q)).2
omit [FloatOps F] [Named F] in
theorem xP_split (c : Dev nD) (j : Fin 4) (f : Vec F S4x256x1024 .bf16) : xP c j fullShare f ⊢ iprop(xP c j fullShare.left f ∗ xP c j fullShare.right f) :=
  Entails.of_eq (xP_half c j fullShare f)
omit [FloatOps F] [Named F] in
theorem rP_half (c : Dev nD) (j : Fin 4) (q : PosShare TreeShare) (f : Vec F S4x1024x4 .f32) :
    rP c j q f = iprop(rP c j q.left f ∗ rP c j q.right f) := by
  unfold rP
  exact BI.Entails.antisymm (pointsTo_share (PosShare.mem_left_op_right q)).1 (pointsTo_share (PosShare.mem_left_op_right q)).2
omit [FloatOps F] [Named F] in
theorem rP_quarters (c : Dev nD) (j : Fin 4) (f : Vec F S4x1024x4 .f32) :
    rP c j fullShare f = iprop((rP c j (qtr 0) f ∗ rP c j (qtr 1) f) ∗ rP c j (qtr 2) f ∗ rP c j (qtr 3) f) := by
  rw [rP_half c j fullShare, rP_half c j fullShare.left, rP_half c j fullShare.right]; rfl
omit [FloatOps F] [Named F] in
theorem rP_split (c : Dev nD) (j : Fin 4) (f : Vec F S4x1024x4 .f32) :
    rP c j fullShare f ⊢ iprop(rP c j (qtr 0) f ∗ rP c j (qtr 1) f ∗ rP c j (qtr 2) f ∗ rP c j (qtr 3) f) := by
  iintro H
  ihave H := (Entails.of_eq (rP_quarters c j f)) $$ H
  icases H with ⟨⟨H0, H1⟩, H2, H3⟩
  isplitl [H0]; · iexact H0
  isplitl [H1]; · iexact H1
  isplitl [H2]; · iexact H2
  iexact H3
omit [FloatOps F] [Named F] in
theorem rP_join (c : Dev nD) (j : Fin 4) (f : Vec F S4x1024x4 .f32) :
    iprop(rP c j (qtr 0) f ∗ rP c j (qtr 1) f ∗ rP c j (qtr 2) f ∗ rP c j (qtr 3) f) ⊢ rP c j fullShare f := by
  iintro ⟨H0, H1, H2, H3⟩
  iapply (Entails.of_eq (rP_quarters c j f).symm)
  isplitl [H0 H1]
  · isplitl [H0]; · iexact H0
    iexact H1
  isplitl [H2]; · iexact H2
  iexact H3
omit [FloatOps F] [Named F] in
theorem gP_half (c : Dev nD) (j : Fin 4) (q : PosShare TreeShare) (f : Vec F S4x256x16 .f32) :
    gP c j q f = iprop(gP c j q.left f ∗ gP c j q.right f) := by
  unfold gP
  exact BI.Entails.antisymm (pointsTo_share (PosShare.mem_left_op_right q)).1 (pointsTo_share (PosShare.mem_left_op_right q)).2
omit [FloatOps F] [Named F] in
theorem gP_quarters (c : Dev nD) (j : Fin 4) (f : Vec F S4x256x16 .f32) :
    gP c j fullShare f = iprop((gP c j (qtr 0) f ∗ gP c j (qtr 1) f) ∗ gP c j (qtr 2) f ∗ gP c j (qtr 3) f) := by
  rw [gP_half c j fullShare, gP_half c j fullShare.left, gP_half c j fullShare.right]; rfl
omit [FloatOps F] [Named F] in
theorem gP_split (c : Dev nD) (j : Fin 4) (f : Vec F S4x256x16 .f32) :
    gP c j fullShare f ⊢ iprop(gP c j (qtr 0) f ∗ gP c j (qtr 1) f ∗ gP c j (qtr 2) f ∗ gP c j (qtr 3) f) := by
  iintro H
  ihave H := (Entails.of_eq (gP_quarters c j f)) $$ H
  icases H with ⟨⟨H0, H1⟩, H2, H3⟩
  isplitl [H0]; · iexact H0
  isplitl [H1]; · iexact H1
  isplitl [H2]; · iexact H2
  iexact H3
omit [FloatOps F] [Named F] in
theorem gP_join (c : Dev nD) (j : Fin 4) (f : Vec F S4x256x16 .f32) :
    iprop(gP c j (qtr 0) f ∗ gP c j (qtr 1) f ∗ gP c j (qtr 2) f ∗ gP c j (qtr 3) f) ⊢ gP c j fullShare f := by
  iintro ⟨H0, H1, H2, H3⟩
  iapply (Entails.of_eq (gP_quarters c j f).symm)
  isplitl [H0 H1]
  · isplitl [H0]; · iexact H0
    iexact H1
  isplitl [H2]; · iexact H2
  iexact H3

/-- The device's own rows in its slot are the gathered buffer there. -/
theorem xP_own (c : Dev nD) : xP c c fullShare (spread (k0_pay2 (I.x c))) ⊢ iprop(xP c c fullShare.left (XC I) ∗ xP c c fullShare.right (XC I)) := by
  have e : xP c c fullShare (spread (k0_pay2 (I.x c))) = xP c c fullShare (XC I) := by
    unfold xP
    refine pointsTo_congr fun i hi => ?_
    have h : i 0 = c := mem_slot.mp hi
    show spread (k0_pay2 (I.x c)) i = spread (k0_pay2 (I.x (i 0))) i
    rw [h]
  rw [e]; exact xP_split c c (XC I)
theorem rP_own (c : Dev nD) : rP c c fullShare (spread (k0_pay3 (I.rt c))) ⊢
    iprop(rP c c (qtr 0) (RC I) ∗ rP c c (qtr 1) (RC I) ∗ rP c c (qtr 2) (RC I) ∗ rP c c (qtr 3) (RC I)) := by
  have e : rP c c fullShare (spread (k0_pay3 (I.rt c))) = rP c c fullShare (RC I) := by
    unfold rP
    refine pointsTo_congr fun i hi => ?_
    have h : i 0 = c := mem_slot.mp hi
    show spread (k0_pay3 (I.rt c)) i = spread (k0_pay3 (I.rt (i 0))) i
    rw [h]
  rw [e]; exact rP_split c c (RC I)
theorem gP_own (c : Dev nD) : gFill I c 4 ⊢
    iprop(gP c c (qtr 0) (GC I) ∗ gP c c (qtr 1) (GC I) ∗ gP c c (qtr 2) (GC I) ∗ gP c c (qtr 3) (GC I)) := by
  unfold gFill
  iintro ⟨%f, %hf, H⟩
  have e : gP c c fullShare f = gP c c fullShare (GC I) := by
    unfold gP
    refine pointsTo_congr fun i hi => ?_
    exact hf i (mem_slot.mp hi) (i 2).isLt
  ihave H := (Entails.of_eq e) $$ H
  iapply (gP_split c c (GC I)); iexact H

/-- The halves kept for the loads, by slot. -/
theorem xP_abs (c : Dev nD) : iprop(xP c c fullShare.right (XC I) ∗ xP c (back c 1) fullShare.right (XC I) ∗ xP c (back c 2) fullShare.right (XC I) ∗ xP c (back c 3) fullShare.right (XC I))
    ⊢ iprop(xP c 0 fullShare.right (XC I) ∗ xP c 1 fullShare.right (XC I) ∗ xP c 2 fullShare.right (XC I) ∗ xP c 3 fullShare.right (XC I)) :=
  Entails.of_eq ((rel4 c (fun j => xP c j fullShare.right (XC I))).symm.trans (abs4 _))

/-- Three quarters of the received slots, kept aside. -/
def rRest (c : Dev nD) : sProp 𝕄 :=
  iprop((rP c (back c 1) (qtr 1) (RC I) ∗ rP c (back c 1) (qtr 2) (RC I) ∗ rP c (back c 1) (qtr 3) (RC I))
    ∗ (rP c (back c 2) (qtr 1) (RC I) ∗ rP c (back c 2) (qtr 2) (RC I) ∗ rP c (back c 2) (qtr 3) (RC I))
    ∗ (rP c (back c 3) (qtr 1) (RC I) ∗ rP c (back c 3) (qtr 2) (RC I) ∗ rP c (back c 3) (qtr 3) (RC I)))
/-- The received slots and the device's own quarter: a quarter of each slot for the loads. -/
theorem rP_gath (c : Dev nD) : iprop(rP c c (qtr 0) (RC I) ∗ rP c (back c 1) fullShare (RC I) ∗ rP c (back c 2) fullShare (RC I) ∗ rP c (back c 3) fullShare (RC I))
    ⊢ iprop(rP c 0 (qtr 0) (RC I) ∗ rP c 1 (qtr 0) (RC I) ∗ rP c 2 (qtr 0) (RC I) ∗ rP c 3 (qtr 0) (RC I) ∗ rRest I c) := by
  iintro ⟨H0, H1, H2, H3⟩
  ihave H1 := (rP_split c (back c 1) (RC I)) $$ H1
  ihave H2 := (rP_split c (back c 2) (RC I)) $$ H2
  ihave H3 := (rP_split c (back c 3) (RC I)) $$ H3
  icases H1 with ⟨H1, K1⟩
  icases H2 with ⟨H2, K2⟩
  icases H3 with ⟨H3, K3⟩
  ihave H := (Entails.of_eq ((rel4 c (fun j => rP c j (qtr 0) (RC I))).symm.trans (abs4 _))) $$ [H0 H1 H2 H3]
  · isplitl [H0]; · iexact H0
    isplitl [H1]; · iexact H1
    isplitl [H2]; · iexact H2
    iexact H3
  icases H with ⟨H0, H1, H2, H3⟩
  isplitl [H0]; · iexact H0
  isplitl [H1]; · iexact H1
  isplitl [H2]; · iexact H2
  isplitl [H3]; · iexact H3
  unfold rRest
  isplitl [K1]; · iexact K1
  isplitl [K2]; · iexact K2
  iexact K3
/-- All shares of all slots together are all slots in full. -/
theorem rP_all (c : Dev nD) : iprop(rP c 0 (qtr 0) (RC I) ∗ rP c 1 (qtr 0) (RC I) ∗ rP c 2 (qtr 0) (RC I) ∗ rP c 3 (qtr 0) (RC I) ∗ rRest I c
      ∗ rP c c (qtr 1) (RC I) ∗ rP c c (qtr 2) (RC I) ∗ rP c c (qtr 3) (RC I)) ⊢ bigSep Finset.univ (fun j : Dev nD => rP c j fullShare (RC I)) := by
  unfold rRest
  iintro ⟨H0, H1, H2, H3, ⟨K1, K2, K3⟩, Q1, Q2, Q3⟩
  ihave H := (Entails.of_eq ((abs4 (fun j => rP c j (qtr 0) (RC I))).symm.trans (rel4 c _))) $$ [H0 H1 H2 H3]
  · isplitl [H0]; · iexact H0
    isplitl [H1]; · iexact H1
    isplitl [H2]; · iexact H2
    iexact H3
  icases H with ⟨H0, H1, H2, H3⟩
  iapply (Entails.of_eq (rel4 c (fun j => rP c j fullShare (RC I))).symm)
  isplitl [H0 Q1 Q2 Q3]
  · iapply (rP_join c c (RC I))
    isplitl [H0]; · iexact H0
    isplitl [Q1]; · iexact Q1
    isplitl [Q2]; · iexact Q2
    iexact Q3
  isplitl [H1 K1]
  · iapply (rP_join c (back c 1) (RC I))
    isplitl [H1]; · iexact H1
    iexact K1
  isplitl [H2 K2]
  · iapply (rP_join c (back c 2) (RC I))
    isplitl [H2]; · iexact H2
    iexact K2
  iapply (rP_join c (back c 3) (RC I))
  isplitl [H3]; · iexact H3
  iexact K3

/-- Three quarters of the received slots, kept aside. -/
def gRest (c : Dev nD) : sProp 𝕄 :=
  iprop((gP c (back c 1) (qtr 1) (GC I) ∗ gP c (back c 1) (qtr 2) (GC I) ∗ gP c (back c 1) (qtr 3) (GC I))
    ∗ (gP c (back c 2) (qtr 1) (GC I) ∗ gP c (back c 2) (qtr 2) (GC I) ∗ gP c (back c 2) (qtr 3) (GC I))
    ∗ (gP c (back c 3) (qtr 1) (GC I) ∗ gP c (back c 3) (qtr 2) (GC I) ∗ gP c (back c 3) (qtr 3) (GC I)))
/-- The received slots and the device's own quarter: a quarter of each slot for the loads. -/
theorem gP_gath (c : Dev nD) : iprop(gP c c (qtr 0) (GC I) ∗ gP c (back c 1) fullShare (GC I) ∗ gP c (back c 2) fullShare (GC I) ∗ gP c (back c 3) fullShare (GC I))
    ⊢ iprop(gP c 0 (qtr 0) (GC I) ∗ gP c 1 (qtr 0) (GC I) ∗ gP c 2 (qtr 0) (GC I) ∗ gP c 3 (qtr 0) (GC I) ∗ gRest I c) := by
  iintro ⟨H0, H1, H2, H3⟩
  ihave H1 := (gP_split c (back c 1) (GC I)) $$ H1
  ihave H2 := (gP_split c (back c 2) (GC I)) $$ H2
  ihave H3 := (gP_split c (back c 3) (GC I)) $$ H3
  icases H1 with ⟨H1, K1⟩
  icases H2 with ⟨H2, K2⟩
  icases H3 with ⟨H3, K3⟩
  ihave H := (Entails.of_eq ((rel4 c (fun j => gP c j (qtr 0) (GC I))).symm.trans (abs4 _))) $$ [H0 H1 H2 H3]
  · isplitl [H0]; · iexact H0
    isplitl [H1]; · iexact H1
    isplitl [H2]; · iexact H2
    iexact H3
  icases H with ⟨H0, H1, H2, H3⟩
  isplitl [H0]; · iexact H0
  isplitl [H1]; · iexact H1
  isplitl [H2]; · iexact H2
  isplitl [H3]; · iexact H3
  unfold gRest
  isplitl [K1]; · iexact K1
  isplitl [K2]; · iexact K2
  iexact K3
/-- All shares of all slots together are all slots in full. -/
theorem gP_all (c : Dev nD) : iprop(gP c 0 (qtr 0) (GC I) ∗ gP c 1 (qtr 0) (GC I) ∗ gP c 2 (qtr 0) (GC I) ∗ gP c 3 (qtr 0) (GC I) ∗ gRest I c
      ∗ gP c c (qtr 1) (GC I) ∗ gP c c (qtr 2) (GC I) ∗ gP c c (qtr 3) (GC I)) ⊢ bigSep Finset.univ (fun j : Dev nD => gP c j fullShare (GC I)) := by
  unfold gRest
  iintro ⟨H0, H1, H2, H3, ⟨K1, K2, K3⟩, Q1, Q2, Q3⟩
  ihave H := (Entails.of_eq ((abs4 (fun j => gP c j (qtr 0) (GC I))).symm.trans (rel4 c _))) $$ [H0 H1 H2 H3]
  · isplitl [H0]; · iexact H0
    isplitl [H1]; · iexact H1
    isplitl [H2]; · iexact H2
    iexact H3
  icases H with ⟨H0, H1, H2, H3⟩
  iapply (Entails.of_eq (rel4 c (fun j => gP c j fullShare (GC I))).symm)
  isplitl [H0 Q1 Q2 Q3]
  · iapply (gP_join c c (GC I))
    isplitl [H0]; · iexact H0
    isplitl [Q1]; · iexact Q1
    isplitl [Q2]; · iexact Q2
    iexact Q3
  isplitl [H1 K1]
  · iapply (gP_join c (back c 1) (GC I))
    isplitl [H1]; · iexact H1
    iexact K1
  isplitl [H2 K2]
  · iapply (gP_join c (back c 2) (GC I))
    isplitl [H2]; · iexact H2
    iexact K2
  iapply (gP_join c (back c 3) (GC I))
  isplitl [H3]; · iexact H3
  iexact K3

theorem xP_all (c : Dev nD) : iprop(xP c 0 fullShare.right (XC I) ∗ xP c 1 fullShare.right (XC I) ∗ xP c 2 fullShare.right (XC I) ∗ xP c 3 fullShare.right (XC I)
      ∗ xP c c fullShare.left (XC I) ∗ xP c (back c 1) fullShare.left (XC I) ∗ xP c (back c 2) fullShare.left (XC I) ∗ xP c (back c 3) fullShare.left (XC I))
    ⊢ bigSep Finset.univ (fun j : Dev nD => xP c j fullShare (XC I)) := by
  iintro ⟨H0, H1, H2, H3, K0, K1, K2, K3⟩
  ihave H := (Entails.of_eq ((abs4 (fun j => xP c j fullShare.right (XC I))).symm.trans (rel4 c _))) $$ [H0 H1 H2 H3]
  · isplitl [H0]; · iexact H0
    isplitl [H1]; · iexact H1
    isplitl [H2]; · iexact H2
    iexact H3
  icases H with ⟨H0, H1, H2, H3⟩
  iapply (Entails.of_eq (rel4 c (fun j => xP c j fullShare (XC I))).symm)
  isplitl [H0 K0]
  · iapply (Entails.of_eq (xP_half c c fullShare (XC I)).symm)
    isplitl [K0]; · iexact K0
    iexact H0
  isplitl [H1 K1]
  · iapply (Entails.of_eq (xP_half c (back c 1) fullShare (XC I)).symm)
    isplitl [K1]; · iexact K1
    iexact H1
  isplitl [H2 K2]
  · iapply (Entails.of_eq (xP_half c (back c 2) fullShare (XC I)).symm)
    isplitl [K2]; · iexact K2
    iexact H2
  iapply (Entails.of_eq (xP_half c (back c 3) fullShare (XC I)).symm)
  isplitl [K3]; · iexact K3
  iexact H3

/-- A program that has ended. -/
theorem r_ret (c : Dev nD) {α : Type} {a : α} (b : α) (h : a = b) {Q : α → sProp 𝕄} : Q b ⊢ WP (F := F) c (.ret a) Q := by
  subst h
  show Q a ⊢ wp _ _ _ (Prog.ret a) Q
  rw [wp_ret]; exact fupd_intro
/-- A program and what follows it. -/
theorem r_bind (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  show _ ⊢ wp _ _ _ (p >>= k) Q
  rw [wp_bind]
/-! ## Loads of weights and partial sums -/

theorem ld_wb1 (c : Dev nD) (j : Fin 2) (e : Fin 4) {off : Fin 3 → Nat} (h : off = ![j.val, 0, 0]) {inb}
    {hl : B1M.view.LoadsAt (Rect.unit (s := S2x1024x2048) off S1x1024x2048.size inb).toLoadRect}
    {α : Type} {Q : α → sProp 𝕄} {kk : Vec F S1x1024x2048 .f32 → Prog (TpuEff nD τ sig (Elt F) Λ₀ .tc) α} :
    b1P c j fullShare (WB1 I c e) ⊢ iprop((b1P c j fullShare (WB1 I c e) -∗ WP c (kk (sl3 (I.w1 c) e)) Q)
      -∗ WP c (.op (.load B1M (Rect.unit (s := S2x1024x2048) off S1x1024x2048.size inb).toLoadRect hl) kk) Q) := by
  have h' := ld_b1 (F := F) c j h (q := fullShare) (f := WB1 I c e) (hl := hl) (Q := Q) (kk := kk)
  rw [show sl3 (WB1 I c e) j = sl3 (I.w1 c) e from sl3_spread _ j] at h'
  exact h'
omit [FloatOps F] [Named F] in
theorem b1P_ex (c : Dev nD) (j : Fin 2) (f : Vec F S2x1024x2048 .f32) : b1P c j fullShare f ⊢ iprop(∃ f, b1P (F := F) c j fullShare f) := by
  iintro H; iexists f; iexact H
theorem ld_wb2 (c : Dev nD) (j : Fin 2) (e : Fin 4) {off : Fin 3 → Nat} (h : off = ![j.val, 0, 0]) {inb}
    {hl : B2M.view.LoadsAt (Rect.unit (s := S2x2048x1024) off S1x2048x1024.size inb).toLoadRect}
    {α : Type} {Q : α → sProp 𝕄} {kk : Vec F S1x2048x1024 .f32 → Prog (TpuEff nD τ sig (Elt F) Λ₀ .tc) α} :
    b2P c j fullShare (WB2 I c e) ⊢ iprop((b2P c j fullShare (WB2 I c e) -∗ WP c (kk (sl3 (I.w2 c) e)) Q)
      -∗ WP c (.op (.load B2M (Rect.unit (s := S2x2048x1024) off S1x2048x1024.size inb).toLoadRect hl) kk) Q) := by
  have h' := ld_b2 (F := F) c j h (q := fullShare) (f := WB2 I c e) (hl := hl) (Q := Q) (kk := kk)
  rw [show sl3 (WB2 I c e) j = sl3 (I.w2 c) e from sl3_spread _ j] at h'
  exact h'
omit [FloatOps F] [Named F] in
theorem b2P_ex (c : Dev nD) (j : Fin 2) (f : Vec F S2x2048x1024 .f32) : b2P c j fullShare f ⊢ iprop(∃ f, b2P (F := F) c j fullShare f) := by
  iintro H; iexists f; iexact H

theorem ld_vs (c p : Dev nD) (j : Fin 3) {off : Fin 3 → Nat} (h : off = ![j.val, 0, 0]) {inb}
    {hl : VM.view.LoadsAt (Rect.unit (s := S3x256x1024) off S1x256x1024.size inb).toLoadRect}
    {α : Type} {Q : α → sProp 𝕄} {kk : Vec F S1x256x1024 .bf16 → Prog (TpuEff nD τ sig (Elt F) Λ₀ .tc) α} :
    vP c j fullShare (RSB I p j) ⊢ iprop((vP c j fullShare (RSB I p j) -∗ WP c (kk (RS I p j)) Q)
      -∗ WP c (.op (.load VM (Rect.unit (s := S3x256x1024) off S1x256x1024.size inb).toLoadRect hl) kk) Q) := by
  have h' := ld_v (F := F) c j h (q := fullShare) (f := RSB I p j) (hl := hl) (Q := Q) (kk := kk)
  rw [show sl3 (RSB I p j) j = RS I p j from sl3_spread _ j] at h'
  exact h'

theorem sP_own0 (c : Dev nD) : sP c 0 fullShare (spread (k0_pay42 (rowsOf (A4 I c) (back c 1)))) ⊢ sP c 0 fullShare (RSB I c 0) := Entails.of_eq rfl
theorem sP_own1 (c : Dev nD) : sP c 1 fullShare (spread (k0_pay43 (rowsOf (A4 I c) (back c 2)) (RS I (back c 1) 0))) ⊢ sP c 1 fullShare (RSB I c 1) := Entails.of_eq rfl
theorem sP_own2 (c : Dev nD) : sP c 2 fullShare (spread (k0_pay45 (k0_pay44 (rowsOf (A4 I c) (back c 3)) (RS I (back c 1) 1)))) ⊢ sP c 2 fullShare (RSB I c 2) := Entails.of_eq rfl

end Cert.MoE

end
-- ==== Proof.PartsA.lean ====
/-
# The body, step by step: the exchange of the token rows and the router columns
-/
module

public import proofs.«01_k».proof.Proof.Slots

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

set_option maxHeartbeats 1600000 in
/-- The first signal of the start barrier. -/
theorem part1 (c : Dev nD)  {Q : _ → sProp 𝕄} :
    iprop(ctx I ∗ barPay (F := F) c (fwd c 1) ∗ ow (F := F) c ((debts c).drop 0) ∗ tk (F := F) (fwd c 1) .bar 0 1 ∗ (∀ (a1 : BitVec 32), ∀ (a2 : BitVec 32), ∀ (a3 : BitVec 32), ∀ (a4 : BitVec 1), (ow (F := F) c ((debts c).drop 1)) -∗ Q ⟨c, Scalar.remsi (Scalar.divsi (Dev.word c) 1#32) 4#32, a1, SemArray.scalar (sig.barrier 0 rfl), a2, a3, a4, 0#32⟩))
      ⊢ WP c (k0_part1 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 ) Q := by
  rw [k0_part1_eq_skeleton]; unfold k0_part1_skel
  simp only [semSignalWord, semWaitWord, Prog.lift, Prog.bind_op, Prog.bind_ret, Prog.pure_eq_ret, wp_deviceId]
  iintro ⟨#Hc, BP1, ho, t_bar_1, Hk⟩
  ihave HH := (Entails.of_eq (pay_bar1 I c).symm) $$ BP1
  icases HH with Hpay
  iapply (r_signal I c (fwd c 1) _ (.bar) 1 ((debts c).drop 1) (dv1 c) rfl rfl (by revert c; decide) (by rfl)) $$ [ho t_bar_1 Hpay]
  · isplitr; · iexact Hc
    isplitl [ho]; · iexact ho
    isplitl [t_bar_1]; · iexact t_bar_1
    iexact Hpay
  iintro ho
  iapply (r_ret c _ rfl)
  iapply Hk
  iexact ho

set_option maxHeartbeats 1600000 in
/-- The other two signals, the wait, and the load of the first expert's up weights. -/
theorem part2 (c : Dev nD) (v2 : BitVec 32) (v30 : BitVec 32) (v31 : BitVec 32) (v32 : BitVec 1) (c0_i32_20 : BitVec 32) {Q : _ → sProp 𝕄} :
    iprop(ctx I ∗ barPay (F := F) c (fwd c 2) ∗ ow (F := F) c ((debts c).drop 1) ∗ tk (F := F) (fwd c 2) .bar 0 2 ∗ barPay (F := F) c (fwd c 3) ∗ barExtra (F := F) c ∗ tk (F := F) (fwd c 3) .bar 0 3 ∗ cr (F := F) c .bar 3 ∗ ap (F := F) c .bar 0 ∗ e1P c 0 fullShare (I.w1 c) ∗ (∃ f, b1P (F := F) c 0 fullShare f) ∗ tk (F := F) c (.w1 0) 0 0 ∗ ((ow (F := F) c ((debts c).drop 3) ∗ semVal (cell c .bar) 0 ∗ (∃ f, rP (F := F) (fwd c 1) c fullShare f) ∗ (∃ f, gP (F := F) (fwd c 1) c fullShare f) ∗ (∃ f, rP (F := F) (fwd c 2) c fullShare f) ∗ (∃ f, gP (F := F) (fwd c 2) c fullShare f) ∗ (∃ f, rP (F := F) (fwd c 3) c fullShare f) ∗ (∃ f, gP (F := F) (fwd c 3) c fullShare f) ∗ (∃ f, xP (F := F) (fwd c 1) c fullShare f) ∗ (∃ f, xP (F := F) (fwd c 1) (back c 1) fullShare f) ∗ (∃ f, xP (F := F) (fwd c 1) (back c 2) fullShare f) ∗ (∃ f, vP (F := F) (fwd c 1) 0 fullShare f) ∗ (∃ f, vP (F := F) (fwd c 1) 1 fullShare f) ∗ (∃ f, vP (F := F) (fwd c 1) 2 fullShare f) ∗ cr (F := F) c (.w1 0) (Kd.w1 0).amt) -∗ Q ⟨⟩))
      ⊢ WP c (k0_part2 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 (SemArray.scalar (sig.barrier 0 rfl)) v30 v31 v32 c0_i32_20) Q := by
  rw [k0_part2_eq_skeleton]; unfold k0_part2_skel
  simp only [semSignalWord, semWaitWord, Prog.lift, Prog.bind_op, Prog.bind_ret, Prog.pure_eq_ret, wp_deviceId]
  iintro ⟨#Hc, BP2, ho, t_bar_2, BP3, BE, t_bar_3, c_bar, p_bar, E1_0, B1_0, t_w1_0_0, Hk⟩
  ihave HH := (Entails.of_eq (pay_bar2 I c).symm) $$ BP2
  icases HH with Hpay
  iapply (r_signal I c (fwd c 2) _ (.bar) 2 ((debts c).drop 2) (dv2 c) rfl rfl (by revert c; decide) (by rfl)) $$ [ho t_bar_2 Hpay]
  · isplitr; · iexact Hc
    isplitl [ho]; · iexact ho
    isplitl [t_bar_2]; · iexact t_bar_2
    iexact Hpay
  iintro ho
  ihave HH := (Entails.of_eq (pay_bar3 I c).symm) $$ [BP3 BE]
  · isplitl [BP3]; · iexact BP3
    iexact BE
  icases HH with Hpay
  iapply (r_signal I c (fwd c 3) _ (.bar) 3 ((debts c).drop 3) (dv3 c) rfl rfl (by revert c; decide) (by rfl)) $$ [ho t_bar_3 Hpay]
  · isplitr; · iexact Hc
    isplitl [ho]; · iexact ho
    isplitl [t_bar_3]; · iexact t_bar_3
    iexact Hpay
  iintro ho
  iapply (r_wait I c .bar ((debts c).drop 3) 0 (k' := 3) (wpE_semWait_eq 𝒱₀ (c : Thread nD τ) none Set.univ) rfl rfl rfl (by revert c; decide)) $$ [c_bar ho p_bar]
  · isplitr; · iexact Hc
    isplitl [c_bar]; · iexact c_bar
    isplitl [ho]; · iexact ho
    iexact p_bar
  iintro ⟨ho, p_bar, r_bar, Hp⟩
  iclear r_bar
  imod (r_close I c .bar 1 rfl (dut1 c .bar rfl)) $$ [p_bar] with HH
  · isplitr; · iexact Hc
    iexact p_bar
  icases HH with z_bar
  ihave HH := (bar_got I c) $$ Hp
  icases HH with ⟨TR1, TG1, TR2, TG2, TR3, TG3, TX0, TX1, TX2, TV0, TV1, TV2⟩
  ihave r_w1_0 := (ctx_reached I c (.w1 0) rfl) $$ Hc
  iapply (copy_b1 I c 0 0 0 rfl rfl rfl (by revert c; decide) (by rfl) rfl) $$ [E1_0 B1_0 t_w1_0_0 r_w1_0]
  · isplitr; · iexact Hc
    isplitl [E1_0]; · iexact E1_0
    isplitl [B1_0]; · iexact B1_0
    isplitl [t_w1_0_0]; · iexact t_w1_0_0
    iexact r_w1_0
  iintro c_w1_0
  iapply (r_ret c ⟨⟩ rfl)
  iapply Hk
  isplitl [ho]; · iexact ho
  isplitl [z_bar]; · iexact z_bar
  isplitl [TR1]; · iexact TR1
  isplitl [TG1]; · iexact TG1
  isplitl [TR2]; · iexact TR2
  isplitl [TG2]; · iexact TG2
  isplitl [TR3]; · iexact TR3
  isplitl [TG3]; · iexact TG3
  isplitl [TX0]; · iexact TX0
  isplitl [TX1]; · iexact TX1
  isplitl [TX2]; · iexact TX2
  isplitl [TV0]; · iexact TV0
  isplitl [TV1]; · iexact TV1
  isplitl [TV2]; · iexact TV2
  iexact c_w1_0

set_option maxHeartbeats 1600000 in
/-- The token rows are written to the device's slot and start their first hop. -/
theorem part3 (c : Dev nD) (v2 : BitVec 32) (v13 : BitVec 32) {Q : _ → sProp 𝕄} :
    iprop(ctx I ∗ e2P c 0 fullShare (I.w2 c) ∗ (∃ f, b2P (F := F) c 0 fullShare f) ∗ tk (F := F) c (.w2 0) 0 0 ∗ xsP c (I.x c) ∗ (∃ f, xP (F := F) c c fullShare f) ∗ (∃ f, xP (F := F) (fwd c 1) c fullShare f) ∗ ow (F := F) c ((debts c).drop 3) ∗ tk (F := F) c (.agS 0) 0 0 ∗ tk (F := F) (fwd c 1) (.agR 0) 0 0 ∗ rtP c (I.rt c) ∗ ((cr (F := F) c (.w2 0) (Kd.w2 0).amt ∗ xsP c (I.x c) ∗ xP c c fullShare.right (XC I) ∗ cr (F := F) c (.agS 0) (Kd.agS 0).amt ∗ ow (F := F) c ((debts c).drop 4) ∗ rtP c (I.rt c)) -∗ Q ⟨k0_pay1 (I.x c), I.rt c⟩))
      ⊢ WP c (k0_part3 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v13) Q := by
  rw [k0_part3_eq_skeleton]; unfold k0_part3_skel
  simp only [semSignalWord, semWaitWord, Prog.lift, Prog.bind_op, Prog.bind_ret, Prog.pure_eq_ret, wp_deviceId]
  iintro ⟨#Hc, E2_0, B2_0, t_w2_0_0, x, X0, TX0, ho, t_agS0, t_agR0, rt, Hk⟩
  ihave r_w2_0 := (ctx_reached I c (.w2 0) rfl) $$ Hc
  iapply (copy_b2 I c 0 0 0 rfl rfl rfl (by revert c; decide) (by rfl) rfl) $$ [E2_0 B2_0 t_w2_0_0 r_w2_0]
  · isplitr; · iexact Hc
    isplitl [E2_0]; · iexact E2_0
    isplitl [B2_0]; · iexact B2_0
    isplitl [t_w2_0_0]; · iexact t_w2_0_0
    iexact r_w2_0
  iintro c_w2_0
  iapply (ld_xs c) $$ [x]
  · iexact x
  iintro x
  icases X0 with ⟨%fX0, X0⟩
  iapply (ld_x c c (k0_off1_eq c)) $$ [X0]
  · iexact X0
  iintro X0
  iapply (st_x c c (k0_off1_eq c)) $$ [X0]
  · iexact X0
  iintro X0
  ihave HH := (xP_own I c) $$ X0
  icases HH with ⟨X0, X0r⟩
  iapply (send_x I c (fwd c 1) _ (.agS 0) (.agR 0) ((debts c).drop 4) (dv4 c) c (by revert c; decide) rfl rfl rfl rfl (by revert c; decide) (by revert c; decide) (by rfl) rfl fullShare.left (pay_agS0 I c) (pay_agR0 I c)) $$ [X0 TX0 ho t_agS0 t_agR0]
  · isplitr; · iexact Hc
    isplitl [X0]; · iexact X0
    isplitl [TX0]; · iexact TX0
    isplitl [ho]; · iexact ho
    isplitl [t_agS0]; · iexact t_agS0
    iexact t_agR0
  iintro ⟨c_agS0, ho⟩
  iapply (ld_rt c) $$ [rt]
  · iexact rt
  iintro rt
  iapply (r_ret c ⟨k0_pay1 (I.x c), I.rt c⟩ rfl)
  iapply Hk
  isplitl [c_w2_0]; · iexact c_w2_0
  isplitl [x]; · iexact x
  isplitl [X0r]; · iexact X0r
  isplitl [c_agS0]; · iexact c_agS0
  isplitl [ho]; · iexact ho
  iexact rt

set_option maxHeartbeats 1600000 in
/-- The router columns are written to the device's slot; the first copy is sent. -/
theorem part4 (c : Dev nD) (v2 : BitVec 32) {Q : _ → sProp 𝕄} :
    iprop(ctx I ∗ (∃ f, rP (F := F) c c fullShare f) ∗ (∃ f, rP (F := F) (fwd c 1) c fullShare f) ∗ ow (F := F) c ((debts c).drop 4) ∗ tk (F := F) c (.rS 1) 0 0 ∗ tk (F := F) (fwd c 1) (.rR c) 0 0 ∗ (∀ (a1 : BitVec 32), ∀ (a2 : BitVec 32), ∀ (a3 : BitVec 1), (rP c c (qtr 0) (RC I) ∗ rP c c (qtr 2) (RC I) ∗ rP c c (qtr 3) (RC I) ∗ cr (F := F) c (.rS 1) (Kd.rS 1).amt ∗ ow (F := F) c ((debts c).drop 5)) -∗ Q ⟨a1, a2, a3⟩))
      ⊢ WP c (k0_part4 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 (I.rt c)) Q := by
  rw [k0_part4_eq_skeleton]; unfold k0_part4_skel
  simp only [semSignalWord, semWaitWord, Prog.lift, Prog.bind_op, Prog.bind_ret, Prog.pure_eq_ret, wp_deviceId]
  iintro ⟨#Hc, R0, TR1, ho, t_rS1, t_rR1, Hk⟩
  icases R0 with ⟨%fR0, R0⟩
  iapply (ld_r c c (k0_off3_eq c)) $$ [R0]
  · iexact R0
  iintro R0
  iapply (st_r c c (k0_off3_eq c)) $$ [R0]
  · iexact R0
  iintro R0
  ihave HH := (rP_own I c) $$ R0
  icases HH with ⟨R0_0, R0_1, R0_2, R0_3⟩
  iapply (send_r I c (fwd c 1) _ (.rS 1) (.rR c) ((debts c).drop 5) (dv5 c) c (k0_off5_eq c) rfl (by revert c; decide) rfl rfl (by revert c; decide) (by revert c; decide) (by rfl) rfl (qtr 1) rfl rfl) $$ [R0_1 TR1 ho t_rS1 t_rR1]
  · isplitr; · iexact Hc
    isplitl [R0_1]; · iexact R0_1
    isplitl [TR1]; · iexact TR1
    isplitl [ho]; · iexact ho
    isplitl [t_rS1]; · iexact t_rS1
    iexact t_rR1
  iintro ⟨c_rS1, ho⟩
  iapply (r_ret c _ rfl)
  iapply Hk
  isplitl [R0_0]; · iexact R0_0
  isplitl [R0_2]; · iexact R0_2
  isplitl [R0_3]; · iexact R0_3
  isplitl [c_rS1]; · iexact c_rS1
  iexact ho

set_option maxHeartbeats 1600000 in
/-- The other two copies of the router columns. -/
theorem part5 (c : Dev nD) (v2 : BitVec 32) (v123 : BitVec 32) (v124 : BitVec 32) (v129 : BitVec 1) {Q : _ → sProp 𝕄} :
    iprop(ctx I ∗ rP c c (qtr 2) (RC I) ∗ (∃ f, rP (F := F) (fwd c 2) c fullShare f) ∗ ow (F := F) c ((debts c).drop 5) ∗ tk (F := F) c (.rS 2) 0 0 ∗ tk (F := F) (fwd c 2) (.rR c) 0 0 ∗ rP c c (qtr 3) (RC I) ∗ (∃ f, rP (F := F) (fwd c 3) c fullShare f) ∗ tk (F := F) c (.rS 3) 0 0 ∗ tk (F := F) (fwd c 3) (.rR c) 0 0 ∗ (∀ (a1 : BitVec 32), (cr (F := F) c (.rS 2) (Kd.rS 2).amt ∗ cr (F := F) c (.rS 3) (Kd.rS 3).amt ∗ ow (F := F) c ((debts c).drop 7)) -∗ Q ⟨a1, 4#32, 0#32⟩))
      ⊢ WP c (k0_part5 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v123 v124 v129) Q := by
  rw [k0_part5_eq_skeleton]; unfold k0_part5_skel
  simp only [semSignalWord, semWaitWord, Prog.lift, Prog.bind_op, Prog.bind_ret, Prog.pure_eq_ret, wp_deviceId]
  iintro ⟨#Hc, R0_2, TR2, ho, t_rS2, t_rR2, R0_3, TR3, t_rS3, t_rR3, Hk⟩
  iapply (send_r I c (fwd c 2) _ (.rS 2) (.rR c) ((debts c).drop 6) (dv6 c) c (k0_off5_eq c) rfl (by revert c; decide) rfl rfl (by revert c; decide) (by revert c; decide) (by rfl) rfl (qtr 2) rfl rfl) $$ [R0_2 TR2 ho t_rS2 t_rR2]
  · isplitr; · iexact Hc
    isplitl [R0_2]; · iexact R0_2
    isplitl [TR2]; · iexact TR2
    isplitl [ho]; · iexact ho
    isplitl [t_rS2]; · iexact t_rS2
    iexact t_rR2
  iintro ⟨c_rS2, ho⟩
  iapply (send_r I c (fwd c 3) _ (.rS 3) (.rR c) ((debts c).drop 7) (dv7 c) c (k0_off5_eq c) rfl (by revert c; decide) rfl rfl (by revert c; decide) (by revert c; decide) (by rfl) rfl (qtr 3) rfl rfl) $$ [R0_3 TR3 ho t_rS3 t_rR3]
  · isplitr; · iexact Hc
    isplitl [R0_3]; · iexact R0_3
    isplitl [TR3]; · iexact TR3
    isplitl [ho]; · iexact ho
    isplitl [t_rS3]; · iexact t_rS3
    iexact t_rR3
  iintro ⟨c_rS3, ho⟩
  iapply (r_ret c _ rfl)
  iapply Hk
  isplitl [c_rS2]; · iexact c_rS2
  isplitl [c_rS3]; · iexact c_rS3
  iexact ho

set_option maxHeartbeats 1600000 in
/-- The router columns of the device before. -/
theorem part6 (c : Dev nD) (v2 : BitVec 32) (v163 : BitVec 32) (c4_i32_114 : BitVec 32) (c0_i32_115 : BitVec 32) {Q : _ → sProp 𝕄} :
    iprop(ctx I ∗ cr (F := F) c (.rR (back c 1)) (Kd.rR (back c 1)).amt ∗ ow (F := F) c ((debts c).drop 7) ∗ ap (F := F) c (.rR (back c 1)) 0 ∗ ((ow (F := F) c ((debts c).drop 7) ∗ semVal (cell c (.rR (back c 1))) 0 ∗ rP c (back c 1) fullShare (RC I)) -∗ Q ⟨⟩))
      ⊢ WP c (k0_part6 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v163 c4_i32_114 c0_i32_115) Q := by
  rw [k0_part6_eq_skeleton]; unfold k0_part6_skel
  simp only [semSignalWord, semWaitWord, Prog.lift, Prog.bind_op, Prog.bind_ret, Prog.pure_eq_ret, wp_deviceId]
  iintro ⟨#Hc, c_rR1, ho, p_rR1, Hk⟩
  iapply (r_last I c (.rR (back c 1)) ((debts c).drop 7) 0 (wpE_waitDma2_eq 𝒱₀ (c : Thread nD τ) none Set.univ) (by revert c; decide) rfl (by revert c; decide) (by rfl) (by revert c; decide) (dut1 c (.rR (back c 1)) rfl)) $$ [c_rR1 ho p_rR1]
  · isplitr; · iexact Hc
    isplitl [c_rR1]; · iexact c_rR1
    isplitl [ho]; · iexact ho
    iexact p_rR1
  iintro ⟨ho, z_rR1, Hp⟩
  ihave HH := (show pay I c (.rR (back c 1)) 0 0 ⊢ iprop(rP c (back c 1) fullShare (RC I)) from Entails.of_eq rfl) $$ Hp
  icases HH with R1
  iapply (r_ret c ⟨⟩ rfl)
  iapply Hk
  isplitl [ho]; · iexact ho
  isplitl [z_rR1]; · iexact z_rR1
  iexact R1

end Cert.MoE

end
-- ==== Proof.PartsB.lean ====
/-
# The body, step by step: the exchange of the gate values
-/
module

public import proofs.«01_k».proof.Proof.Slots

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

set_option maxHeartbeats 1600000 in
/-- The remaining router columns; the gate values at the first device's experts. -/
theorem part7 (c : Dev nD) (v2 : BitVec 32) {Q : _ → sProp 𝕄} :
    iprop(ctx I ∗ cr (F := F) c (.rR (back c 2)) (Kd.rR (back c 2)).amt ∗ ow (F := F) c ((debts c).drop 7) ∗ ap (F := F) c (.rR (back c 2)) 0 ∗ cr (F := F) c (.rR (back c 3)) (Kd.rR (back c 3)).amt ∗ ap (F := F) c (.rR (back c 3)) 0 ∗ rP c c (qtr 0) (RC I) ∗ rP c (back c 1) fullShare (RC I) ∗ gFill I c 0 ∗ ((semVal (cell c (.rR (back c 2))) 0 ∗ ow (F := F) c ((debts c).drop 7) ∗ semVal (cell c (.rR (back c 3))) 0 ∗ rP c 2 (qtr 0) (RC I) ∗ rP c 3 (qtr 0) (RC I) ∗ rRest I c ∗ rP c 0 (qtr 0) (RC I) ∗ gFill I c 1 ∗ rP c 1 (qtr 0) (RC I)) -∗ Q (k0_pay5 (k0_pay1 (I.x c)) (sl3 (RC I) 1))))
      ⊢ WP c (k0_part7 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 (k0_pay1 (I.x c))) Q := by
  rw [k0_part7_eq_skeleton]; unfold k0_part7_skel
  simp only [semSignalWord, semWaitWord, Prog.lift, Prog.bind_op, Prog.bind_ret, Prog.pure_eq_ret, wp_deviceId]
  iintro ⟨#Hc, c_rR2, ho, p_rR2, c_rR3, p_rR3, R0_0, R1, G0, Hk⟩
  iapply (r_last I c (.rR (back c 2)) ((debts c).drop 7) 0 (wpE_waitDma2_eq 𝒱₀ (c : Thread nD τ) none Set.univ) (by revert c; decide) rfl (by revert c; decide) (by rfl) (by revert c; decide) (dut1 c (.rR (back c 2)) rfl)) $$ [c_rR2 ho p_rR2]
  · isplitr; · iexact Hc
    isplitl [c_rR2]; · iexact c_rR2
    isplitl [ho]; · iexact ho
    iexact p_rR2
  iintro ⟨ho, z_rR2, Hp⟩
  ihave HH := (show pay I c (.rR (back c 2)) 0 0 ⊢ iprop(rP c (back c 2) fullShare (RC I)) from Entails.of_eq rfl) $$ Hp
  icases HH with R2
  iapply (r_last I c (.rR (back c 3)) ((debts c).drop 7) 0 (wpE_waitDma2_eq 𝒱₀ (c : Thread nD τ) none Set.univ) (by revert c; decide) rfl (by revert c; decide) (by rfl) (by revert c; decide) (dut1 c (.rR (back c 3)) rfl)) $$ [c_rR3 ho p_rR3]
  · isplitr; · iexact Hc
    isplitl [c_rR3]; · iexact c_rR3
    isplitl [ho]; · iexact ho
    iexact p_rR3
  iintro ⟨ho, z_rR3, Hp⟩
  ihave HH := (show pay I c (.rR (back c 3)) 0 0 ⊢ iprop(rP c (back c 3) fullShare (RC I)) from Entails.of_eq rfl) $$ Hp
  icases HH with R3
  ihave HH := (rP_gath I c) $$ [R0_0 R1 R2 R3]
  · isplitl [R0_0]; · iexact R0_0
    isplitl [R1]; · iexact R1
    isplitl [R2]; · iexact R2
    iexact R3
  icases HH with ⟨LR0, LR1, LR2, LR3, restR⟩
  iapply (ld_r c 0 rfl) $$ [LR0]
  · iexact LR0
  iintro LR0
  iapply (ld_gcol I c 0 (k0_off8_eq c)) $$ [G0]
  · iexact G0
  iintro %v G0
  iapply (st_gcol I c 0 (k0_off8_eq c) rfl) $$ [G0]
  · iexact G0
  iintro G0
  iapply (ld_r c 1 rfl) $$ [LR1]
  · iexact LR1
  iintro LR1
  iapply (r_ret c (k0_pay5 (k0_pay1 (I.x c)) (sl3 (RC I) 1)) rfl)
  iapply Hk
  isplitl [z_rR2]; · iexact z_rR2
  isplitl [ho]; · iexact ho
  isplitl [z_rR3]; · iexact z_rR3
  isplitl [LR2]; · iexact LR2
  isplitl [LR3]; · iexact LR3
  isplitl [restR]; · iexact restR
  isplitl [LR0]; · iexact LR0
  isplitl [G0]; · iexact G0
  iexact LR1

set_option maxHeartbeats 1600000 in
/-- The gate values at the other devices' experts. -/
theorem part8 (c : Dev nD) (v2 : BitVec 32) {Q : _ → sProp 𝕄} :
    iprop(ctx I ∗ gFill I c 1 ∗ rP c 2 (qtr 0) (RC I) ∗ rP c 3 (qtr 0) (RC I) ∗ ((rP c 2 (qtr 0) (RC I) ∗ rP c 3 (qtr 0) (RC I) ∗ gFill I c 4) -∗ Q ⟨⟩))
      ⊢ WP c (k0_part8 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 (k0_pay1 (I.x c)) (k0_pay5 (k0_pay1 (I.x c)) (sl3 (RC I) 1))) Q := by
  rw [k0_part8_eq_skeleton]; unfold k0_part8_skel
  simp only [semSignalWord, semWaitWord, Prog.lift, Prog.bind_op, Prog.bind_ret, Prog.pure_eq_ret, wp_deviceId]
  iintro ⟨#Hc, G0, LR2, LR3, Hk⟩
  iapply (ld_gcol I c 1 (k0_off9_eq c)) $$ [G0]
  · iexact G0
  iintro %v G0
  iapply (st_gcol I c 1 (k0_off9_eq c) rfl) $$ [G0]
  · iexact G0
  iintro G0
  iapply (ld_r c 2 rfl) $$ [LR2]
  · iexact LR2
  iintro LR2
  iapply (ld_gcol I c 2 (k0_off10_eq c)) $$ [G0]
  · iexact G0
  iintro %v G0
  iapply (st_gcol I c 2 (k0_off10_eq c) rfl) $$ [G0]
  · iexact G0
  iintro G0
  iapply (ld_r c 3 rfl) $$ [LR3]
  · iexact LR3
  iintro LR3
  iapply (ld_gcol I c 3 (k0_off11_eq c)) $$ [G0]
  · iexact G0
  iintro %v G0
  iapply (st_gcol I c 3 (k0_off11_eq c) rfl) $$ [G0]
  · iexact G0
  iintro G0
  iapply (r_ret c ⟨⟩ rfl)
  iapply Hk
  isplitl [LR2]; · iexact LR2
  isplitl [LR3]; · iexact LR3
  iexact G0

set_option maxHeartbeats 1600000 in
/-- Two copies of the gate values are sent. -/
theorem part9 (c : Dev nD) (v2 : BitVec 32) {Q : _ → sProp 𝕄} :
    iprop(ctx I ∗ gFill I c 4 ∗ (∃ f, gP (F := F) (fwd c 1) c fullShare f) ∗ ow (F := F) c ((debts c).drop 7) ∗ tk (F := F) c (.gS 1) 0 0 ∗ tk (F := F) (fwd c 1) (.gR c) 0 0 ∗ (∃ f, gP (F := F) (fwd c 2) c fullShare f) ∗ tk (F := F) c (.gS 2) 0 0 ∗ tk (F := F) (fwd c 2) (.gR c) 0 0 ∗ (∀ (a1 : BitVec 32), ∀ (a2 : BitVec 32), ∀ (a3 : BitVec 1), ∀ (a4 : BitVec 1), ∀ (a5 : BitVec 1), (gP c c (qtr 0) (GC I) ∗ gP c c (qtr 3) (GC I) ∗ cr (F := F) c (.gS 1) (Kd.gS 1).amt ∗ cr (F := F) c (.gS 2) (Kd.gS 2).amt ∗ ow (F := F) c ((debts c).drop 9)) -∗ Q ⟨a1, a2, a3, a4, a5⟩))
      ⊢ WP c (k0_part9 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2) Q := by
  rw [k0_part9_eq_skeleton]; unfold k0_part9_skel
  simp only [semSignalWord, semWaitWord, Prog.lift, Prog.bind_op, Prog.bind_ret, Prog.pure_eq_ret, wp_deviceId]
  iintro ⟨#Hc, G0, TG1, ho, t_gS1, t_gR1, TG2, t_gS2, t_gR2, Hk⟩
  ihave HH := (gP_own I c) $$ G0
  icases HH with ⟨G0_0, G0_1, G0_2, G0_3⟩
  iapply (send_g I c (fwd c 1) _ (.gS 1) (.gR c) ((debts c).drop 8) (dv8 c) c (k0_off12_eq c) rfl (by revert c; decide) rfl rfl (by revert c; decide) (by revert c; decide) (by rfl) rfl (qtr 1) rfl rfl) $$ [G0_1 TG1 ho t_gS1 t_gR1]
  · isplitr; · iexact Hc
    isplitl [G0_1]; · iexact G0_1
    isplitl [TG1]; · iexact TG1
    isplitl [ho]; · iexact ho
    isplitl [t_gS1]; · iexact t_gS1
    iexact t_gR1
  iintro ⟨c_gS1, ho⟩
  iapply (send_g I c (fwd c 2) _ (.gS 2) (.gR c) ((debts c).drop 9) (dv9 c) c (k0_off12_eq c) rfl (by revert c; decide) rfl rfl (by revert c; decide) (by revert c; decide) (by rfl) rfl (qtr 2) rfl rfl) $$ [G0_2 TG2 ho t_gS2 t_gR2]
  · isplitr; · iexact Hc
    isplitl [G0_2]; · iexact G0_2
    isplitl [TG2]; · iexact TG2
    isplitl [ho]; · iexact ho
    isplitl [t_gS2]; · iexact t_gS2
    iexact t_gR2
  iintro ⟨c_gS2, ho⟩
  iapply (r_ret c _ rfl)
  iapply Hk
  isplitl [G0_0]; · iexact G0_0
  isplitl [G0_3]; · iexact G0_3
  isplitl [c_gS1]; · iexact c_gS1
  isplitl [c_gS2]; · iexact c_gS2
  iexact ho

set_option maxHeartbeats 1600000 in
/-- The third copy; the token rows of the device before. -/
theorem part10 (c : Dev nD) (v2 : BitVec 32) (v13 : BitVec 32) (v292 : BitVec 32) (v293 : BitVec 32) (v294 : BitVec 1) (v295 : BitVec 1) (v296 : BitVec 1) {Q : _ → sProp 𝕄} :
    iprop(ctx I ∗ gP c c (qtr 3) (GC I) ∗ (∃ f, gP (F := F) (fwd c 3) c fullShare f) ∗ ow (F := F) c ((debts c).drop 9) ∗ tk (F := F) c (.gS 3) 0 0 ∗ tk (F := F) (fwd c 3) (.gR c) 0 0 ∗ cr (F := F) c (.agR 0) (Kd.agR 0).amt ∗ ap (F := F) c (.agR 0) 0 ∗ ((cr (F := F) c (.gS 3) (Kd.gS 3).amt ∗ ow (F := F) c ((debts c).drop 10) ∗ semVal (cell c (.agR 0)) 0 ∗ xP c (back c 1) fullShare.left (XC I) ∗ xP c (back c 1) fullShare.right (XC I)) -∗ Q (1#32)))
      ⊢ WP c (k0_part10 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v13 v292 v293 v294 v295 v296) Q := by
  rw [k0_part10_eq_skeleton]; unfold k0_part10_skel
  simp only [semSignalWord, semWaitWord, Prog.lift, Prog.bind_op, Prog.bind_ret, Prog.pure_eq_ret, wp_deviceId]
  iintro ⟨#Hc, G0_3, TG3, ho, t_gS3, t_gR3, c_agR0, p_agR0, Hk⟩
  iapply (send_g I c (fwd c 3) _ (.gS 3) (.gR c) ((debts c).drop 10) (dv10 c) c (k0_off12_eq c) rfl (by revert c; decide) rfl rfl (by revert c; decide) (by revert c; decide) (by rfl) rfl (qtr 3) rfl rfl) $$ [G0_3 TG3 ho t_gS3 t_gR3]
  · isplitr; · iexact Hc
    isplitl [G0_3]; · iexact G0_3
    isplitl [TG3]; · iexact TG3
    isplitl [ho]; · iexact ho
    isplitl [t_gS3]; · iexact t_gS3
    iexact t_gR3
  iintro ⟨c_gS3, ho⟩
  iapply (r_last I c (.agR 0) ((debts c).drop 10) 0 (wpE_waitDma2_eq 𝒱₀ (c : Thread nD τ) none Set.univ) rfl rfl rfl (by rfl) (by revert c; decide) (dut1 c (.agR 0) rfl)) $$ [c_agR0 ho p_agR0]
  · isplitr; · iexact Hc
    isplitl [c_agR0]; · iexact c_agR0
    isplitl [ho]; · iexact ho
    iexact p_agR0
  iintro ⟨ho, z_agR0, Hp⟩
  ihave HH := (show pay I c (.agR 0) 0 0 ⊢ iprop(xP c (back c 1) fullShare (XC I)) from Entails.of_eq rfl) $$ Hp
  icases HH with X1
  ihave HH := (xP_split c (back c 1) (XC I)) $$ X1
  icases HH with ⟨X1, X1r⟩
  iapply (r_ret c (1#32) rfl)
  iapply Hk
  isplitl [c_gS3]; · iexact c_gS3
  isplitl [ho]; · iexact ho
  isplitl [z_agR0]; · iexact z_agR0
  isplitl [X1]; · iexact X1
  iexact X1r

set_option maxHeartbeats 1600000 in
/-- The second hop; the gate values of the device before. -/
theorem part11 (c : Dev nD) (v2 : BitVec 32) (v13 : BitVec 32) (c1_i32_231 : BitVec 32) {Q : _ → sProp 𝕄} :
    iprop(ctx I ∗ xP c (back c 1) fullShare.left (XC I) ∗ (∃ f, xP (F := F) (fwd c 1) (back c 1) fullShare f) ∗ ow (F := F) c ((debts c).drop 10) ∗ tk (F := F) c (.agS 1) 0 0 ∗ tk (F := F) (fwd c 1) (.agR 1) 0 0 ∗ cr (F := F) c (.gR (back c 1)) (Kd.gR (back c 1)).amt ∗ ap (F := F) c (.gR (back c 1)) 0 ∗ (∀ (a1 : BitVec 32), ∀ (a2 : BitVec 32), ∀ (a3 : BitVec 1), (cr (F := F) c (.agS 1) (Kd.agS 1).amt ∗ ow (F := F) c ((debts c).drop 11) ∗ semVal (cell c (.gR (back c 1))) 0 ∗ gP c (back c 1) fullShare (GC I)) -∗ Q ⟨a1, a2, a3⟩))
      ⊢ WP c (k0_part11 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v13 c1_i32_231) Q := by
  rw [k0_part11_eq_skeleton]; unfold k0_part11_skel
  simp only [semSignalWord, semWaitWord, Prog.lift, Prog.bind_op, Prog.bind_ret, Prog.pure_eq_ret, wp_deviceId]
  iintro ⟨#Hc, X1, TX1, ho, t_agS1, t_agR1, c_gR1, p_gR1, Hk⟩
  iapply (send_x I c (fwd c 1) _ (.agS 1) (.agR 1) ((debts c).drop 11) (dv11 c) (back c 1) (by revert c; decide) rfl rfl rfl rfl (by revert c; decide) (by revert c; decide) (by rfl) rfl fullShare.left rfl (pay_agR1 I c)) $$ [X1 TX1 ho t_agS1 t_agR1]
  · isplitr; · iexact Hc
    isplitl [X1]; · iexact X1
    isplitl [TX1]; · iexact TX1
    isplitl [ho]; · iexact ho
    isplitl [t_agS1]; · iexact t_agS1
    iexact t_agR1
  iintro ⟨c_agS1, ho⟩
  iapply (r_last I c (.gR (back c 1)) ((debts c).drop 11) 0 (wpE_waitDma2_eq 𝒱₀ (c : Thread nD τ) none Set.univ) (by revert c; decide) rfl (by revert c; decide) (by rfl) (by revert c; decide) (dut1 c (.gR (back c 1)) rfl)) $$ [c_gR1 ho p_gR1]
  · isplitr; · iexact Hc
    isplitl [c_gR1]; · iexact c_gR1
    isplitl [ho]; · iexact ho
    iexact p_gR1
  iintro ⟨ho, z_gR1, Hp⟩
  ihave HH := (show pay I c (.gR (back c 1)) 0 0 ⊢ iprop(gP c (back c 1) fullShare (GC I)) from Entails.of_eq rfl) $$ Hp
  icases HH with G1
  iapply (r_ret c _ rfl)
  iapply Hk
  isplitl [c_agS1]; · iexact c_agS1
  isplitl [ho]; · iexact ho
  isplitl [z_gR1]; · iexact z_gR1
  iexact G1

set_option maxHeartbeats 1600000 in
/-- The remaining gate values. -/
theorem part12 (c : Dev nD) (v2 : BitVec 32) (v361 : BitVec 32) (v362 : BitVec 32) (v363 : BitVec 1) {Q : _ → sProp 𝕄} :
    iprop(ctx I ∗ cr (F := F) c (.gR (back c 2)) (Kd.gR (back c 2)).amt ∗ ow (F := F) c ((debts c).drop 11) ∗ ap (F := F) c (.gR (back c 2)) 0 ∗ cr (F := F) c (.gR (back c 3)) (Kd.gR (back c 3)).amt ∗ ap (F := F) c (.gR (back c 3)) 0 ∗ ((semVal (cell c (.gR (back c 2))) 0 ∗ gP c (back c 2) fullShare (GC I) ∗ ow (F := F) c ((debts c).drop 11) ∗ semVal (cell c (.gR (back c 3))) 0 ∗ gP c (back c 3) fullShare (GC I)) -∗ Q ⟨⟩))
      ⊢ WP c (k0_part12 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v361 v362 v363) Q := by
  rw [k0_part12_eq_skeleton]; unfold k0_part12_skel
  simp only [semSignalWord, semWaitWord, Prog.lift, Prog.bind_op, Prog.bind_ret, Prog.pure_eq_ret, wp_deviceId]
  iintro ⟨#Hc, c_gR2, ho, p_gR2, c_gR3, p_gR3, Hk⟩
  iapply (r_last I c (.gR (back c 2)) ((debts c).drop 11) 0 (wpE_waitDma2_eq 𝒱₀ (c : Thread nD τ) none Set.univ) (by revert c; decide) rfl (by revert c; decide) (by rfl) (by revert c; decide) (dut1 c (.gR (back c 2)) rfl)) $$ [c_gR2 ho p_gR2]
  · isplitr; · iexact Hc
    isplitl [c_gR2]; · iexact c_gR2
    isplitl [ho]; · iexact ho
    iexact p_gR2
  iintro ⟨ho, z_gR2, Hp⟩
  ihave HH := (show pay I c (.gR (back c 2)) 0 0 ⊢ iprop(gP c (back c 2) fullShare (GC I)) from Entails.of_eq rfl) $$ Hp
  icases HH with G2
  iapply (r_last I c (.gR (back c 3)) ((debts c).drop 11) 0 (wpE_waitDma2_eq 𝒱₀ (c : Thread nD τ) none Set.univ) (by revert c; decide) rfl (by revert c; decide) (by rfl) (by revert c; decide) (dut1 c (.gR (back c 3)) rfl)) $$ [c_gR3 ho p_gR3]
  · isplitr; · iexact Hc
    isplitl [c_gR3]; · iexact c_gR3
    isplitl [ho]; · iexact ho
    iexact p_gR3
  iintro ⟨ho, z_gR3, Hp⟩
  ihave HH := (show pay I c (.gR (back c 3)) 0 0 ⊢ iprop(gP c (back c 3) fullShare (GC I)) from Entails.of_eq rfl) $$ Hp
  icases HH with G3
  iapply (r_ret c ⟨⟩ rfl)
  iapply Hk
  isplitl [z_gR2]; · iexact z_gR2
  isplitl [G2]; · iexact G2
  isplitl [ho]; · iexact ho
  isplitl [z_gR3]; · iexact z_gR3
  iexact G3

end Cert.MoE

end
-- ==== Proof.PartsC.lean ====
/-
# The body, step by step: the routing and the first weights
-/
module

public import proofs.«01_k».proof.Proof.Slots

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

set_option maxHeartbeats 1600000 in
/-- The routing is computed from the gathered gate values. -/
theorem part13 (c : Dev nD)  {Q : _ → sProp 𝕄} :
    iprop(ctx I ∗ gP c c (qtr 0) (GC I) ∗ gP c (back c 1) fullShare (GC I) ∗ gP c (back c 2) fullShare (GC I) ∗ gP c (back c 3) fullShare (GC I) ∗ ((gRest I c ∗ gP c 0 (qtr 0) (GC I) ∗ gP c 1 (qtr 0) (GC I) ∗ gP c 2 (qtr 0) (GC I) ∗ gP c 3 (qtr 0) (GC I)) -∗ Q ⟨e406, v418 I, v433 I, v435 I, v437 I, one⟩))
      ⊢ WP c (k0_part13 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 ) Q := by
  rw [k0_part13_eq_skeleton]; unfold k0_part13_skel
  simp only [semSignalWord, semWaitWord, Prog.lift, Prog.bind_op, Prog.bind_ret, Prog.pure_eq_ret, wp_deviceId]
  simp only [e406, v418, v433, v435, v437, one, Scalar.ofBits]
  iintro ⟨#Hc, G0_0, G1, G2, G3, Hk⟩
  ihave HH := (gP_gath I c) $$ [G0_0 G1 G2 G3]
  · isplitl [G0_0]; · iexact G0_0
    isplitl [G1]; · iexact G1
    isplitl [G2]; · iexact G2
    iexact G3
  icases HH with ⟨LG0, LG1, LG2, LG3, restG⟩
  iapply (ld_g c 0 rfl) $$ [LG0]
  · iexact LG0
  iintro LG0
  iapply (ld_g c 1 rfl) $$ [LG1]
  · iexact LG1
  iintro LG1
  iapply (ld_g c 2 rfl) $$ [LG2]
  · iexact LG2
  iintro LG2
  iapply (ld_g c 3 rfl) $$ [LG3]
  · iexact LG3
  iintro LG3
  iapply (r_ret c _ rfl)
  iapply Hk
  isplitl [restG]; · iexact restG
  isplitl [LG0]; · iexact LG0
  isplitl [LG1]; · iexact LG1
  isplitl [LG2]; · iexact LG2
  iexact LG3

set_option maxHeartbeats 1600000 in
/-- The first expert's dispatch matrix and weights. -/
theorem part14 (c : Dev nD)  {Q : _ → sProp 𝕄} :
    iprop(ctx I ∗ (Q ⟨v447 I, v448 I, v454, v455, disp I c 0, wts I c 0, k0_pay23 (pos c) e406⟩))
      ⊢ WP c (k0_part14 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 (pos c) e406 (v418 I) (v433 I) (v435 I) (v437 I) one) Q := by
  rw [k0_part14_eq_skeleton]; unfold k0_part14_skel
  simp only [semSignalWord, semWaitWord, Prog.lift, Prog.bind_op, Prog.bind_ret, Prog.pure_eq_ret, wp_deviceId]
  simp only [v447, v448, v454, v455, disp, wts]
  iintro ⟨#Hc, Hk⟩
  iapply (r_ret c _ rfl)
  iapply Hk

set_option maxHeartbeats 1600000 in
/-- The second expert's, and the third's dispatch matrix. -/
theorem part15 (c : Dev nD)  {Q : _ → sProp 𝕄} :
    iprop(ctx I ∗ (Q ⟨disp I c 1, wts I c 1, k0_pay28 (pos c) e406 (v447 I), disp I c 2, constant S176x1 .f32 0x00000000#32⟩))
      ⊢ WP c (k0_part15 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 (pos c) e406 (v447 I) (v448 I) v454 v455 (k0_pay23 (pos c) e406)) Q := by
  rw [k0_part15_eq_skeleton]; unfold k0_part15_skel
  simp only [semSignalWord, semWaitWord, Prog.lift, Prog.bind_op, Prog.bind_ret, Prog.pure_eq_ret, wp_deviceId]
  simp only [disp, wts]
  iintro ⟨#Hc, Hk⟩
  iapply (r_ret c _ rfl)
  iapply Hk

set_option maxHeartbeats 1600000 in
/-- The accumulator is cleared; the second hop's rows arrive. -/
theorem part16 (c : Dev nD) (v13 : BitVec 32) {Q : _ → sProp 𝕄} :
    iprop(ctx I ∗ (∃ f, aP (F := F) c f) ∗ cr (F := F) c (.agR 1) (Kd.agR 1).amt ∗ ow (F := F) c ((debts c).drop 11) ∗ ap (F := F) c (.agR 1) 0 ∗ ((aP c (A0 (F := F)) ∗ ow (F := F) c ((debts c).drop 11) ∗ semVal (cell c (.agR 1)) 0 ∗ xP c (back c 2) fullShare.left (XC I) ∗ xP c (back c 2) fullShare.right (XC I)) -∗ Q ⟨wts I c 2, disp I c 3, wts I c 3⟩))
      ⊢ WP c (k0_part16 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c (pos c) v13 e406 (v447 I) (v448 I) v454 v455 (k0_pay28 (pos c) e406 (v447 I)) (disp I c 2) (constant S176x1 .f32 0x00000000#32)) Q := by
  rw [k0_part16_eq_skeleton]; unfold k0_part16_skel
  simp only [semSignalWord, semWaitWord, Prog.lift, Prog.bind_op, Prog.bind_ret, Prog.pure_eq_ret, wp_deviceId]
  simp only [disp, wts]
  iintro ⟨#Hc, A, c_agR1, ho, p_agR1, Hk⟩
  icases A with ⟨%fA, A⟩
  iapply (ld_a c) $$ [A]
  · iexact A
  iintro A
  iapply (st_a c) $$ [A]
  · iexact A
  iintro A
  iapply (r_last I c (.agR 1) ((debts c).drop 11) 0 (wpE_waitDma2_eq 𝒱₀ (c : Thread nD τ) none Set.univ) rfl rfl rfl (by rfl) (by revert c; decide) (dut1 c (.agR 1) rfl)) $$ [c_agR1 ho p_agR1]
  · isplitr; · iexact Hc
    isplitl [c_agR1]; · iexact c_agR1
    isplitl [ho]; · iexact ho
    iexact p_agR1
  iintro ⟨ho, z_agR1, Hp⟩
  ihave HH := (show pay I c (.agR 1) 0 0 ⊢ iprop(xP c (back c 2) fullShare (XC I)) from Entails.of_eq rfl) $$ Hp
  icases HH with X2
  ihave HH := (xP_split c (back c 2) (XC I)) $$ X2
  icases HH with ⟨X2, X2r⟩
  iapply (r_ret c _ rfl)
  iapply Hk
  isplitl [A]; · iexact A
  isplitl [ho]; · iexact ho
  isplitl [z_agR1]; · iexact z_agR1
  isplitl [X2]; · iexact X2
  iexact X2r

set_option maxHeartbeats 1600000 in
/-- The third hop; all token rows are there. -/
theorem part17 (c : Dev nD) (v2 : BitVec 32) (v13 : BitVec 32) {Q : _ → sProp 𝕄} :
    iprop(ctx I ∗ xP c (back c 2) fullShare.left (XC I) ∗ (∃ f, xP (F := F) (fwd c 1) (back c 2) fullShare f) ∗ ow (F := F) c ((debts c).drop 11) ∗ tk (F := F) c (.agS 2) 0 0 ∗ tk (F := F) (fwd c 1) (.agR 2) 0 0 ∗ cr (F := F) c (.agR 2) (Kd.agR 2).amt ∗ ap (F := F) c (.agR 2) 0 ∗ xP c c fullShare.right (XC I) ∗ xP c (back c 1) fullShare.right (XC I) ∗ xP c (back c 2) fullShare.right (XC I) ∗ ((cr (F := F) c (.agS 2) (Kd.agS 2).amt ∗ ow (F := F) c ((debts c).drop 12) ∗ semVal (cell c (.agR 2)) 0 ∗ xP c (back c 3) fullShare.left (XC I) ∗ xP c 1 fullShare.right (XC I) ∗ xP c 2 fullShare.right (XC I) ∗ xP c 3 fullShare.right (XC I) ∗ xP c 0 fullShare.right (XC I)) -∗ Q (k0_pay35 (sl3 (XC I) 0))))
      ⊢ WP c (k0_part17 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v13) Q := by
  rw [k0_part17_eq_skeleton]; unfold k0_part17_skel
  simp only [semSignalWord, semWaitWord, Prog.lift, Prog.bind_op, Prog.bind_ret, Prog.pure_eq_ret, wp_deviceId]
  iintro ⟨#Hc, X2, TX2, ho, t_agS2, t_agR2, c_agR2, p_agR2, X0r, X1r, X2r, Hk⟩
  iapply (send_x I c (fwd c 1) _ (.agS 2) (.agR 2) ((debts c).drop 12) (dv12 c) (back c 2) (by revert c; decide) rfl rfl rfl rfl (by revert c; decide) (by revert c; decide) (by rfl) rfl fullShare.left rfl (pay_agR2 I c)) $$ [X2 TX2 ho t_agS2 t_agR2]
  · isplitr; · iexact Hc
    isplitl [X2]; · iexact X2
    isplitl [TX2]; · iexact TX2
    isplitl [ho]; · iexact ho
    isplitl [t_agS2]; · iexact t_agS2
    iexact t_agR2
  iintro ⟨c_agS2, ho⟩
  iapply (r_last I c (.agR 2) ((debts c).drop 12) 0 (wpE_waitDma2_eq 𝒱₀ (c : Thread nD τ) none Set.univ) rfl rfl rfl (by rfl) (by revert c; decide) (dut1 c (.agR 2) rfl)) $$ [c_agR2 ho p_agR2]
  · isplitr; · iexact Hc
    isplitl [c_agR2]; · iexact c_agR2
    isplitl [ho]; · iexact ho
    iexact p_agR2
  iintro ⟨ho, z_agR2, Hp⟩
  ihave HH := (show pay I c (.agR 2) 0 0 ⊢ iprop(xP c (back c 3) fullShare (XC I)) from Entails.of_eq rfl) $$ Hp
  icases HH with X3
  ihave HH := (xP_split c (back c 3) (XC I)) $$ X3
  icases HH with ⟨X3, X3r⟩
  ihave HH := (xP_abs I c) $$ [X0r X1r X2r X3r]
  · isplitl [X0r]; · iexact X0r
    isplitl [X1r]; · iexact X1r
    isplitl [X2r]; · iexact X2r
    iexact X3r
  icases HH with ⟨LX0, LX1, LX2, LX3⟩
  iapply (ld_x c 0 rfl) $$ [LX0]
  · iexact LX0
  iintro LX0
  iapply (r_ret c (k0_pay35 (sl3 (XC I) 0)) rfl)
  iapply Hk
  isplitl [c_agS2]; · iexact c_agS2
  isplitl [ho]; · iexact ho
  isplitl [z_agR2]; · iexact z_agR2
  isplitl [X3]; · iexact X3
  isplitl [LX1]; · iexact LX1
  isplitl [LX2]; · iexact LX2
  isplitl [LX3]; · iexact LX3
  iexact LX0

set_option maxHeartbeats 1600000 in
/-- The first expert's weights arrive; the second's up weights are fetched. -/
theorem part18 (c : Dev nD)  {Q : _ → sProp 𝕄} :
    iprop(ctx I ∗ xP c 1 fullShare.right (XC I) ∗ xP c 2 fullShare.right (XC I) ∗ xP c 3 fullShare.right (XC I) ∗ cr (F := F) c (.w1 0) (Kd.w1 0).amt ∗ ow (F := F) c ((debts c).drop 12) ∗ ap (F := F) c (.w1 0) 0 ∗ cr (F := F) c (.w2 0) (Kd.w2 0).amt ∗ ap (F := F) c (.w2 0) 0 ∗ e1P c 1 fullShare (I.w1 c) ∗ (∃ f, b1P (F := F) c 1 fullShare f) ∗ tk (F := F) c (.w1 1) 0 0 ∗ ((xP c 1 fullShare.right (XC I) ∗ xP c 2 fullShare.right (XC I) ∗ xP c 3 fullShare.right (XC I) ∗ ap (F := F) c (.w1 0) 1 ∗ reached ER (cell c (.w1 0)) 1 ∗ b1P c 0 fullShare (WB1 I c 0) ∗ e1P c 0 fullShare (I.w1 c) ∗ ow (F := F) c ((debts c).drop 12) ∗ ap (F := F) c (.w2 0) 1 ∗ reached ER (cell c (.w2 0)) 1 ∗ b2P c 0 fullShare (WB2 I c 0) ∗ e2P c 0 fullShare (I.w2 c) ∗ cr (F := F) c (.w1 1) (Kd.w1 1).amt) -∗ Q (xfull I)))
      ⊢ WP c (k0_part18 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 (k0_pay35 (sl3 (XC I) 0))) Q := by
  rw [k0_part18_eq_skeleton]; unfold k0_part18_skel
  simp only [semSignalWord, semWaitWord, Prog.lift, Prog.bind_op, Prog.bind_ret, Prog.pure_eq_ret, wp_deviceId]
  simp only [xfull]
  iintro ⟨#Hc, LX1, LX2, LX3, c_w1_0, ho, p_w1_0, c_w2_0, p_w2_0, E1_1, B1_1, t_w1_1_0, Hk⟩
  iapply (ld_x c 1 rfl) $$ [LX1]
  · iexact LX1
  iintro LX1
  iapply (ld_x c 2 rfl) $$ [LX2]
  · iexact LX2
  iintro LX2
  iapply (ld_x c 3 rfl) $$ [LX3]
  · iexact LX3
  iintro LX3
  iapply (r_next I c (.w1 0) ((debts c).drop 12) 0 (wpE_waitDma2_eq 𝒱₀ (c : Thread nD τ) none Set.univ) rfl rfl rfl (by rfl) (by revert c; decide)) $$ [c_w1_0 ho p_w1_0]
  · isplitr; · iexact Hc
    isplitl [c_w1_0]; · iexact c_w1_0
    isplitl [ho]; · iexact ho
    iexact p_w1_0
  iintro ⟨ho, p_w1_0, r_w1_0, Hp⟩
  ihave HH := (show pay I c (.w1 0) 0 0 ⊢ iprop(b1P c 0 fullShare (WB1 I c 0) ∗ e1P c 0 fullShare (I.w1 c)) from Entails.of_eq rfl) $$ Hp
  icases HH with ⟨B1_0, E1_0⟩
  iapply (r_next I c (.w2 0) ((debts c).drop 12) 0 (wpE_waitDma2_eq 𝒱₀ (c : Thread nD τ) none Set.univ) rfl rfl rfl (by rfl) (by revert c; decide)) $$ [c_w2_0 ho p_w2_0]
  · isplitr; · iexact Hc
    isplitl [c_w2_0]; · iexact c_w2_0
    isplitl [ho]; · iexact ho
    iexact p_w2_0
  iintro ⟨ho, p_w2_0, r_w2_0, Hp⟩
  ihave HH := (show pay I c (.w2 0) 0 0 ⊢ iprop(b2P c 0 fullShare (WB2 I c 0) ∗ e2P c 0 fullShare (I.w2 c)) from Entails.of_eq rfl) $$ Hp
  icases HH with ⟨B2_0, E2_0⟩
  ihave r_w1_1 := (ctx_reached I c (.w1 1) rfl) $$ Hc
  iapply (copy_b1 I c 1 1 0 rfl rfl rfl (by revert c; decide) (by rfl) rfl) $$ [E1_1 B1_1 t_w1_1_0 r_w1_1]
  · isplitr; · iexact Hc
    isplitl [E1_1]; · iexact E1_1
    isplitl [B1_1]; · iexact B1_1
    isplitl [t_w1_1_0]; · iexact t_w1_1_0
    iexact r_w1_1
  iintro c_w1_1
  iapply (r_ret c _ rfl)
  iapply Hk
  isplitl [LX1]; · iexact LX1
  isplitl [LX2]; · iexact LX2
  isplitl [LX3]; · iexact LX3
  isplitl [p_w1_0]; · iexact p_w1_0
  isplitl [r_w1_0]; · iexact r_w1_0
  isplitl [B1_0]; · iexact B1_0
  isplitl [E1_0]; · iexact E1_0
  isplitl [ho]; · iexact ho
  isplitl [p_w2_0]; · iexact p_w2_0
  isplitl [r_w2_0]; · iexact r_w2_0
  isplitl [B2_0]; · iexact B2_0
  isplitl [E2_0]; · iexact E2_0
  iexact c_w1_1

end Cert.MoE

end
-- ==== Proof.PartsD.lean ====
/-
# The body, step by step: the the experts
-/
module

public import proofs.«01_k».proof.Proof.Slots

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

set_option maxHeartbeats 1600000 in
/-- The first expert. -/
theorem part19 (c : Dev nD)  {Q : _ → sProp 𝕄} :
    iprop(ctx I ∗ e2P c 1 fullShare (I.w2 c) ∗ (∃ f, b2P (F := F) c 1 fullShare f) ∗ tk (F := F) c (.w2 1) 0 0 ∗ b1P c 0 fullShare (WB1 I c 0) ∗ b2P c 0 fullShare (WB2 I c 0) ∗ aP c (A0 (F := F)) ∗ ((cr (F := F) c (.w2 1) (Kd.w2 1).amt ∗ b1P c 0 fullShare (WB1 I c 0) ∗ b2P c 0 fullShare (WB2 I c 0) ∗ aP c (A1 I c)) -∗ Q ⟨⟩))
      ⊢ WP c (k0_part19 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 (disp I c 0) (wts I c 0) (xfull I)) Q := by
  rw [k0_part19_eq_skeleton]; unfold k0_part19_skel
  simp only [semSignalWord, semWaitWord, Prog.lift, Prog.bind_op, Prog.bind_ret, Prog.pure_eq_ret, wp_deviceId]
  iintro ⟨#Hc, E2_1, B2_1, t_w2_1_0, B1_0, B2_0, A, Hk⟩
  ihave r_w2_1 := (ctx_reached I c (.w2 1) rfl) $$ Hc
  iapply (copy_b2 I c 1 1 0 rfl rfl rfl (by revert c; decide) (by rfl) rfl) $$ [E2_1 B2_1 t_w2_1_0 r_w2_1]
  · isplitr; · iexact Hc
    isplitl [E2_1]; · iexact E2_1
    isplitl [B2_1]; · iexact B2_1
    isplitl [t_w2_1_0]; · iexact t_w2_1_0
    iexact r_w2_1
  iintro c_w2_1
  iapply (ld_wb1 I c 0 0 rfl) $$ [B1_0]
  · iexact B1_0
  iintro B1_0
  iapply (ld_wb2 I c 0 0 rfl) $$ [B2_0]
  · iexact B2_0
  iintro B2_0
  iapply (ld_a c) $$ [A]
  · iexact A
  iintro A
  iapply (ld_a c) $$ [A]
  · iexact A
  iintro A
  iapply (st_a c) $$ [A]
  · iexact A
  iintro A
  iapply (r_ret c ⟨⟩ rfl)
  iapply Hk
  isplitl [c_w2_1]; · iexact c_w2_1
  isplitl [B1_0]; · iexact B1_0
  isplitl [B2_0]; · iexact B2_0
  iexact A

set_option maxHeartbeats 1600000 in
/-- The second expert's weights arrive; the third's are fetched. -/
theorem part20 (c : Dev nD)  {Q : _ → sProp 𝕄} :
    iprop(ctx I ∗ cr (F := F) c (.w1 1) (Kd.w1 1).amt ∗ ow (F := F) c ((debts c).drop 12) ∗ ap (F := F) c (.w1 1) 0 ∗ cr (F := F) c (.w2 1) (Kd.w2 1).amt ∗ ap (F := F) c (.w2 1) 0 ∗ b1P c 0 fullShare (WB1 I c 0) ∗ b2P c 0 fullShare (WB2 I c 0) ∗ e1P c 2 fullShare (I.w1 c) ∗ tk (F := F) c (.w1 0) 1 0 ∗ reached ER (cell c (.w1 0)) 1 ∗ e2P c 2 fullShare (I.w2 c) ∗ tk (F := F) c (.w2 0) 1 0 ∗ reached ER (cell c (.w2 0)) 1 ∗ ((ap (F := F) c (.w1 1) 1 ∗ reached ER (cell c (.w1 1)) 1 ∗ e1P c 1 fullShare (I.w1 c) ∗ ow (F := F) c ((debts c).drop 12) ∗ ap (F := F) c (.w2 1) 1 ∗ reached ER (cell c (.w2 1)) 1 ∗ b2P c 1 fullShare (WB2 I c 1) ∗ e2P c 1 fullShare (I.w2 c) ∗ cr (F := F) c (.w1 0) (Kd.w1 0).amt ∗ cr (F := F) c (.w2 0) (Kd.w2 0).amt ∗ b1P c 1 fullShare (WB1 I c 1)) -∗ Q (k0_pay38 (disp I c 1) (xfull I) (sl3 (I.w1 c) 1))))
      ⊢ WP c (k0_part20 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 (disp I c 1) (xfull I)) Q := by
  rw [k0_part20_eq_skeleton]; unfold k0_part20_skel
  simp only [semSignalWord, semWaitWord, Prog.lift, Prog.bind_op, Prog.bind_ret, Prog.pure_eq_ret, wp_deviceId]
  iintro ⟨#Hc, c_w1_1, ho, p_w1_1, c_w2_1, p_w2_1, B1_0, B2_0, E1_2, t_w1_0_1, r_w1_0, E2_2, t_w2_0_1, r_w2_0, Hk⟩
  iapply (r_next I c (.w1 1) ((debts c).drop 12) 0 (wpE_waitDma2_eq 𝒱₀ (c : Thread nD τ) none Set.univ) rfl rfl rfl (by rfl) (by revert c; decide)) $$ [c_w1_1 ho p_w1_1]
  · isplitr; · iexact Hc
    isplitl [c_w1_1]; · iexact c_w1_1
    isplitl [ho]; · iexact ho
    iexact p_w1_1
  iintro ⟨ho, p_w1_1, r_w1_1, Hp⟩
  ihave HH := (show pay I c (.w1 1) 0 0 ⊢ iprop(b1P c 1 fullShare (WB1 I c 1) ∗ e1P c 1 fullShare (I.w1 c)) from Entails.of_eq rfl) $$ Hp
  icases HH with ⟨B1_1, E1_1⟩
  iapply (r_next I c (.w2 1) ((debts c).drop 12) 0 (wpE_waitDma2_eq 𝒱₀ (c : Thread nD τ) none Set.univ) rfl rfl rfl (by rfl) (by revert c; decide)) $$ [c_w2_1 ho p_w2_1]
  · isplitr; · iexact Hc
    isplitl [c_w2_1]; · iexact c_w2_1
    isplitl [ho]; · iexact ho
    iexact p_w2_1
  iintro ⟨ho, p_w2_1, r_w2_1, Hp⟩
  ihave HH := (show pay I c (.w2 1) 0 0 ⊢ iprop(b2P c 1 fullShare (WB2 I c 1) ∗ e2P c 1 fullShare (I.w2 c)) from Entails.of_eq rfl) $$ Hp
  icases HH with ⟨B2_1, E2_1⟩
  ihave HH := (b1P_ex c 0 (WB1 I c 0)) $$ B1_0
  icases HH with B1_0
  ihave HH := (b2P_ex c 0 (WB2 I c 0)) $$ B2_0
  icases HH with B2_0
  iapply (copy_b1 I c 0 2 1 rfl rfl rfl (by revert c; decide) (by rfl) rfl) $$ [E1_2 B1_0 t_w1_0_1 r_w1_0]
  · isplitr; · iexact Hc
    isplitl [E1_2]; · iexact E1_2
    isplitl [B1_0]; · iexact B1_0
    isplitl [t_w1_0_1]; · iexact t_w1_0_1
    iexact r_w1_0
  iintro c_w1_0
  iapply (copy_b2 I c 0 2 1 rfl rfl rfl (by revert c; decide) (by rfl) rfl) $$ [E2_2 B2_0 t_w2_0_1 r_w2_0]
  · isplitr; · iexact Hc
    isplitl [E2_2]; · iexact E2_2
    isplitl [B2_0]; · iexact B2_0
    isplitl [t_w2_0_1]; · iexact t_w2_0_1
    iexact r_w2_0
  iintro c_w2_0
  iapply (ld_wb1 I c 1 1 rfl) $$ [B1_1]
  · iexact B1_1
  iintro B1_1
  iapply (r_ret c (k0_pay38 (disp I c 1) (xfull I) (sl3 (I.w1 c) 1)) rfl)
  iapply Hk
  isplitl [p_w1_1]; · iexact p_w1_1
  isplitl [r_w1_1]; · iexact r_w1_1
  isplitl [E1_1]; · iexact E1_1
  isplitl [ho]; · iexact ho
  isplitl [p_w2_1]; · iexact p_w2_1
  isplitl [r_w2_1]; · iexact r_w2_1
  isplitl [B2_1]; · iexact B2_1
  isplitl [E2_1]; · iexact E2_1
  isplitl [c_w1_0]; · iexact c_w1_0
  isplitl [c_w2_0]; · iexact c_w2_0
  iexact B1_1

set_option maxHeartbeats 1600000 in
/-- The second expert; the third's weights arrive. -/
theorem part21 (c : Dev nD)  {Q : _ → sProp 𝕄} :
    iprop(ctx I ∗ b2P c 1 fullShare (WB2 I c 1) ∗ aP c (A1 I c) ∗ cr (F := F) c (.w1 0) (Kd.w1 0).amt ∗ ow (F := F) c ((debts c).drop 12) ∗ ap (F := F) c (.w1 0) 1 ∗ cr (F := F) c (.w2 0) (Kd.w2 0).amt ∗ ap (F := F) c (.w2 0) 1 ∗ ((b2P c 1 fullShare (WB2 I c 1) ∗ aP c (A2 I c) ∗ semVal (cell c (.w1 0)) 0 ∗ b1P c 0 fullShare (WB1 I c 2) ∗ e1P c 2 fullShare (I.w1 c) ∗ ow (F := F) c ((debts c).drop 12) ∗ semVal (cell c (.w2 0)) 0 ∗ b2P c 0 fullShare (WB2 I c 2) ∗ e2P c 2 fullShare (I.w2 c)) -∗ Q ⟨⟩))
      ⊢ WP c (k0_part21 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 (disp I c 1) (wts I c 1) (k0_pay38 (disp I c 1) (xfull I) (sl3 (I.w1 c) 1))) Q := by
  rw [k0_part21_eq_skeleton]; unfold k0_part21_skel
  simp only [semSignalWord, semWaitWord, Prog.lift, Prog.bind_op, Prog.bind_ret, Prog.pure_eq_ret, wp_deviceId]
  iintro ⟨#Hc, B2_1, A, c_w1_0, ho, p_w1_0, c_w2_0, p_w2_0, Hk⟩
  iapply (ld_wb2 I c 1 1 rfl) $$ [B2_1]
  · iexact B2_1
  iintro B2_1
  iapply (ld_a c) $$ [A]
  · iexact A
  iintro A
  iapply (ld_a c) $$ [A]
  · iexact A
  iintro A
  iapply (st_a c) $$ [A]
  · iexact A
  iintro A
  iapply (r_last I c (.w1 0) ((debts c).drop 12) 1 (wpE_waitDma2_eq 𝒱₀ (c : Thread nD τ) none Set.univ) rfl rfl rfl (by rfl) (by revert c; decide) (dut2 c (.w1 0))) $$ [c_w1_0 ho p_w1_0]
  · isplitr; · iexact Hc
    isplitl [c_w1_0]; · iexact c_w1_0
    isplitl [ho]; · iexact ho
    iexact p_w1_0
  iintro ⟨ho, z_w1_0, Hp⟩
  ihave HH := (show pay I c (.w1 0) 1 0 ⊢ iprop(b1P c 0 fullShare (WB1 I c 2) ∗ e1P c 2 fullShare (I.w1 c)) from Entails.of_eq rfl) $$ Hp
  icases HH with ⟨B1_0, E1_2⟩
  iapply (r_last I c (.w2 0) ((debts c).drop 12) 1 (wpE_waitDma2_eq 𝒱₀ (c : Thread nD τ) none Set.univ) rfl rfl rfl (by rfl) (by revert c; decide) (dut2 c (.w2 0))) $$ [c_w2_0 ho p_w2_0]
  · isplitr; · iexact Hc
    isplitl [c_w2_0]; · iexact c_w2_0
    isplitl [ho]; · iexact ho
    iexact p_w2_0
  iintro ⟨ho, z_w2_0, Hp⟩
  ihave HH := (show pay I c (.w2 0) 1 0 ⊢ iprop(b2P c 0 fullShare (WB2 I c 2) ∗ e2P c 2 fullShare (I.w2 c)) from Entails.of_eq rfl) $$ Hp
  icases HH with ⟨B2_0, E2_2⟩
  iapply (r_ret c ⟨⟩ rfl)
  iapply Hk
  isplitl [B2_1]; · iexact B2_1
  isplitl [A]; · iexact A
  isplitl [z_w1_0]; · iexact z_w1_0
  isplitl [B1_0]; · iexact B1_0
  isplitl [E1_2]; · iexact E1_2
  isplitl [ho]; · iexact ho
  isplitl [z_w2_0]; · iexact z_w2_0
  isplitl [B2_0]; · iexact B2_0
  iexact E2_2

set_option maxHeartbeats 1600000 in
/-- The fourth expert's weights are fetched; the third expert. -/
theorem part22 (c : Dev nD)  {Q : _ → sProp 𝕄} :
    iprop(ctx I ∗ b1P c 1 fullShare (WB1 I c 1) ∗ b2P c 1 fullShare (WB2 I c 1) ∗ e1P c 3 fullShare (I.w1 c) ∗ tk (F := F) c (.w1 1) 1 0 ∗ reached ER (cell c (.w1 1)) 1 ∗ e2P c 3 fullShare (I.w2 c) ∗ tk (F := F) c (.w2 1) 1 0 ∗ reached ER (cell c (.w2 1)) 1 ∗ b1P c 0 fullShare (WB1 I c 2) ∗ b2P c 0 fullShare (WB2 I c 2) ∗ aP c (A2 I c) ∗ ((cr (F := F) c (.w1 1) (Kd.w1 1).amt ∗ cr (F := F) c (.w2 1) (Kd.w2 1).amt ∗ b1P c 0 fullShare (WB1 I c 2) ∗ b2P c 0 fullShare (WB2 I c 2) ∗ aP c (A3 I c)) -∗ Q ⟨⟩))
      ⊢ WP c (k0_part22 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 (disp I c 2) (wts I c 2) (xfull I)) Q := by
  rw [k0_part22_eq_skeleton]; unfold k0_part22_skel
  simp only [semSignalWord, semWaitWord, Prog.lift, Prog.bind_op, Prog.bind_ret, Prog.pure_eq_ret, wp_deviceId]
  iintro ⟨#Hc, B1_1, B2_1, E1_3, t_w1_1_1, r_w1_1, E2_3, t_w2_1_1, r_w2_1, B1_0, B2_0, A, Hk⟩
  ihave HH := (b1P_ex c 1 (WB1 I c 1)) $$ B1_1
  icases HH with B1_1
  ihave HH := (b2P_ex c 1 (WB2 I c 1)) $$ B2_1
  icases HH with B2_1
  iapply (copy_b1 I c 1 3 1 rfl rfl rfl (by revert c; decide) (by rfl) rfl) $$ [E1_3 B1_1 t_w1_1_1 r_w1_1]
  · isplitr; · iexact Hc
    isplitl [E1_3]; · iexact E1_3
    isplitl [B1_1]; · iexact B1_1
    isplitl [t_w1_1_1]; · iexact t_w1_1_1
    iexact r_w1_1
  iintro c_w1_1
  iapply (copy_b2 I c 1 3 1 rfl rfl rfl (by revert c; decide) (by rfl) rfl) $$ [E2_3 B2_1 t_w2_1_1 r_w2_1]
  · isplitr; · iexact Hc
    isplitl [E2_3]; · iexact E2_3
    isplitl [B2_1]; · iexact B2_1
    isplitl [t_w2_1_1]; · iexact t_w2_1_1
    iexact r_w2_1
  iintro c_w2_1
  iapply (ld_wb1 I c 0 2 rfl) $$ [B1_0]
  · iexact B1_0
  iintro B1_0
  iapply (ld_wb2 I c 0 2 rfl) $$ [B2_0]
  · iexact B2_0
  iintro B2_0
  iapply (ld_a c) $$ [A]
  · iexact A
  iintro A
  iapply (ld_a c) $$ [A]
  · iexact A
  iintro A
  iapply (st_a c) $$ [A]
  · iexact A
  iintro A
  iapply (r_ret c ⟨⟩ rfl)
  iapply Hk
  isplitl [c_w1_1]; · iexact c_w1_1
  isplitl [c_w2_1]; · iexact c_w2_1
  isplitl [B1_0]; · iexact B1_0
  isplitl [B2_0]; · iexact B2_0
  iexact A

set_option maxHeartbeats 1600000 in
/-- The fourth expert. -/
theorem part23 (c : Dev nD) (v2 : BitVec 32) {Q : _ → sProp 𝕄} :
    iprop(ctx I ∗ cr (F := F) c (.w1 1) (Kd.w1 1).amt ∗ ow (F := F) c ((debts c).drop 12) ∗ ap (F := F) c (.w1 1) 1 ∗ cr (F := F) c (.w2 1) (Kd.w2 1).amt ∗ ap (F := F) c (.w2 1) 1 ∗ aP c (A3 I c) ∗ (∀ (a1 : BitVec 32), (semVal (cell c (.w1 1)) 0 ∗ e1P c 3 fullShare (I.w1 c) ∗ ow (F := F) c ((debts c).drop 12) ∗ semVal (cell c (.w2 1)) 0 ∗ e2P c 3 fullShare (I.w2 c) ∗ b1P c 1 fullShare (WB1 I c 3) ∗ b2P c 1 fullShare (WB2 I c 3) ∗ aP c (A4 I c)) -∗ Q ⟨a1, 4#32⟩))
      ⊢ WP c (k0_part23 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 v2 (disp I c 3) (wts I c 3) (xfull I)) Q := by
  rw [k0_part23_eq_skeleton]; unfold k0_part23_skel
  simp only [semSignalWord, semWaitWord, Prog.lift, Prog.bind_op, Prog.bind_ret, Prog.pure_eq_ret, wp_deviceId]
  iintro ⟨#Hc, c_w1_1, ho, p_w1_1, c_w2_1, p_w2_1, A, Hk⟩
  iapply (r_last I c (.w1 1) ((debts c).drop 12) 1 (wpE_waitDma2_eq 𝒱₀ (c : Thread nD τ) none Set.univ) rfl rfl rfl (by rfl) (by revert c; decide) (dut2 c (.w1 1))) $$ [c_w1_1 ho p_w1_1]
  · isplitr; · iexact Hc
    isplitl [c_w1_1]; · iexact c_w1_1
    isplitl [ho]; · iexact ho
    iexact p_w1_1
  iintro ⟨ho, z_w1_1, Hp⟩
  ihave HH := (show pay I c (.w1 1) 1 0 ⊢ iprop(b1P c 1 fullShare (WB1 I c 3) ∗ e1P c 3 fullShare (I.w1 c)) from Entails.of_eq rfl) $$ Hp
  icases HH with ⟨B1_1, E1_3⟩
  iapply (r_last I c (.w2 1) ((debts c).drop 12) 1 (wpE_waitDma2_eq 𝒱₀ (c : Thread nD τ) none Set.univ) rfl rfl rfl (by rfl) (by revert c; decide) (dut2 c (.w2 1))) $$ [c_w2_1 ho p_w2_1]
  · isplitr; · iexact Hc
    isplitl [c_w2_1]; · iexact c_w2_1
    isplitl [ho]; · iexact ho
    iexact p_w2_1
  iintro ⟨ho, z_w2_1, Hp⟩
  ihave HH := (show pay I c (.w2 1) 1 0 ⊢ iprop(b2P c 1 fullShare (WB2 I c 3) ∗ e2P c 3 fullShare (I.w2 c)) from Entails.of_eq rfl) $$ Hp
  icases HH with ⟨B2_1, E2_3⟩
  iapply (ld_wb1 I c 1 3 rfl) $$ [B1_1]
  · iexact B1_1
  iintro B1_1
  iapply (ld_wb2 I c 1 3 rfl) $$ [B2_1]
  · iexact B2_1
  iintro B2_1
  iapply (ld_a c) $$ [A]
  · iexact A
  iintro A
  iapply (ld_a c) $$ [A]
  · iexact A
  iintro A
  iapply (st_a c) $$ [A]
  · iexact A
  iintro A
  iapply (r_ret c _ rfl)
  iapply Hk
  isplitl [z_w1_1]; · iexact z_w1_1
  isplitl [E1_3]; · iexact E1_3
  isplitl [ho]; · iexact ho
  isplitl [z_w2_1]; · iexact z_w2_1
  isplitl [E2_3]; · iexact E2_3
  isplitl [B1_1]; · iexact B1_1
  isplitl [B2_1]; · iexact B2_1
  iexact A

end Cert.MoE

end
-- ==== Proof.PartsE.lean ====
/-
# The body, step by step: the partial sums round the ring
-/
module

public import proofs.«01_k».proof.Proof.Slots

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

set_option maxHeartbeats 1600000 in
/-- The partial sums for the device before start around the ring. -/
theorem part24 (c : Dev nD) (v13 : BitVec 32) (v779 : BitVec 32) (c4_i32_534 : BitVec 32) {Q : _ → sProp 𝕄} :
    iprop(ctx I ∗ aP c (A4 I c) ∗ (∃ f, sP (F := F) c 0 fullShare f) ∗ (∃ f, vP (F := F) (fwd c 1) 0 fullShare f) ∗ ow (F := F) c ((debts c).drop 12) ∗ tk (F := F) c (.sS 0) 0 0 ∗ tk (F := F) (fwd c 1) (.sR 0) 0 0 ∗ ((aP c (A4 I c) ∗ cr (F := F) c (.sS 0) (Kd.sS 0).amt ∗ ow (F := F) c ((debts c).drop 13)) -∗ Q ⟨⟩))
      ⊢ WP c (k0_part24 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v13 v779 c4_i32_534) Q := by
  rw [k0_part24_eq_skeleton]; unfold k0_part24_skel
  simp only [semSignalWord, semWaitWord, Prog.lift, Prog.bind_op, Prog.bind_ret, Prog.pure_eq_ret, wp_deviceId]
  iintro ⟨#Hc, A, S0, TV0, ho, t_sS0, t_sR0, Hk⟩
  iapply (ld_rows c (back c 1) (by revert c; decide)) $$ [A]
  · iexact A
  iintro A
  icases S0 with ⟨%fS0, S0⟩
  iapply (ld_s c 0 rfl) $$ [S0]
  · iexact S0
  iintro S0
  iapply (st_s c 0 rfl) $$ [S0]
  · iexact S0
  iintro S0
  ihave HH := (sP_own0 I c) $$ S0
  icases HH with S0
  iapply (send_s I c (fwd c 1) _ (.sS 0) (.sR 0) ((debts c).drop 13) (dv13 c) 0 rfl rfl rfl rfl rfl (by revert c; decide) (by revert c; decide) (by rfl) rfl (RSB I c 0) rfl (pay_sR I c 0)) $$ [S0 TV0 ho t_sS0 t_sR0]
  · isplitr; · iexact Hc
    isplitl [S0]; · iexact S0
    isplitl [TV0]; · iexact TV0
    isplitl [ho]; · iexact ho
    isplitl [t_sS0]; · iexact t_sS0
    iexact t_sR0
  iintro ⟨c_sS0, ho⟩
  iapply (r_ret c ⟨⟩ rfl)
  iapply Hk
  isplitl [A]; · iexact A
  isplitl [c_sS0]; · iexact c_sS0
  iexact ho

set_option maxHeartbeats 1600000 in
/-- The second step's partial sums. -/
theorem part25 (c : Dev nD) (v2 : BitVec 32) (v13 : BitVec 32) {Q : _ → sProp 𝕄} :
    iprop(ctx I ∗ cr (F := F) c (.sR 0) (Kd.sR 0).amt ∗ ow (F := F) c ((debts c).drop 13) ∗ ap (F := F) c (.sR 0) 0 ∗ aP c (A4 I c) ∗ (∃ f, sP (F := F) c 1 fullShare f) ∗ ((ow (F := F) c ((debts c).drop 13) ∗ semVal (cell c (.sR 0)) 0 ∗ aP c (A4 I c) ∗ vP c 0 fullShare (RSB I (back c 1) 0) ∗ sP c 1 fullShare (RSB I c 1)) -∗ Q ⟨⟩))
      ⊢ WP c (k0_part25 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v13) Q := by
  rw [k0_part25_eq_skeleton]; unfold k0_part25_skel
  simp only [semSignalWord, semWaitWord, Prog.lift, Prog.bind_op, Prog.bind_ret, Prog.pure_eq_ret, wp_deviceId]
  iintro ⟨#Hc, c_sR0, ho, p_sR0, A, S1, Hk⟩
  iapply (r_last I c (.sR 0) ((debts c).drop 13) 0 (wpE_waitDma2_eq 𝒱₀ (c : Thread nD τ) none Set.univ) rfl rfl rfl (by rfl) (by revert c; decide) (dut1 c (.sR 0) rfl)) $$ [c_sR0 ho p_sR0]
  · isplitr; · iexact Hc
    isplitl [c_sR0]; · iexact c_sR0
    isplitl [ho]; · iexact ho
    iexact p_sR0
  iintro ⟨ho, z_sR0, Hp⟩
  ihave HH := (show pay I c (.sR 0) 0 0 ⊢ iprop(vP c 0 fullShare (RSB I (back c 1) 0)) from Entails.of_eq rfl) $$ Hp
  icases HH with V0
  iapply (ld_rows c (back c 2) (by revert c; decide)) $$ [A]
  · iexact A
  iintro A
  iapply (ld_vs I c (back c 1) 0 rfl) $$ [V0]
  · iexact V0
  iintro V0
  icases S1 with ⟨%fS1, S1⟩
  iapply (ld_s c 1 rfl) $$ [S1]
  · iexact S1
  iintro S1
  iapply (st_s c 1 rfl) $$ [S1]
  · iexact S1
  iintro S1
  ihave HH := (sP_own1 I c) $$ S1
  icases HH with S1
  iapply (r_ret c ⟨⟩ rfl)
  iapply Hk
  isplitl [ho]; · iexact ho
  isplitl [z_sR0]; · iexact z_sR0
  isplitl [A]; · iexact A
  isplitl [V0]; · iexact V0
  iexact S1

set_option maxHeartbeats 1600000 in
/-- The second step's transfer. -/
theorem part26 (c : Dev nD) (v2 : BitVec 32) (v13 : BitVec 32) {Q : _ → sProp 𝕄} :
    iprop(ctx I ∗ sP c 1 fullShare (RSB I c 1) ∗ (∃ f, vP (F := F) (fwd c 1) 1 fullShare f) ∗ ow (F := F) c ((debts c).drop 13) ∗ tk (F := F) c (.sS 1) 0 0 ∗ tk (F := F) (fwd c 1) (.sR 1) 0 0 ∗ cr (F := F) c (.sR 1) (Kd.sR 1).amt ∗ ap (F := F) c (.sR 1) 0 ∗ aP c (A4 I c) ∗ ((cr (F := F) c (.sS 1) (Kd.sS 1).amt ∗ ow (F := F) c ((debts c).drop 14) ∗ semVal (cell c (.sR 1)) 0 ∗ aP c (A4 I c) ∗ vP c 1 fullShare (RSB I (back c 1) 1)) -∗ Q (k0_pay44 (rowsOf (A4 I c) (back c 3)) (RS I (back c 1) 1))))
      ⊢ WP c (k0_part26 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v13) Q := by
  rw [k0_part26_eq_skeleton]; unfold k0_part26_skel
  simp only [semSignalWord, semWaitWord, Prog.lift, Prog.bind_op, Prog.bind_ret, Prog.pure_eq_ret, wp_deviceId]
  iintro ⟨#Hc, S1, TV1, ho, t_sS1, t_sR1, c_sR1, p_sR1, A, Hk⟩
  iapply (send_s I c (fwd c 1) _ (.sS 1) (.sR 1) ((debts c).drop 14) (dv14 c) 1 rfl rfl rfl rfl rfl (by revert c; decide) (by revert c; decide) (by rfl) rfl (RSB I c 1) rfl (pay_sR I c 1)) $$ [S1 TV1 ho t_sS1 t_sR1]
  · isplitr; · iexact Hc
    isplitl [S1]; · iexact S1
    isplitl [TV1]; · iexact TV1
    isplitl [ho]; · iexact ho
    isplitl [t_sS1]; · iexact t_sS1
    iexact t_sR1
  iintro ⟨c_sS1, ho⟩
  iapply (r_last I c (.sR 1) ((debts c).drop 14) 0 (wpE_waitDma2_eq 𝒱₀ (c : Thread nD τ) none Set.univ) rfl rfl rfl (by rfl) (by revert c; decide) (dut1 c (.sR 1) rfl)) $$ [c_sR1 ho p_sR1]
  · isplitr; · iexact Hc
    isplitl [c_sR1]; · iexact c_sR1
    isplitl [ho]; · iexact ho
    iexact p_sR1
  iintro ⟨ho, z_sR1, Hp⟩
  ihave HH := (show pay I c (.sR 1) 0 0 ⊢ iprop(vP c 1 fullShare (RSB I (back c 1) 1)) from Entails.of_eq rfl) $$ Hp
  icases HH with V1
  iapply (ld_rows c (back c 3) (by revert c; decide)) $$ [A]
  · iexact A
  iintro A
  iapply (ld_vs I c (back c 1) 1 rfl) $$ [V1]
  · iexact V1
  iintro V1
  iapply (r_ret c (k0_pay44 (rowsOf (A4 I c) (back c 3)) (RS I (back c 1) 1)) rfl)
  iapply Hk
  isplitl [c_sS1]; · iexact c_sS1
  isplitl [ho]; · iexact ho
  isplitl [z_sR1]; · iexact z_sR1
  isplitl [A]; · iexact A
  iexact V1

set_option maxHeartbeats 1600000 in
/-- The third step, and the sum for the device's own tokens. -/
theorem part27 (c : Dev nD) (v2 : BitVec 32) (v13 : BitVec 32) {Q : _ → sProp 𝕄} :
    iprop(ctx I ∗ (∃ f, sP (F := F) c 2 fullShare f) ∗ (∃ f, vP (F := F) (fwd c 1) 2 fullShare f) ∗ ow (F := F) c ((debts c).drop 14) ∗ tk (F := F) c (.sS 2) 0 0 ∗ tk (F := F) (fwd c 1) (.sR 2) 0 0 ∗ cr (F := F) c (.sR 2) (Kd.sR 2).amt ∗ ap (F := F) c (.sR 2) 0 ∗ aP c (A4 I c) ∗ ((cr (F := F) c (.sS 2) (Kd.sS 2).amt ∗ ow (F := F) c ((debts c).drop 15) ∗ semVal (cell c (.sR 2)) 0 ∗ aP c (A4 I c) ∗ vP c 2 fullShare (RSB I (back c 1) 2)) -∗ Q (outC I c)))
      ⊢ WP c (k0_part27 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v13 (k0_pay44 (rowsOf (A4 I c) (back c 3)) (RS I (back c 1) 1))) Q := by
  rw [k0_part27_eq_skeleton]; unfold k0_part27_skel
  simp only [semSignalWord, semWaitWord, Prog.lift, Prog.bind_op, Prog.bind_ret, Prog.pure_eq_ret, wp_deviceId]
  iintro ⟨#Hc, S2, TV2, ho, t_sS2, t_sR2, c_sR2, p_sR2, A, Hk⟩
  icases S2 with ⟨%fS2, S2⟩
  iapply (ld_s c 2 rfl) $$ [S2]
  · iexact S2
  iintro S2
  iapply (st_s c 2 rfl) $$ [S2]
  · iexact S2
  iintro S2
  ihave HH := (sP_own2 I c) $$ S2
  icases HH with S2
  iapply (send_s I c (fwd c 1) _ (.sS 2) (.sR 2) ((debts c).drop 15) (dv15 c) 2 rfl rfl rfl rfl rfl (by revert c; decide) (by revert c; decide) (by rfl) rfl (RSB I c 2) rfl (pay_sR I c 2)) $$ [S2 TV2 ho t_sS2 t_sR2]
  · isplitr; · iexact Hc
    isplitl [S2]; · iexact S2
    isplitl [TV2]; · iexact TV2
    isplitl [ho]; · iexact ho
    isplitl [t_sS2]; · iexact t_sS2
    iexact t_sR2
  iintro ⟨c_sS2, ho⟩
  iapply (r_last I c (.sR 2) ((debts c).drop 15) 0 (wpE_waitDma2_eq 𝒱₀ (c : Thread nD τ) none Set.univ) rfl rfl rfl (by rfl) (by revert c; decide) (dut1 c (.sR 2) rfl)) $$ [c_sR2 ho p_sR2]
  · isplitr; · iexact Hc
    isplitl [c_sR2]; · iexact c_sR2
    isplitl [ho]; · iexact ho
    iexact p_sR2
  iintro ⟨ho, z_sR2, Hp⟩
  ihave HH := (show pay I c (.sR 2) 0 0 ⊢ iprop(vP c 2 fullShare (RSB I (back c 1) 2)) from Entails.of_eq rfl) $$ Hp
  icases HH with V2
  iapply (ld_rows c c (k0_off15_eq c)) $$ [A]
  · iexact A
  iintro A
  iapply (ld_vs I c (back c 1) 2 rfl) $$ [V2]
  · iexact V2
  iintro V2
  iapply (r_ret c (outC I c) rfl)
  iapply Hk
  isplitl [c_sS2]; · iexact c_sS2
  isplitl [ho]; · iexact ho
  isplitl [z_sR2]; · iexact z_sR2
  isplitl [A]; · iexact A
  iexact V2

end Cert.MoE

end
-- ==== Proof.PartsF.lean ====
/-
# The body, step by step: the result, the ends of the sends and the end barrier
-/
module

public import proofs.«01_k».proof.Proof.Slots

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

set_option maxHeartbeats 1600000 in
/-- The result is written; the first sends are waited for. -/
theorem part28 (c : Dev nD)  {Q : _ → sProp 𝕄} :
    iprop(ctx I ∗ (∃ f, oP (F := F) c f) ∗ cr (F := F) c (.agS 0) (Kd.agS 0).amt ∗ ow (F := F) c ((debts c).drop 15) ∗ ap (F := F) c (.agS 0) 0 ∗ cr (F := F) c (.rS 1) (Kd.rS 1).amt ∗ ap (F := F) c (.rS 1) 0 ∗ cr (F := F) c (.rS 2) (Kd.rS 2).amt ∗ ap (F := F) c (.rS 2) 0 ∗ cr (F := F) c (.rS 3) (Kd.rS 3).amt ∗ ap (F := F) c (.rS 3) 0 ∗ ((oP c (outC I c) ∗ semVal (cell c (.agS 0)) 0 ∗ xP c c fullShare.left (XC I) ∗ semVal (cell c (.rS 1)) 0 ∗ rP c c (qtr 1) (RC I) ∗ semVal (cell c (.rS 2)) 0 ∗ rP c c (qtr 2) (RC I) ∗ ow (F := F) c ((debts c).drop 15) ∗ semVal (cell c (.rS 3)) 0 ∗ rP c c (qtr 3) (RC I)) -∗ Q ⟨⟩))
      ⊢ WP c (k0_part28 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c (outC I c)) Q := by
  rw [k0_part28_eq_skeleton]; unfold k0_part28_skel
  simp only [semSignalWord, semWaitWord, Prog.lift, Prog.bind_op, Prog.bind_ret, Prog.pure_eq_ret, wp_deviceId]
  iintro ⟨#Hc, o, c_agS0, ho, p_agS0, c_rS1, p_rS1, c_rS2, p_rS2, c_rS3, p_rS3, Hk⟩
  icases o with ⟨%fo, o⟩
  iapply (ld_o c) $$ [o]
  · iexact o
  iintro o
  iapply (st_o c) $$ [o]
  · iexact o
  iintro o
  iapply (r_last I c (.agS 0) ((debts c).drop 15) 0 (wpE_waitDma2_eq 𝒱₀ (c : Thread nD τ) none Set.univ) rfl rfl rfl (by rfl) (by revert c; decide) (dut1 c (.agS 0) rfl)) $$ [c_agS0 ho p_agS0]
  · isplitr; · iexact Hc
    isplitl [c_agS0]; · iexact c_agS0
    isplitl [ho]; · iexact ho
    iexact p_agS0
  iintro ⟨ho, z_agS0, Hp⟩
  ihave HH := (Entails.of_eq (pay_agS0 I c)) $$ Hp
  icases HH with X0
  iapply (r_last I c (.rS 1) ((debts c).drop 15) 0 (wpE_waitDma2_eq 𝒱₀ (c : Thread nD τ) none Set.univ) rfl rfl rfl (by rfl) (by revert c; decide) (dut1 c (.rS 1) rfl)) $$ [c_rS1 ho p_rS1]
  · isplitr; · iexact Hc
    isplitl [c_rS1]; · iexact c_rS1
    isplitl [ho]; · iexact ho
    iexact p_rS1
  iintro ⟨ho, z_rS1, Hp⟩
  ihave HH := (show pay I c (.rS 1) 0 0 ⊢ iprop(rP c c (qtr 1) (RC I)) from Entails.of_eq rfl) $$ Hp
  icases HH with R0_1
  iapply (r_last I c (.rS 2) ((debts c).drop 15) 0 (wpE_waitDma2_eq 𝒱₀ (c : Thread nD τ) none Set.univ) rfl rfl rfl (by rfl) (by revert c; decide) (dut1 c (.rS 2) rfl)) $$ [c_rS2 ho p_rS2]
  · isplitr; · iexact Hc
    isplitl [c_rS2]; · iexact c_rS2
    isplitl [ho]; · iexact ho
    iexact p_rS2
  iintro ⟨ho, z_rS2, Hp⟩
  ihave HH := (show pay I c (.rS 2) 0 0 ⊢ iprop(rP c c (qtr 2) (RC I)) from Entails.of_eq rfl) $$ Hp
  icases HH with R0_2
  iapply (r_last I c (.rS 3) ((debts c).drop 15) 0 (wpE_waitDma2_eq 𝒱₀ (c : Thread nD τ) none Set.univ) rfl rfl rfl (by rfl) (by revert c; decide) (dut1 c (.rS 3) rfl)) $$ [c_rS3 ho p_rS3]
  · isplitr; · iexact Hc
    isplitl [c_rS3]; · iexact c_rS3
    isplitl [ho]; · iexact ho
    iexact p_rS3
  iintro ⟨ho, z_rS3, Hp⟩
  ihave HH := (show pay I c (.rS 3) 0 0 ⊢ iprop(rP c c (qtr 3) (RC I)) from Entails.of_eq rfl) $$ Hp
  icases HH with R0_3
  iapply (r_ret c ⟨⟩ rfl)
  iapply Hk
  isplitl [o]; · iexact o
  isplitl [z_agS0]; · iexact z_agS0
  isplitl [X0]; · iexact X0
  isplitl [z_rS1]; · iexact z_rS1
  isplitl [R0_1]; · iexact R0_1
  isplitl [z_rS2]; · iexact z_rS2
  isplitl [R0_2]; · iexact R0_2
  isplitl [ho]; · iexact ho
  isplitl [z_rS3]; · iexact z_rS3
  iexact R0_3

set_option maxHeartbeats 1600000 in
/-- Further sends are waited for. -/
theorem part29 (c : Dev nD)  {Q : _ → sProp 𝕄} :
    iprop(ctx I ∗ cr (F := F) c (.gS 1) (Kd.gS 1).amt ∗ ow (F := F) c ((debts c).drop 15) ∗ ap (F := F) c (.gS 1) 0 ∗ cr (F := F) c (.gS 2) (Kd.gS 2).amt ∗ ap (F := F) c (.gS 2) 0 ∗ cr (F := F) c (.gS 3) (Kd.gS 3).amt ∗ ap (F := F) c (.gS 3) 0 ∗ cr (F := F) c (.agS 1) (Kd.agS 1).amt ∗ ap (F := F) c (.agS 1) 0 ∗ ((semVal (cell c (.gS 1)) 0 ∗ gP c c (qtr 1) (GC I) ∗ semVal (cell c (.gS 2)) 0 ∗ gP c c (qtr 2) (GC I) ∗ semVal (cell c (.gS 3)) 0 ∗ gP c c (qtr 3) (GC I) ∗ ow (F := F) c ((debts c).drop 15) ∗ semVal (cell c (.agS 1)) 0 ∗ xP c (back c 1) fullShare.left (XC I)) -∗ Q ⟨⟩))
      ⊢ WP c (k0_part29 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c) Q := by
  rw [k0_part29_eq_skeleton]; unfold k0_part29_skel
  simp only [semSignalWord, semWaitWord, Prog.lift, Prog.bind_op, Prog.bind_ret, Prog.pure_eq_ret, wp_deviceId]
  iintro ⟨#Hc, c_gS1, ho, p_gS1, c_gS2, p_gS2, c_gS3, p_gS3, c_agS1, p_agS1, Hk⟩
  iapply (r_last I c (.gS 1) ((debts c).drop 15) 0 (wpE_waitDma2_eq 𝒱₀ (c : Thread nD τ) none Set.univ) rfl rfl rfl (by rfl) (by revert c; decide) (dut1 c (.gS 1) rfl)) $$ [c_gS1 ho p_gS1]
  · isplitr; · iexact Hc
    isplitl [c_gS1]; · iexact c_gS1
    isplitl [ho]; · iexact ho
    iexact p_gS1
  iintro ⟨ho, z_gS1, Hp⟩
  ihave HH := (show pay I c (.gS 1) 0 0 ⊢ iprop(gP c c (qtr 1) (GC I)) from Entails.of_eq rfl) $$ Hp
  icases HH with G0_1
  iapply (r_last I c (.gS 2) ((debts c).drop 15) 0 (wpE_waitDma2_eq 𝒱₀ (c : Thread nD τ) none Set.univ) rfl rfl rfl (by rfl) (by revert c; decide) (dut1 c (.gS 2) rfl)) $$ [c_gS2 ho p_gS2]
  · isplitr; · iexact Hc
    isplitl [c_gS2]; · iexact c_gS2
    isplitl [ho]; · iexact ho
    iexact p_gS2
  iintro ⟨ho, z_gS2, Hp⟩
  ihave HH := (show pay I c (.gS 2) 0 0 ⊢ iprop(gP c c (qtr 2) (GC I)) from Entails.of_eq rfl) $$ Hp
  icases HH with G0_2
  iapply (r_last I c (.gS 3) ((debts c).drop 15) 0 (wpE_waitDma2_eq 𝒱₀ (c : Thread nD τ) none Set.univ) rfl rfl rfl (by rfl) (by revert c; decide) (dut1 c (.gS 3) rfl)) $$ [c_gS3 ho p_gS3]
  · isplitr; · iexact Hc
    isplitl [c_gS3]; · iexact c_gS3
    isplitl [ho]; · iexact ho
    iexact p_gS3
  iintro ⟨ho, z_gS3, Hp⟩
  ihave HH := (show pay I c (.gS 3) 0 0 ⊢ iprop(gP c c (qtr 3) (GC I)) from Entails.of_eq rfl) $$ Hp
  icases HH with G0_3
  iapply (r_last I c (.agS 1) ((debts c).drop 15) 0 (wpE_waitDma2_eq 𝒱₀ (c : Thread nD τ) none Set.univ) rfl rfl rfl (by rfl) (by revert c; decide) (dut1 c (.agS 1) rfl)) $$ [c_agS1 ho p_agS1]
  · isplitr; · iexact Hc
    isplitl [c_agS1]; · iexact c_agS1
    isplitl [ho]; · iexact ho
    iexact p_agS1
  iintro ⟨ho, z_agS1, Hp⟩
  ihave HH := (show pay I c (.agS 1) 0 0 ⊢ iprop(xP c (back c 1) fullShare.left (XC I)) from Entails.of_eq rfl) $$ Hp
  icases HH with X1
  iapply (r_ret c ⟨⟩ rfl)
  iapply Hk
  isplitl [z_gS1]; · iexact z_gS1
  isplitl [G0_1]; · iexact G0_1
  isplitl [z_gS2]; · iexact z_gS2
  isplitl [G0_2]; · iexact G0_2
  isplitl [z_gS3]; · iexact z_gS3
  isplitl [G0_3]; · iexact G0_3
  isplitl [ho]; · iexact ho
  isplitl [z_agS1]; · iexact z_agS1
  iexact X1

set_option maxHeartbeats 1600000 in
/-- The last sends are waited for. -/
theorem part30 (c : Dev nD) (v2 : BitVec 32) {Q : _ → sProp 𝕄} :
    iprop(ctx I ∗ cr (F := F) c (.agS 2) (Kd.agS 2).amt ∗ ow (F := F) c ((debts c).drop 15) ∗ ap (F := F) c (.agS 2) 0 ∗ cr (F := F) c (.sS 0) (Kd.sS 0).amt ∗ ap (F := F) c (.sS 0) 0 ∗ cr (F := F) c (.sS 1) (Kd.sS 1).amt ∗ ap (F := F) c (.sS 1) 0 ∗ cr (F := F) c (.sS 2) (Kd.sS 2).amt ∗ ap (F := F) c (.sS 2) 0 ∗ (∀ (a1 : BitVec 32), ∀ (a2 : BitVec 32), (semVal (cell c (.agS 2)) 0 ∗ xP c (back c 2) fullShare.left (XC I) ∗ semVal (cell c (.sS 0)) 0 ∗ sP c 0 fullShare (RSB I c 0) ∗ semVal (cell c (.sS 1)) 0 ∗ sP c 1 fullShare (RSB I c 1) ∗ ow (F := F) c ((debts c).drop 15) ∗ semVal (cell c (.sS 2)) 0 ∗ sP c 2 fullShare (RSB I c 2)) -∗ Q ⟨a1, a2⟩))
      ⊢ WP c (k0_part30 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2) Q := by
  rw [k0_part30_eq_skeleton]; unfold k0_part30_skel
  simp only [semSignalWord, semWaitWord, Prog.lift, Prog.bind_op, Prog.bind_ret, Prog.pure_eq_ret, wp_deviceId]
  iintro ⟨#Hc, c_agS2, ho, p_agS2, c_sS0, p_sS0, c_sS1, p_sS1, c_sS2, p_sS2, Hk⟩
  iapply (r_last I c (.agS 2) ((debts c).drop 15) 0 (wpE_waitDma2_eq 𝒱₀ (c : Thread nD τ) none Set.univ) rfl rfl rfl (by rfl) (by revert c; decide) (dut1 c (.agS 2) rfl)) $$ [c_agS2 ho p_agS2]
  · isplitr; · iexact Hc
    isplitl [c_agS2]; · iexact c_agS2
    isplitl [ho]; · iexact ho
    iexact p_agS2
  iintro ⟨ho, z_agS2, Hp⟩
  ihave HH := (show pay I c (.agS 2) 0 0 ⊢ iprop(xP c (back c 2) fullShare.left (XC I)) from Entails.of_eq rfl) $$ Hp
  icases HH with X2
  iapply (r_last I c (.sS 0) ((debts c).drop 15) 0 (wpE_waitDma2_eq 𝒱₀ (c : Thread nD τ) none Set.univ) rfl rfl rfl (by rfl) (by revert c; decide) (dut1 c (.sS 0) rfl)) $$ [c_sS0 ho p_sS0]
  · isplitr; · iexact Hc
    isplitl [c_sS0]; · iexact c_sS0
    isplitl [ho]; · iexact ho
    iexact p_sS0
  iintro ⟨ho, z_sS0, Hp⟩
  ihave HH := (show pay I c (.sS 0) 0 0 ⊢ iprop(sP c 0 fullShare (RSB I c 0)) from Entails.of_eq rfl) $$ Hp
  icases HH with S0
  iapply (r_last I c (.sS 1) ((debts c).drop 15) 0 (wpE_waitDma2_eq 𝒱₀ (c : Thread nD τ) none Set.univ) rfl rfl rfl (by rfl) (by revert c; decide) (dut1 c (.sS 1) rfl)) $$ [c_sS1 ho p_sS1]
  · isplitr; · iexact Hc
    isplitl [c_sS1]; · iexact c_sS1
    isplitl [ho]; · iexact ho
    iexact p_sS1
  iintro ⟨ho, z_sS1, Hp⟩
  ihave HH := (show pay I c (.sS 1) 0 0 ⊢ iprop(sP c 1 fullShare (RSB I c 1)) from Entails.of_eq rfl) $$ Hp
  icases HH with S1
  iapply (r_last I c (.sS 2) ((debts c).drop 15) 0 (wpE_waitDma2_eq 𝒱₀ (c : Thread nD τ) none Set.univ) rfl rfl rfl (by rfl) (by revert c; decide) (dut1 c (.sS 2) rfl)) $$ [c_sS2 ho p_sS2]
  · isplitr; · iexact Hc
    isplitl [c_sS2]; · iexact c_sS2
    isplitl [ho]; · iexact ho
    iexact p_sS2
  iintro ⟨ho, z_sS2, Hp⟩
  ihave HH := (show pay I c (.sS 2) 0 0 ⊢ iprop(sP c 2 fullShare (RSB I c 2)) from Entails.of_eq rfl) $$ Hp
  icases HH with S2
  iapply (r_ret c _ rfl)
  iapply Hk
  isplitl [z_agS2]; · iexact z_agS2
  isplitl [X2]; · iexact X2
  isplitl [z_sS0]; · iexact z_sS0
  isplitl [S0]; · iexact S0
  isplitl [z_sS1]; · iexact z_sS1
  isplitl [S1]; · iexact S1
  isplitl [ho]; · iexact ho
  isplitl [z_sS2]; · iexact z_sS2
  iexact S2

set_option maxHeartbeats 1600000 in
/-- Two signals of the end barrier. -/
theorem part31 (c : Dev nD) (v2 : BitVec 32) (v980_r0 : BitVec 32) (v981_r0 : BitVec 32) {Q : _ → sProp 𝕄} :
    iprop(ctx I ∗ ow (F := F) c ((debts c).drop 15) ∗ tk (F := F) (fwd c 1) .bar2 0 1 ∗ tk (F := F) (fwd c 2) .bar2 0 2 ∗ (∀ (a1 : BitVec 32), (ow (F := F) c ((debts c).drop 17)) -∗ Q ⟨a1, 1#32⟩))
      ⊢ WP c (k0_part31 xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0 c v2 v980_r0 v981_r0) Q := by
  rw [k0_part31_eq_skeleton]; unfold k0_part31_skel
  simp only [semSignalWord, semWaitWord, Prog.lift, Prog.bind_op, Prog.bind_ret, Prog.pure_eq_ret, wp_deviceId]
  iintro ⟨#Hc, ho, t_bar2_1, t_bar2_2, Hk⟩
  iapply (r_signal I c (fwd c 1) _ .bar2 1 ((debts c).drop 16) (dv16 c) rfl rfl (by revert c; decide) (by rfl)) $$ [ho t_bar2_1]
  · isplitr; · iexact Hc
    isplitl [ho]; · iexact ho
    isplitl [t_bar2_1]; · iexact t_bar2_1
    ihave He := (Entails.of_eq (pay_b2 I (fwd c 1) 1).symm) $$ []; · iempintro
    iexact He
  iintro ho
  iapply (r_signal I c (fwd c 2) _ .bar2 2 ((debts c).drop 17) (dv17 c) rfl rfl (by revert c; decide) (by rfl)) $$ [ho t_bar2_2]
  · isplitr; · iexact Hc
    isplitl [ho]; · iexact ho
    isplitl [t_bar2_2]; · iexact t_bar2_2
    ihave He := (Entails.of_eq (pay_b2 I (fwd c 2) 2).symm) $$ []; · iempintro
    iexact He
  iintro ho
  iapply (r_ret c _ rfl)
  iapply Hk
  iexact ho

set_option maxHeartbeats 1600000 in
/-- The last signal and the wait of the end barrier. -/
theorem part32 (c : Dev nD)  {Q : _ → sProp 𝕄} :
    iprop(ctx I ∗ ow (F := F) c ((debts c).drop 17) ∗ tk (F := F) (fwd c 3) .bar2 0 3 ∗ cr (F := F) c .bar2 3 ∗ ap (F := F) c .bar2 0 ∗ ((ow (F := F) c ((debts c).drop 18) ∗ semVal (cell c .bar2) 0) -∗ Q ⟨⟩))
      ⊢ WP c (do semSignalWord (⟨k0_dev18 c, k0_dev18_lt c⟩ : Dev nD) cc0_scoped0.sem 1#32; semWaitWord cc0_scoped0.sem 3#32; pure ⟨⟩ : Prog (TpuEff nD τ sig (Elt F) Λ₀ .tc) PUnit) Q := by
  simp only [semSignalWord, semWaitWord, Prog.lift, Prog.bind_op, Prog.bind_ret, Prog.pure_eq_ret, wp_deviceId]
  iintro ⟨#Hc, ho, t_bar2_3, c_bar2, p_bar2, Hk⟩
  iapply (r_signal I c (fwd c 3) _ .bar2 3 ((debts c).drop 18) (dv18 c) rfl rfl (by revert c; decide) (by rfl)) $$ [ho t_bar2_3]
  · isplitr; · iexact Hc
    isplitl [ho]; · iexact ho
    isplitl [t_bar2_3]; · iexact t_bar2_3
    ihave He := (Entails.of_eq (pay_b2 I (fwd c 3) 3).symm) $$ []; · iempintro
    iexact He
  iintro ho
  iapply (r_wait I c .bar2 ((debts c).drop 18) 0 (k' := 3) (wpE_semWait_eq 𝒱₀ (c : Thread nD τ) none Set.univ) rfl rfl rfl (by revert c; decide)) $$ [c_bar2 ho p_bar2]
  · isplitr; · iexact Hc
    isplitl [c_bar2]; · iexact c_bar2
    isplitl [ho]; · iexact ho
    iexact p_bar2
  iintro ⟨ho, p_bar2, r_bar2, Hp⟩
  iclear r_bar2
  iclear Hp
  imod (r_close I c .bar2 1 rfl (dut1 c .bar2 rfl)) $$ [p_bar2] with HH
  · isplitr; · iexact Hc
    iexact p_bar2
  icases HH with z_bar2
  iapply (r_ret c ⟨⟩ rfl)
  iapply Hk
  isplitl [ho]; · iexact ho
  iexact z_bar2

end Cert.MoE

end
-- ==== Proof.Run.lean ====
/-
# The body of one device

The parts in order, from what a device holds when the kernel starts to what it holds when the kernel ends.
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Inp F)

/-- What a device holds when the kernel starts: its blocks, the slots of its scratch buffers, its duty tokens, its places in its cells and the credit of its waits. -/
def startRes (c : Dev nD) : sProp 𝕄 :=
  iprop(ow (F := F) c ((debts c).drop 0)
    ∗ xsP c (I.x c)
    ∗ rtP c (I.rt c)
    ∗ (∃ f, oP (F := F) c f)
    ∗ (∃ f, xP (F := F) c c fullShare f)
    ∗ (∃ f, rP (F := F) c c fullShare f)
    ∗ gFill I c 0
    ∗ barPay (F := F) c (fwd c 1)
    ∗ barPay (F := F) c (fwd c 2)
    ∗ barPay (F := F) c (fwd c 3)
    ∗ barExtra (F := F) c
    ∗ (∃ f, sP (F := F) c 0 fullShare f)
    ∗ (∃ f, sP (F := F) c 1 fullShare f)
    ∗ (∃ f, sP (F := F) c 2 fullShare f)
    ∗ (∃ f, aP (F := F) c f)
    ∗ (∃ f, b1P (F := F) c 0 fullShare f)
    ∗ (∃ f, b2P (F := F) c 0 fullShare f)
    ∗ (∃ f, b1P (F := F) c 1 fullShare f)
    ∗ (∃ f, b2P (F := F) c 1 fullShare f)
    ∗ e1P c 0 fullShare (I.w1 c)
    ∗ e2P c 0 fullShare (I.w2 c)
    ∗ e1P c 1 fullShare (I.w1 c)
    ∗ e2P c 1 fullShare (I.w2 c)
    ∗ e1P c 2 fullShare (I.w1 c)
    ∗ e2P c 2 fullShare (I.w2 c)
    ∗ e1P c 3 fullShare (I.w1 c)
    ∗ e2P c 3 fullShare (I.w2 c)
    ∗ tk (F := F) (fwd c 1) .bar 0 1
    ∗ tk (F := F) (fwd c 2) .bar 0 2
    ∗ tk (F := F) (fwd c 3) .bar 0 3
    ∗ tk (F := F) (fwd c 1) .bar2 0 1
    ∗ tk (F := F) (fwd c 2) .bar2 0 2
    ∗ tk (F := F) (fwd c 3) .bar2 0 3
    ∗ tk (F := F) c (.agS 0) 0 0
    ∗ tk (F := F) (fwd c 1) (.agR 0) 0 0
    ∗ tk (F := F) c (.sS 0) 0 0
    ∗ tk (F := F) (fwd c 1) (.sR 0) 0 0
    ∗ tk (F := F) c (.agS 1) 0 0
    ∗ tk (F := F) (fwd c 1) (.agR 1) 0 0
    ∗ tk (F := F) c (.sS 1) 0 0
    ∗ tk (F := F) (fwd c 1) (.sR 1) 0 0
    ∗ tk (F := F) c (.agS 2) 0 0
    ∗ tk (F := F) (fwd c 1) (.agR 2) 0 0
    ∗ tk (F := F) c (.sS 2) 0 0
    ∗ tk (F := F) (fwd c 1) (.sR 2) 0 0
    ∗ tk (F := F) c (.rS 1) 0 0
    ∗ tk (F := F) (fwd c 1) (.rR c) 0 0
    ∗ tk (F := F) c (.gS 1) 0 0
    ∗ tk (F := F) (fwd c 1) (.gR c) 0 0
    ∗ tk (F := F) c (.rS 2) 0 0
    ∗ tk (F := F) (fwd c 2) (.rR c) 0 0
    ∗ tk (F := F) c (.gS 2) 0 0
    ∗ tk (F := F) (fwd c 2) (.gR c) 0 0
    ∗ tk (F := F) c (.rS 3) 0 0
    ∗ tk (F := F) (fwd c 3) (.rR c) 0 0
    ∗ tk (F := F) c (.gS 3) 0 0
    ∗ tk (F := F) (fwd c 3) (.gR c) 0 0
    ∗ tk (F := F) c (.w1 0) 0 0
    ∗ tk (F := F) c (.w2 0) 0 0
    ∗ tk (F := F) c (.w1 0) 1 0
    ∗ tk (F := F) c (.w2 0) 1 0
    ∗ tk (F := F) c (.w1 1) 0 0
    ∗ tk (F := F) c (.w2 1) 0 0
    ∗ tk (F := F) c (.w1 1) 1 0
    ∗ tk (F := F) c (.w2 1) 1 0
    ∗ ap (F := F) c .bar 0
    ∗ ap (F := F) c .bar2 0
    ∗ ap (F := F) c (.agS 0) 0
    ∗ ap (F := F) c (.agR 0) 0
    ∗ ap (F := F) c (.sS 0) 0
    ∗ ap (F := F) c (.sR 0) 0
    ∗ ap (F := F) c (.agS 1) 0
    ∗ ap (F := F) c (.agR 1) 0
    ∗ ap (F := F) c (.sS 1) 0
    ∗ ap (F := F) c (.sR 1) 0
    ∗ ap (F := F) c (.agS 2) 0
    ∗ ap (F := F) c (.agR 2) 0
    ∗ ap (F := F) c (.sS 2) 0
    ∗ ap (F := F) c (.sR 2) 0
    ∗ ap (F := F) c (.rS 1) 0
    ∗ ap (F := F) c (.rR (back c 1)) 0
    ∗ ap (F := F) c (.gS 1) 0
    ∗ ap (F := F) c (.gR (back c 1)) 0
    ∗ ap (F := F) c (.rS 2) 0
    ∗ ap (F := F) c (.rR (back c 2)) 0
    ∗ ap (F := F) c (.gS 2) 0
    ∗ ap (F := F) c (.gR (back c 2)) 0
    ∗ ap (F := F) c (.rS 3) 0
    ∗ ap (F := F) c (.rR (back c 3)) 0
    ∗ ap (F := F) c (.gS 3) 0
    ∗ ap (F := F) c (.gR (back c 3)) 0
    ∗ ap (F := F) c (.w1 0) 0
    ∗ ap (F := F) c (.w2 0) 0
    ∗ ap (F := F) c (.w1 1) 0
    ∗ ap (F := F) c (.w2 1) 0
    ∗ cr (F := F) c .bar 3
    ∗ cr (F := F) c .bar2 3
    ∗ cr (F := F) c (.agR 0) (Kd.agR 0).amt
    ∗ cr (F := F) c (.sR 0) (Kd.sR 0).amt
    ∗ cr (F := F) c (.agR 1) (Kd.agR 1).amt
    ∗ cr (F := F) c (.sR 1) (Kd.sR 1).amt
    ∗ cr (F := F) c (.agR 2) (Kd.agR 2).amt
    ∗ cr (F := F) c (.sR 2) (Kd.sR 2).amt
    ∗ cr (F := F) c (.rR (back c 1)) (Kd.rR (back c 1)).amt
    ∗ cr (F := F) c (.gR (back c 1)) (Kd.gR (back c 1)).amt
    ∗ cr (F := F) c (.rR (back c 2)) (Kd.rR (back c 2)).amt
    ∗ cr (F := F) c (.gR (back c 2)) (Kd.gR (back c 2)).amt
    ∗ cr (F := F) c (.rR (back c 3)) (Kd.rR (back c 3)).amt
    ∗ cr (F := F) c (.gR (back c 3)) (Kd.gR (back c 3)).amt)
/-- What it holds when the kernel ends: its blocks and the result, the slots with what the exchanges left there, and its cells at zero. -/
def endRes (c : Dev nD) : sProp 𝕄 :=
  iprop(semVal (cell c .bar) 0
    ∗ xsP c (I.x c)
    ∗ rtP c (I.rt c)
    ∗ semVal (cell c (.rR (back c 1))) 0
    ∗ semVal (cell c (.rR (back c 2))) 0
    ∗ semVal (cell c (.rR (back c 3))) 0
    ∗ rRest I c
    ∗ rP c 0 (qtr 0) (RC I)
    ∗ rP c 1 (qtr 0) (RC I)
    ∗ rP c 2 (qtr 0) (RC I)
    ∗ rP c 3 (qtr 0) (RC I)
    ∗ semVal (cell c (.agR 0)) 0
    ∗ semVal (cell c (.gR (back c 1))) 0
    ∗ semVal (cell c (.gR (back c 2))) 0
    ∗ semVal (cell c (.gR (back c 3))) 0
    ∗ gRest I c
    ∗ gP c 0 (qtr 0) (GC I)
    ∗ gP c 1 (qtr 0) (GC I)
    ∗ gP c 2 (qtr 0) (GC I)
    ∗ gP c 3 (qtr 0) (GC I)
    ∗ semVal (cell c (.agR 1)) 0
    ∗ semVal (cell c (.agR 2)) 0
    ∗ xP c (back c 3) fullShare.left (XC I)
    ∗ xP c 0 fullShare.right (XC I)
    ∗ xP c 1 fullShare.right (XC I)
    ∗ xP c 2 fullShare.right (XC I)
    ∗ xP c 3 fullShare.right (XC I)
    ∗ e1P c 0 fullShare (I.w1 c)
    ∗ e2P c 0 fullShare (I.w2 c)
    ∗ e1P c 1 fullShare (I.w1 c)
    ∗ e2P c 1 fullShare (I.w2 c)
    ∗ semVal (cell c (.w1 0)) 0
    ∗ e1P c 2 fullShare (I.w1 c)
    ∗ semVal (cell c (.w2 0)) 0
    ∗ e2P c 2 fullShare (I.w2 c)
    ∗ b1P c 0 fullShare (WB1 I c 2)
    ∗ b2P c 0 fullShare (WB2 I c 2)
    ∗ semVal (cell c (.w1 1)) 0
    ∗ e1P c 3 fullShare (I.w1 c)
    ∗ semVal (cell c (.w2 1)) 0
    ∗ e2P c 3 fullShare (I.w2 c)
    ∗ b1P c 1 fullShare (WB1 I c 3)
    ∗ b2P c 1 fullShare (WB2 I c 3)
    ∗ semVal (cell c (.sR 0)) 0
    ∗ vP c 0 fullShare (RSB I (back c 1) 0)
    ∗ semVal (cell c (.sR 1)) 0
    ∗ vP c 1 fullShare (RSB I (back c 1) 1)
    ∗ semVal (cell c (.sR 2)) 0
    ∗ aP c (A4 I c)
    ∗ vP c 2 fullShare (RSB I (back c 1) 2)
    ∗ oP c (outC I c)
    ∗ semVal (cell c (.agS 0)) 0
    ∗ xP c c fullShare.left (XC I)
    ∗ semVal (cell c (.rS 1)) 0
    ∗ rP c c (qtr 1) (RC I)
    ∗ semVal (cell c (.rS 2)) 0
    ∗ rP c c (qtr 2) (RC I)
    ∗ semVal (cell c (.rS 3)) 0
    ∗ rP c c (qtr 3) (RC I)
    ∗ semVal (cell c (.gS 1)) 0
    ∗ gP c c (qtr 1) (GC I)
    ∗ semVal (cell c (.gS 2)) 0
    ∗ gP c c (qtr 2) (GC I)
    ∗ semVal (cell c (.gS 3)) 0
    ∗ gP c c (qtr 3) (GC I)
    ∗ semVal (cell c (.agS 1)) 0
    ∗ xP c (back c 1) fullShare.left (XC I)
    ∗ semVal (cell c (.agS 2)) 0
    ∗ xP c (back c 2) fullShare.left (XC I)
    ∗ semVal (cell c (.sS 0)) 0
    ∗ sP c 0 fullShare (RSB I c 0)
    ∗ semVal (cell c (.sS 1)) 0
    ∗ sP c 1 fullShare (RSB I c 1)
    ∗ semVal (cell c (.sS 2)) 0
    ∗ sP c 2 fullShare (RSB I c 2)
    ∗ ow (F := F) c ((debts c).drop 18)
    ∗ semVal (cell c .bar2) 0)
set_option maxHeartbeats 4000000 in
set_option maxRecDepth 20000 in
/-- The body runs from the one to the other. -/
theorem body_run (c : Dev nD) {Q : PUnit → sProp 𝕄} :
    iprop(ctx I ∗ startRes I c ∗ (endRes I c -∗ Q ⟨⟩)) ⊢ WP c (cc0_body xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0) Q := by
  rw [cc0_body_eq_skeleton]; unfold cc0_body_skel startRes
  iintro ⟨#Hc, ⟨ho, x, rt, o, X0, R0, G0, BP1, BP2, BP3, BE, S0, S1, S2, A, B1_0, B2_0, B1_1, B2_1, E1_0, E2_0, E1_1, E2_1, E1_2, E2_2, E1_3, E2_3, t_bar_1, t_bar_2, t_bar_3, t_bar2_1, t_bar2_2, t_bar2_3, t_agS0, t_agR0, t_sS0, t_sR0, t_agS1, t_agR1, t_sS1, t_sR1, t_agS2, t_agR2, t_sS2, t_sR2, t_rS1, t_rR1, t_gS1, t_gR1, t_rS2, t_rR2, t_gS2, t_gR2, t_rS3, t_rR3, t_gS3, t_gR3, t_w1_0_0, t_w2_0_0, t_w1_0_1, t_w2_0_1, t_w1_1_0, t_w2_1_0, t_w1_1_1, t_w2_1_1, p_bar, p_bar2, p_agS0, p_agR0, p_sS0, p_sR0, p_agS1, p_agR1, p_sS1, p_sR1, p_agS2, p_agR2, p_sS2, p_sR2, p_rS1, p_rR1, p_gS1, p_gR1, p_rS2, p_rR2, p_gS2, p_gR2, p_rS3, p_rR3, p_gS3, p_gR3, p_w1_0, p_w2_0, p_w1_1, p_w2_1, c_bar, c_bar2, c_agR0, c_sR0, c_agR1, c_sR1, c_agR2, c_sR2, c_rR1, c_gR1, c_rR2, c_gR2, c_rR3, c_gR3⟩, Hk⟩
  iapply (r_bind c)
  iapply (part1 I c)
  isplitr; · iexact Hc
  isplitl [BP1]; · iexact BP1
  isplitl [ho]; · iexact ho
  isplitl [t_bar_1]; · iexact t_bar_1
  iintro %a1 %a2 %a3 %a4 ho
  try dsimp only
  iapply (r_bind c)
  iapply (part2 I c _ _ _ _ _)
  isplitr; · iexact Hc
  isplitl [BP2]; · iexact BP2
  isplitl [ho]; · iexact ho
  isplitl [t_bar_2]; · iexact t_bar_2
  isplitl [BP3]; · iexact BP3
  isplitl [BE]; · iexact BE
  isplitl [t_bar_3]; · iexact t_bar_3
  isplitl [c_bar]; · iexact c_bar
  isplitl [p_bar]; · iexact p_bar
  isplitl [E1_0]; · iexact E1_0
  isplitl [B1_0]; · iexact B1_0
  isplitl [t_w1_0_0]; · iexact t_w1_0_0
  iintro  ⟨ho, z_bar, TR1, TG1, TR2, TG2, TR3, TG3, TX0, TX1, TX2, TV0, TV1, TV2, c_w1_0⟩
  try dsimp only
  iapply (r_bind c)
  iapply (part3 I c _ _)
  isplitr; · iexact Hc
  isplitl [E2_0]; · iexact E2_0
  isplitl [B2_0]; · iexact B2_0
  isplitl [t_w2_0_0]; · iexact t_w2_0_0
  isplitl [x]; · iexact x
  isplitl [X0]; · iexact X0
  isplitl [TX0]; · iexact TX0
  isplitl [ho]; · iexact ho
  isplitl [t_agS0]; · iexact t_agS0
  isplitl [t_agR0]; · iexact t_agR0
  isplitl [rt]; · iexact rt
  iintro  ⟨c_w2_0, x, X0r, c_agS0, ho, rt⟩
  try dsimp only
  iapply (r_bind c)
  iapply (part4 I c _)
  isplitr; · iexact Hc
  isplitl [R0]; · iexact R0
  isplitl [TR1]; · iexact TR1
  isplitl [ho]; · iexact ho
  isplitl [t_rS1]; · iexact t_rS1
  isplitl [t_rR1]; · iexact t_rR1
  iintro %a1 %a2 %a3 ⟨R0_0, R0_2, R0_3, c_rS1, ho⟩
  try dsimp only
  iapply (r_bind c)
  iapply (part5 I c _ _ _ _)
  isplitr; · iexact Hc
  isplitl [R0_2]; · iexact R0_2
  isplitl [TR2]; · iexact TR2
  isplitl [ho]; · iexact ho
  isplitl [t_rS2]; · iexact t_rS2
  isplitl [t_rR2]; · iexact t_rR2
  isplitl [R0_3]; · iexact R0_3
  isplitl [TR3]; · iexact TR3
  isplitl [t_rS3]; · iexact t_rS3
  isplitl [t_rR3]; · iexact t_rR3
  iintro %a1 ⟨c_rS2, c_rS3, ho⟩
  try dsimp only
  iapply (r_bind c)
  iapply (part6 I c _ _ _ _)
  isplitr; · iexact Hc
  isplitl [c_rR1]; · iexact c_rR1
  isplitl [ho]; · iexact ho
  isplitl [p_rR1]; · iexact p_rR1
  iintro  ⟨ho, z_rR1, R1⟩
  try dsimp only
  iapply (r_bind c)
  iapply (part7 I c _)
  isplitr; · iexact Hc
  isplitl [c_rR2]; · iexact c_rR2
  isplitl [ho]; · iexact ho
  isplitl [p_rR2]; · iexact p_rR2
  isplitl [c_rR3]; · iexact c_rR3
  isplitl [p_rR3]; · iexact p_rR3
  isplitl [R0_0]; · iexact R0_0
  isplitl [R1]; · iexact R1
  isplitl [G0]; · iexact G0
  iintro  ⟨z_rR2, ho, z_rR3, LR2, LR3, restR, LR0, G0, LR1⟩
  try dsimp only
  iapply (r_bind c)
  iapply (part8 I c _)
  isplitr; · iexact Hc
  isplitl [G0]; · iexact G0
  isplitl [LR2]; · iexact LR2
  isplitl [LR3]; · iexact LR3
  iintro  ⟨LR2, LR3, G0⟩
  try dsimp only
  iapply (r_bind c)
  iapply (part9 I c _)
  isplitr; · iexact Hc
  isplitl [G0]; · iexact G0
  isplitl [TG1]; · iexact TG1
  isplitl [ho]; · iexact ho
  isplitl [t_gS1]; · iexact t_gS1
  isplitl [t_gR1]; · iexact t_gR1
  isplitl [TG2]; · iexact TG2
  isplitl [t_gS2]; · iexact t_gS2
  isplitl [t_gR2]; · iexact t_gR2
  iintro %a1 %a2 %a3 %a4 %a5 ⟨G0_0, G0_3, c_gS1, c_gS2, ho⟩
  try dsimp only
  iapply (r_bind c)
  iapply (part10 I c _ _ _ _ _ _ _)
  isplitr; · iexact Hc
  isplitl [G0_3]; · iexact G0_3
  isplitl [TG3]; · iexact TG3
  isplitl [ho]; · iexact ho
  isplitl [t_gS3]; · iexact t_gS3
  isplitl [t_gR3]; · iexact t_gR3
  isplitl [c_agR0]; · iexact c_agR0
  isplitl [p_agR0]; · iexact p_agR0
  iintro  ⟨c_gS3, ho, z_agR0, X1, X1r⟩
  try dsimp only
  iapply (r_bind c)
  iapply (part11 I c _ _ _)
  isplitr; · iexact Hc
  isplitl [X1]; · iexact X1
  isplitl [TX1]; · iexact TX1
  isplitl [ho]; · iexact ho
  isplitl [t_agS1]; · iexact t_agS1
  isplitl [t_agR1]; · iexact t_agR1
  isplitl [c_gR1]; · iexact c_gR1
  isplitl [p_gR1]; · iexact p_gR1
  iintro %a1 %a2 %a3 ⟨c_agS1, ho, z_gR1, G1⟩
  try dsimp only
  iapply (r_bind c)
  iapply (part12 I c _ _ _ _)
  isplitr; · iexact Hc
  isplitl [c_gR2]; · iexact c_gR2
  isplitl [ho]; · iexact ho
  isplitl [p_gR2]; · iexact p_gR2
  isplitl [c_gR3]; · iexact c_gR3
  isplitl [p_gR3]; · iexact p_gR3
  iintro  ⟨z_gR2, G2, ho, z_gR3, G3⟩
  try dsimp only
  iapply (r_bind c)
  iapply (part13 I c)
  isplitr; · iexact Hc
  isplitl [G0_0]; · iexact G0_0
  isplitl [G1]; · iexact G1
  isplitl [G2]; · iexact G2
  isplitl [G3]; · iexact G3
  iintro  ⟨restG, LG0, LG1, LG2, LG3⟩
  try dsimp only
  iapply (r_bind c)
  iapply (part14 I c)
  isplitr; · iexact Hc
  try dsimp only
  iapply (r_bind c)
  iapply (part15 I c)
  isplitr; · iexact Hc
  try dsimp only
  iapply (r_bind c)
  iapply (part16 I c _)
  isplitr; · iexact Hc
  isplitl [A]; · iexact A
  isplitl [c_agR1]; · iexact c_agR1
  isplitl [ho]; · iexact ho
  isplitl [p_agR1]; · iexact p_agR1
  iintro  ⟨A, ho, z_agR1, X2, X2r⟩
  try dsimp only
  iapply (r_bind c)
  iapply (part17 I c _ _)
  isplitr; · iexact Hc
  isplitl [X2]; · iexact X2
  isplitl [TX2]; · iexact TX2
  isplitl [ho]; · iexact ho
  isplitl [t_agS2]; · iexact t_agS2
  isplitl [t_agR2]; · iexact t_agR2
  isplitl [c_agR2]; · iexact c_agR2
  isplitl [p_agR2]; · iexact p_agR2
  isplitl [X0r]; · iexact X0r
  isplitl [X1r]; · iexact X1r
  isplitl [X2r]; · iexact X2r
  iintro  ⟨c_agS2, ho, z_agR2, X3, LX1, LX2, LX3, LX0⟩
  try dsimp only
  iapply (r_bind c)
  iapply (part18 I c)
  isplitr; · iexact Hc
  isplitl [LX1]; · iexact LX1
  isplitl [LX2]; · iexact LX2
  isplitl [LX3]; · iexact LX3
  isplitl [c_w1_0]; · iexact c_w1_0
  isplitl [ho]; · iexact ho
  isplitl [p_w1_0]; · iexact p_w1_0
  isplitl [c_w2_0]; · iexact c_w2_0
  isplitl [p_w2_0]; · iexact p_w2_0
  isplitl [E1_1]; · iexact E1_1
  isplitl [B1_1]; · iexact B1_1
  isplitl [t_w1_1_0]; · iexact t_w1_1_0
  iintro  ⟨LX1, LX2, LX3, p_w1_0, r_w1_0, B1_0, E1_0, ho, p_w2_0, r_w2_0, B2_0, E2_0, c_w1_1⟩
  try dsimp only
  iapply (r_bind c)
  iapply (part19 I c)
  isplitr; · iexact Hc
  isplitl [E2_1]; · iexact E2_1
  isplitl [B2_1]; · iexact B2_1
  isplitl [t_w2_1_0]; · iexact t_w2_1_0
  isplitl [B1_0]; · iexact B1_0
  isplitl [B2_0]; · iexact B2_0
  isplitl [A]; · iexact A
  iintro  ⟨c_w2_1, B1_0, B2_0, A⟩
  try dsimp only
  iapply (r_bind c)
  iapply (part20 I c)
  isplitr; · iexact Hc
  isplitl [c_w1_1]; · iexact c_w1_1
  isplitl [ho]; · iexact ho
  isplitl [p_w1_1]; · iexact p_w1_1
  isplitl [c_w2_1]; · iexact c_w2_1
  isplitl [p_w2_1]; · iexact p_w2_1
  isplitl [B1_0]; · iexact B1_0
  isplitl [B2_0]; · iexact B2_0
  isplitl [E1_2]; · iexact E1_2
  isplitl [t_w1_0_1]; · iexact t_w1_0_1
  isplitl [r_w1_0]; · iexact r_w1_0
  isplitl [E2_2]; · iexact E2_2
  isplitl [t_w2_0_1]; · iexact t_w2_0_1
  isplitl [r_w2_0]; · iexact r_w2_0
  iintro  ⟨p_w1_1, r_w1_1, E1_1, ho, p_w2_1, r_w2_1, B2_1, E2_1, c_w1_0, c_w2_0, B1_1⟩
  try dsimp only
  iapply (r_bind c)
  iapply (part21 I c)
  isplitr; · iexact Hc
  isplitl [B2_1]; · iexact B2_1
  isplitl [A]; · iexact A
  isplitl [c_w1_0]; · iexact c_w1_0
  isplitl [ho]; · iexact ho
  isplitl [p_w1_0]; · iexact p_w1_0
  isplitl [c_w2_0]; · iexact c_w2_0
  isplitl [p_w2_0]; · iexact p_w2_0
  iintro  ⟨B2_1, A, z_w1_0, B1_0, E1_2, ho, z_w2_0, B2_0, E2_2⟩
  try dsimp only
  iapply (r_bind c)
  iapply (part22 I c)
  isplitr; · iexact Hc
  isplitl [B1_1]; · iexact B1_1
  isplitl [B2_1]; · iexact B2_1
  isplitl [E1_3]; · iexact E1_3
  isplitl [t_w1_1_1]; · iexact t_w1_1_1
  isplitl [r_w1_1]; · iexact r_w1_1
  isplitl [E2_3]; · iexact E2_3
  isplitl [t_w2_1_1]; · iexact t_w2_1_1
  isplitl [r_w2_1]; · iexact r_w2_1
  isplitl [B1_0]; · iexact B1_0
  isplitl [B2_0]; · iexact B2_0
  isplitl [A]; · iexact A
  iintro  ⟨c_w1_1, c_w2_1, B1_0, B2_0, A⟩
  try dsimp only
  iapply (r_bind c)
  iapply (part23 I c _)
  isplitr; · iexact Hc
  isplitl [c_w1_1]; · iexact c_w1_1
  isplitl [ho]; · iexact ho
  isplitl [p_w1_1]; · iexact p_w1_1
  isplitl [c_w2_1]; · iexact c_w2_1
  isplitl [p_w2_1]; · iexact p_w2_1
  isplitl [A]; · iexact A
  iintro %a1 ⟨z_w1_1, E1_3, ho, z_w2_1, E2_3, B1_1, B2_1, A⟩
  try dsimp only
  iapply (r_bind c)
  iapply (part24 I c _ _ _)
  isplitr; · iexact Hc
  isplitl [A]; · iexact A
  isplitl [S0]; · iexact S0
  isplitl [TV0]; · iexact TV0
  isplitl [ho]; · iexact ho
  isplitl [t_sS0]; · iexact t_sS0
  isplitl [t_sR0]; · iexact t_sR0
  iintro  ⟨A, c_sS0, ho⟩
  try dsimp only
  iapply (r_bind c)
  iapply (part25 I c _ _)
  isplitr; · iexact Hc
  isplitl [c_sR0]; · iexact c_sR0
  isplitl [ho]; · iexact ho
  isplitl [p_sR0]; · iexact p_sR0
  isplitl [A]; · iexact A
  isplitl [S1]; · iexact S1
  iintro  ⟨ho, z_sR0, A, V0, S1⟩
  try dsimp only
  iapply (r_bind c)
  iapply (part26 I c _ _)
  isplitr; · iexact Hc
  isplitl [S1]; · iexact S1
  isplitl [TV1]; · iexact TV1
  isplitl [ho]; · iexact ho
  isplitl [t_sS1]; · iexact t_sS1
  isplitl [t_sR1]; · iexact t_sR1
  isplitl [c_sR1]; · iexact c_sR1
  isplitl [p_sR1]; · iexact p_sR1
  isplitl [A]; · iexact A
  iintro  ⟨c_sS1, ho, z_sR1, A, V1⟩
  try dsimp only
  iapply (r_bind c)
  iapply (part27 I c _ _)
  isplitr; · iexact Hc
  isplitl [S2]; · iexact S2
  isplitl [TV2]; · iexact TV2
  isplitl [ho]; · iexact ho
  isplitl [t_sS2]; · iexact t_sS2
  isplitl [t_sR2]; · iexact t_sR2
  isplitl [c_sR2]; · iexact c_sR2
  isplitl [p_sR2]; · iexact p_sR2
  isplitl [A]; · iexact A
  iintro  ⟨c_sS2, ho, z_sR2, A, V2⟩
  try dsimp only
  iapply (r_bind c)
  iapply (part28 I c)
  isplitr; · iexact Hc
  isplitl [o]; · iexact o
  isplitl [c_agS0]; · iexact c_agS0
  isplitl [ho]; · iexact ho
  isplitl [p_agS0]; · iexact p_agS0
  isplitl [c_rS1]; · iexact c_rS1
  isplitl [p_rS1]; · iexact p_rS1
  isplitl [c_rS2]; · iexact c_rS2
  isplitl [p_rS2]; · iexact p_rS2
  isplitl [c_rS3]; · iexact c_rS3
  isplitl [p_rS3]; · iexact p_rS3
  iintro  ⟨o, z_agS0, X0, z_rS1, R0_1, z_rS2, R0_2, ho, z_rS3, R0_3⟩
  try dsimp only
  iapply (r_bind c)
  iapply (part29 I c)
  isplitr; · iexact Hc
  isplitl [c_gS1]; · iexact c_gS1
  isplitl [ho]; · iexact ho
  isplitl [p_gS1]; · iexact p_gS1
  isplitl [c_gS2]; · iexact c_gS2
  isplitl [p_gS2]; · iexact p_gS2
  isplitl [c_gS3]; · iexact c_gS3
  isplitl [p_gS3]; · iexact p_gS3
  isplitl [c_agS1]; · iexact c_agS1
  isplitl [p_agS1]; · iexact p_agS1
  iintro  ⟨z_gS1, G0_1, z_gS2, G0_2, z_gS3, G0_3, ho, z_agS1, X1⟩
  try dsimp only
  iapply (r_bind c)
  iapply (part30 I c _)
  isplitr; · iexact Hc
  isplitl [c_agS2]; · iexact c_agS2
  isplitl [ho]; · iexact ho
  isplitl [p_agS2]; · iexact p_agS2
  isplitl [c_sS0]; · iexact c_sS0
  isplitl [p_sS0]; · iexact p_sS0
  isplitl [c_sS1]; · iexact c_sS1
  isplitl [p_sS1]; · iexact p_sS1
  isplitl [c_sS2]; · iexact c_sS2
  isplitl [p_sS2]; · iexact p_sS2
  iintro %a1 %a2 ⟨z_agS2, X2, z_sS0, S0, z_sS1, S1, ho, z_sS2, S2⟩
  try dsimp only
  iapply (r_bind c)
  iapply (part31 I c _ _ _)
  isplitr; · iexact Hc
  isplitl [ho]; · iexact ho
  isplitl [t_bar2_1]; · iexact t_bar2_1
  isplitl [t_bar2_2]; · iexact t_bar2_2
  iintro %a1 ho
  try dsimp only
  iapply (part32 I c)
  isplitr; · iexact Hc
  isplitl [ho]; · iexact ho
  isplitl [t_bar2_3]; · iexact t_bar2_3
  isplitl [c_bar2]; · iexact c_bar2
  isplitl [p_bar2]; · iexact p_bar2
  iintro  ⟨ho, z_bar2⟩
  iapply Hk; unfold endRes
  isplitl [z_bar]; · iexact z_bar
  isplitl [x]; · iexact x
  isplitl [rt]; · iexact rt
  isplitl [z_rR1]; · iexact z_rR1
  isplitl [z_rR2]; · iexact z_rR2
  isplitl [z_rR3]; · iexact z_rR3
  isplitl [restR]; · iexact restR
  isplitl [LR0]; · iexact LR0
  isplitl [LR1]; · iexact LR1
  isplitl [LR2]; · iexact LR2
  isplitl [LR3]; · iexact LR3
  isplitl [z_agR0]; · iexact z_agR0
  isplitl [z_gR1]; · iexact z_gR1
  isplitl [z_gR2]; · iexact z_gR2
  isplitl [z_gR3]; · iexact z_gR3
  isplitl [restG]; · iexact restG
  isplitl [LG0]; · iexact LG0
  isplitl [LG1]; · iexact LG1
  isplitl [LG2]; · iexact LG2
  isplitl [LG3]; · iexact LG3
  isplitl [z_agR1]; · iexact z_agR1
  isplitl [z_agR2]; · iexact z_agR2
  isplitl [X3]; · iexact X3
  isplitl [LX0]; · iexact LX0
  isplitl [LX1]; · iexact LX1
  isplitl [LX2]; · iexact LX2
  isplitl [LX3]; · iexact LX3
  isplitl [E1_0]; · iexact E1_0
  isplitl [E2_0]; · iexact E2_0
  isplitl [E1_1]; · iexact E1_1
  isplitl [E2_1]; · iexact E2_1
  isplitl [z_w1_0]; · iexact z_w1_0
  isplitl [E1_2]; · iexact E1_2
  isplitl [z_w2_0]; · iexact z_w2_0
  isplitl [E2_2]; · iexact E2_2
  isplitl [B1_0]; · iexact B1_0
  isplitl [B2_0]; · iexact B2_0
  isplitl [z_w1_1]; · iexact z_w1_1
  isplitl [E1_3]; · iexact E1_3
  isplitl [z_w2_1]; · iexact z_w2_1
  isplitl [E2_3]; · iexact E2_3
  isplitl [B1_1]; · iexact B1_1
  isplitl [B2_1]; · iexact B2_1
  isplitl [z_sR0]; · iexact z_sR0
  isplitl [V0]; · iexact V0
  isplitl [z_sR1]; · iexact z_sR1
  isplitl [V1]; · iexact V1
  isplitl [z_sR2]; · iexact z_sR2
  isplitl [A]; · iexact A
  isplitl [V2]; · iexact V2
  isplitl [o]; · iexact o
  isplitl [z_agS0]; · iexact z_agS0
  isplitl [X0]; · iexact X0
  isplitl [z_rS1]; · iexact z_rS1
  isplitl [R0_1]; · iexact R0_1
  isplitl [z_rS2]; · iexact z_rS2
  isplitl [R0_2]; · iexact R0_2
  isplitl [z_rS3]; · iexact z_rS3
  isplitl [R0_3]; · iexact R0_3
  isplitl [z_gS1]; · iexact z_gS1
  isplitl [G0_1]; · iexact G0_1
  isplitl [z_gS2]; · iexact z_gS2
  isplitl [G0_2]; · iexact G0_2
  isplitl [z_gS3]; · iexact z_gS3
  isplitl [G0_3]; · iexact G0_3
  isplitl [z_agS1]; · iexact z_agS1
  isplitl [X1]; · iexact X1
  isplitl [z_agS2]; · iexact z_agS2
  isplitl [X2]; · iexact X2
  isplitl [z_sS0]; · iexact z_sS0
  isplitl [S0]; · iexact S0
  isplitl [z_sS1]; · iexact z_sS1
  isplitl [S1]; · iexact S1
  isplitl [z_sS2]; · iexact z_sS2
  isplitl [S2]; · iexact S2
  isplitl [ho]; · iexact ho
  iexact z_bar2

end Cert.MoE

end
-- ==== Proof.Start.lean ====
/-
# What a device starts from and ends with

Between the launch and the body: the kernel's buffers, cut in the slots the body holds, the duty tokens each device pays with,
its places in its cells and the credit of its waits; and, after the body, the slots joined and every cell closed.
-/

module

public import proofs.«01_k».proof.Proof.Run

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## All cells of a device, listed -/

/-- The kinds of a device's cells, those of the exchanges in their order from the device on. -/
def kinds (c : Dev nD) : List Kd := [.bar, .bar2, .agS 0, .agR 0, .sS 0, .sR 0, .agS 1, .agR 1, .sS 1, .sR 1, .agS 2, .agR 2, .sS 2, .sR 2, .rS 1, .rR (back c 1), .gS 1, .gR (back c 1), .rS 2, .rR (back c 2), .gS 2, .gR (back c 2), .rS 3, .rR (back c 3), .gS 3, .gR (back c 3), .w1 0, .w2 0, .w1 1, .w2 1, .rS 0, .gS 0, .rR c, .gR c]

set_option maxRecDepth 8000 in
theorem kinds_all (c : Dev nD) : Finset.univ.map ⟨kd, kd_injective⟩ = (kinds c).toFinset := by revert c; decide +kernel
set_option maxRecDepth 8000 in
theorem kinds_nodup (c : Dev nD) : (kinds c).Nodup := by revert c; decide +kernel

theorem cells_eq (c : Dev nD) (Φ : Kd → sProp 𝕄) : bigSep Finset.univ (fun i : Fin 34 => Φ (kd i))
    = iprop(Φ (.bar) ∗ Φ (.bar2) ∗ Φ (.agS 0) ∗ Φ (.agR 0) ∗ Φ (.sS 0) ∗ Φ (.sR 0) ∗ Φ (.agS 1) ∗ Φ (.agR 1) ∗ Φ (.sS 1) ∗ Φ (.sR 1) ∗ Φ (.agS 2) ∗ Φ (.agR 2) ∗ Φ (.sS 2) ∗ Φ (.sR 2) ∗ Φ (.rS 1) ∗ Φ (.rR (back c 1)) ∗ Φ (.gS 1) ∗ Φ (.gR (back c 1)) ∗ Φ (.rS 2) ∗ Φ (.rR (back c 2)) ∗ Φ (.gS 2) ∗ Φ (.gR (back c 2)) ∗ Φ (.rS 3) ∗ Φ (.rR (back c 3)) ∗ Φ (.gS 3) ∗ Φ (.gR (back c 3)) ∗ Φ (.w1 0) ∗ Φ (.w2 0) ∗ Φ (.w1 1) ∗ Φ (.w2 1) ∗ Φ (.rS 0) ∗ Φ (.gS 0) ∗ Φ (.rR c) ∗ Φ (.gR c)) := by
  have h : bigSep Finset.univ (fun i : Fin 34 => Φ (kd i)) = bigSep (Finset.univ.map ⟨kd, kd_injective⟩) Φ := (bigSep_map (⟨kd, kd_injective⟩ : Fin 34 ↪ Kd)).symm
  rw [h, bigSep_eq_bigSepL_of_eq (kinds c) (kinds_all c) (kinds_nodup c)]
  rfl

/-! ## The duty tokens of a device -/

/-- The duties a device pays: the device, the kind and the round of the cell, and the duty. -/
def tab (c : Dev nD) : Fin 38 → Dev nD × Kd × ℕ × Fin 4 := ![
  ((fwd c 1), .bar, 0, 1),
  ((fwd c 2), .bar, 0, 2),
  ((fwd c 3), .bar, 0, 3),
  ((fwd c 1), .bar2, 0, 1),
  ((fwd c 2), .bar2, 0, 2),
  ((fwd c 3), .bar2, 0, 3),
  (c, .agS 0, 0, 0),
  ((fwd c 1), .agR 0, 0, 0),
  (c, .sS 0, 0, 0),
  ((fwd c 1), .sR 0, 0, 0),
  (c, .agS 1, 0, 0),
  ((fwd c 1), .agR 1, 0, 0),
  (c, .sS 1, 0, 0),
  ((fwd c 1), .sR 1, 0, 0),
  (c, .agS 2, 0, 0),
  ((fwd c 1), .agR 2, 0, 0),
  (c, .sS 2, 0, 0),
  ((fwd c 1), .sR 2, 0, 0),
  (c, .rS 1, 0, 0),
  ((fwd c 1), .rR c, 0, 0),
  (c, .gS 1, 0, 0),
  ((fwd c 1), .gR c, 0, 0),
  (c, .rS 2, 0, 0),
  ((fwd c 2), .rR c, 0, 0),
  (c, .gS 2, 0, 0),
  ((fwd c 2), .gR c, 0, 0),
  (c, .rS 3, 0, 0),
  ((fwd c 3), .rR c, 0, 0),
  (c, .gS 3, 0, 0),
  ((fwd c 3), .gR c, 0, 0),
  (c, .w1 0, 0, 0),
  (c, .w2 0, 0, 0),
  (c, .w1 0, 1, 0),
  (c, .w2 0, 1, 0),
  (c, .w1 1, 0, 0),
  (c, .w2 1, 0, 0),
  (c, .w1 1, 1, 0),
  (c, .w2 1, 1, 0)]
/-- Who pays a duty, and which of its duties it is. -/
def payer (n : Dev nD) (k : Kd) (r : ℕ) (d : Fin 4) : Dev nD × ℕ :=
  match k with
  | .stg _ => (n, 0)
  | .bar => (back n d.val, d.val - 1)
  | .bar2 => (back n d.val, 2 + d.val)
  | .agS h => (n, 6 + 4 * h.val)
  | .agR h => (back n 1, 7 + 4 * h.val)
  | .sS h => (n, 8 + 4 * h.val)
  | .sR h => (back n 1, 9 + 4 * h.val)
  | .rS e => (n, 14 + 4 * e.val)
  | .rR j => (j, 15 + 4 * ((n.val + 4 - j.val) % 4))
  | .gS e => (n, 16 + 4 * e.val)
  | .gR j => (j, 17 + 4 * ((n.val + 4 - j.val) % 4))
  | .w1 s => (n, 30 + 4 * s.val + 2 * r)
  | .w2 s => (n, 31 + 4 * s.val + 2 * r)
theorem payer_tab : ∀ (c : Dev nD) (j : Fin 38), payer (tab c j).1 (tab c j).2.1 (tab c j).2.2.1 (tab c j).2.2.2 = (c, j.val) := by decide +kernel

abbrev tokOf (cj : Dev nD × Fin 38) : GSem nD τ sig × ℕ × Fin 4 :=
  (cell (tab cj.1 cj.2).1 (tab cj.1 cj.2).2.1, (tab cj.1 cj.2).2.2.1, (tab cj.1 cj.2).2.2.2)
theorem tokOf_injective : Function.Injective tokOf := by
  rintro ⟨c, j⟩ ⟨c', j'⟩ h
  have h1 := cell_inj.mp (congrArg (fun x : GSem nD τ sig × ℕ × Fin 4 => x.1) h)
  have h2 : (tab c j).2.2.1 = (tab c' j').2.2.1 := congrArg (fun x : GSem nD τ sig × ℕ × Fin 4 => x.2.1) h
  have h3 : (tab c j).2.2.2 = (tab c' j').2.2.2 := congrArg (fun x : GSem nD τ sig × ℕ × Fin 4 => x.2.2) h
  have e := payer_tab c j
  rw [h1.1, h1.2, h2, h3, payer_tab c' j'] at e
  exact Prod.ext (congrArg Prod.fst e).symm (Fin.ext (congrArg Prod.snd e).symm)

/-- The duty tokens a device pays with. -/
def toks (c : Dev nD) : sProp 𝕄 := bigSep Finset.univ fun j : Fin 38 => dutyTok ER (tokOf (c, j)).1 (tokOf (c, j)).2.1 (tokOf (c, j)).2.2

theorem toks_eq (c : Dev nD) : (toks c : sProp 𝕄) = iprop(tk (fwd c 1) .bar 0 1 ∗ tk (fwd c 2) .bar 0 2 ∗ tk (fwd c 3) .bar 0 3 ∗ tk (fwd c 1) .bar2 0 1 ∗ tk (fwd c 2) .bar2 0 2 ∗ tk (fwd c 3) .bar2 0 3 ∗ tk c (.agS 0) 0 0 ∗ tk (fwd c 1) (.agR 0) 0 0 ∗ tk c (.sS 0) 0 0 ∗ tk (fwd c 1) (.sR 0) 0 0 ∗ tk c (.agS 1) 0 0 ∗ tk (fwd c 1) (.agR 1) 0 0 ∗ tk c (.sS 1) 0 0 ∗ tk (fwd c 1) (.sR 1) 0 0 ∗ tk c (.agS 2) 0 0 ∗ tk (fwd c 1) (.agR 2) 0 0 ∗ tk c (.sS 2) 0 0 ∗ tk (fwd c 1) (.sR 2) 0 0 ∗ tk c (.rS 1) 0 0 ∗ tk (fwd c 1) (.rR c) 0 0 ∗ tk c (.gS 1) 0 0 ∗ tk (fwd c 1) (.gR c) 0 0 ∗ tk c (.rS 2) 0 0 ∗ tk (fwd c 2) (.rR c) 0 0 ∗ tk c (.gS 2) 0 0 ∗ tk (fwd c 2) (.gR c) 0 0 ∗ tk c (.rS 3) 0 0 ∗ tk (fwd c 3) (.rR c) 0 0 ∗ tk c (.gS 3) 0 0 ∗ tk (fwd c 3) (.gR c) 0 0 ∗ tk c (.w1 0) 0 0 ∗ tk c (.w2 0) 0 0 ∗ tk c (.w1 0) 1 0 ∗ tk c (.w2 0) 1 0 ∗ tk c (.w1 1) 0 0 ∗ tk c (.w2 1) 0 0 ∗ tk c (.w1 1) 1 0 ∗ tk c (.w2 1) 1 0) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37] (by decide) (by decide) _

/-! ## The credit of a device's waits -/

/-- What the devices together owe a cell. -/
theorem credit_at (c : Dev nD) (k : Kd) (n : ℕ) (h : (Finset.univ.sum fun d : Dev nD => (debts d).count (c, k)) * k.amt = n) :
    tallyOn (cell c k) (launchCredit (Pipeline.owing fun d => owe (debts d)) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => owe_apply (debts d) c k, ← Finset.sum_mul, h]

/-- The semaphores a device waits on for other devices' raises. -/
def awaited (c : Dev nD) : List (SemLoc sig) := [Kd.loc .bar, Kd.loc .bar2, Kd.loc (.agR 0), Kd.loc (.sR 0), Kd.loc (.agR 1), Kd.loc (.sR 1), Kd.loc (.agR 2), Kd.loc (.sR 2), Kd.loc (.rR (back c 1)), Kd.loc (.gR (back c 1)), Kd.loc (.rR (back c 2)), Kd.loc (.gR (back c 2)), Kd.loc (.rR (back c 3)), Kd.loc (.gR (back c 3))]

theorem pick {ι : Type} [Fintype ι] [DecidableEq ι] (l : List ι) (h : l.Nodup) (Φ : ι → sProp 𝕄) : bigSep Finset.univ Φ ⊢ bigSepL l Φ :=
  (bigSep_subset (Finset.subset_univ l.toFinset)).trans (Entails.of_eq (bigSep_eq_bigSepL_of_eq l rfl h Φ))

theorem creds (c : Dev nD) : (Pipeline.launchCred (fun d => owe (debts d)) c : sProp 𝕄)
    ⊢ iprop(cr c .bar 3 ∗ cr c .bar2 3 ∗ cr c (.agR 0) (Kd.agR 0).amt ∗ cr c (.sR 0) (Kd.sR 0).amt ∗ cr c (.agR 1) (Kd.agR 1).amt ∗ cr c (.sR 1) (Kd.sR 1).amt ∗ cr c (.agR 2) (Kd.agR 2).amt ∗ cr c (.sR 2) (Kd.sR 2).amt ∗ cr c (.rR (back c 1)) (Kd.rR (back c 1)).amt ∗ cr c (.gR (back c 1)) (Kd.gR (back c 1)).amt ∗ cr c (.rR (back c 2)) (Kd.rR (back c 2)).amt ∗ cr c (.gR (back c 2)) (Kd.gR (back c 2)).amt ∗ cr c (.rR (back c 3)) (Kd.rR (back c 3)).amt ∗ cr c (.gR (back c 3)) (Kd.gR (back c 3)).amt) := by
  unfold Pipeline.launchCred
  refine (pick (awaited c) (by revert c; decide +kernel) _).trans ?_

  have c_bar := congrArg (fun t => (cred t : sProp 𝕄)) (credit_at c .bar _ (show _ = 3 by rw [(by decide +kernel : ∀ c : Dev nD, (Finset.univ.sum fun d : Dev nD => (debts d).count (c, .bar)) = 3) c]; rfl))
  have c_bar2 := congrArg (fun t => (cred t : sProp 𝕄)) (credit_at c .bar2 _ (show _ = 3 by rw [(by decide +kernel : ∀ c : Dev nD, (Finset.univ.sum fun d : Dev nD => (debts d).count (c, .bar2)) = 3) c]; rfl))
  have c_agR0 := congrArg (fun t => (cred t : sProp 𝕄)) (credit_at c (.agR 0) _ (show _ = (Kd.agR 0).amt by rw [(by decide +kernel : ∀ c : Dev nD, (Finset.univ.sum fun d : Dev nD => (debts d).count (c, (.agR 0))) = 1) c, one_mul]))
  have c_sR0 := congrArg (fun t => (cred t : sProp 𝕄)) (credit_at c (.sR 0) _ (show _ = (Kd.sR 0).amt by rw [(by decide +kernel : ∀ c : Dev nD, (Finset.univ.sum fun d : Dev nD => (debts d).count (c, (.sR 0))) = 1) c, one_mul]))
  have c_agR1 := congrArg (fun t => (cred t : sProp 𝕄)) (credit_at c (.agR 1) _ (show _ = (Kd.agR 1).amt by rw [(by decide +kernel : ∀ c : Dev nD, (Finset.univ.sum fun d : Dev nD => (debts d).count (c, (.agR 1))) = 1) c, one_mul]))
  have c_sR1 := congrArg (fun t => (cred t : sProp 𝕄)) (credit_at c (.sR 1) _ (show _ = (Kd.sR 1).amt by rw [(by decide +kernel : ∀ c : Dev nD, (Finset.univ.sum fun d : Dev nD => (debts d).count (c, (.sR 1))) = 1) c, one_mul]))
  have c_agR2 := congrArg (fun t => (cred t : sProp 𝕄)) (credit_at c (.agR 2) _ (show _ = (Kd.agR 2).amt by rw [(by decide +kernel : ∀ c : Dev nD, (Finset.univ.sum fun d : Dev nD => (debts d).count (c, (.agR 2))) = 1) c, one_mul]))
  have c_sR2 := congrArg (fun t => (cred t : sProp 𝕄)) (credit_at c (.sR 2) _ (show _ = (Kd.sR 2).amt by rw [(by decide +kernel : ∀ c : Dev nD, (Finset.univ.sum fun d : Dev nD => (debts d).count (c, (.sR 2))) = 1) c, one_mul]))
  have c_rR1 := congrArg (fun t => (cred t : sProp 𝕄)) (credit_at c (.rR (back c 1)) _ (show _ = (Kd.rR (back c 1)).amt by rw [(by decide +kernel : ∀ c : Dev nD, (Finset.univ.sum fun d : Dev nD => (debts d).count (c, (.rR (back c 1)))) = 1) c, one_mul]))
  have c_gR1 := congrArg (fun t => (cred t : sProp 𝕄)) (credit_at c (.gR (back c 1)) _ (show _ = (Kd.gR (back c 1)).amt by rw [(by decide +kernel : ∀ c : Dev nD, (Finset.univ.sum fun d : Dev nD => (debts d).count (c, (.gR (back c 1)))) = 1) c, one_mul]))
  have c_rR2 := congrArg (fun t => (cred t : sProp 𝕄)) (credit_at c (.rR (back c 2)) _ (show _ = (Kd.rR (back c 2)).amt by rw [(by decide +kernel : ∀ c : Dev nD, (Finset.univ.sum fun d : Dev nD => (debts d).count (c, (.rR (back c 2)))) = 1) c, one_mul]))
  have c_gR2 := congrArg (fun t => (cred t : sProp 𝕄)) (credit_at c (.gR (back c 2)) _ (show _ = (Kd.gR (back c 2)).amt by rw [(by decide +kernel : ∀ c : Dev nD, (Finset.univ.sum fun d : Dev nD => (debts d).count (c, (.gR (back c 2)))) = 1) c, one_mul]))
  have c_rR3 := congrArg (fun t => (cred t : sProp 𝕄)) (credit_at c (.rR (back c 3)) _ (show _ = (Kd.rR (back c 3)).amt by rw [(by decide +kernel : ∀ c : Dev nD, (Finset.univ.sum fun d : Dev nD => (debts d).count (c, (.rR (back c 3)))) = 1) c, one_mul]))
  have c_gR3 := congrArg (fun t => (cred t : sProp 𝕄)) (credit_at c (.gR (back c 3)) _ (show _ = (Kd.gR (back c 3)).amt by rw [(by decide +kernel : ∀ c : Dev nD, (Finset.univ.sum fun d : Dev nD => (debts d).count (c, (.gR (back c 3)))) = 1) c, one_mul]))
  exact Entails.of_eq (congrArg₂ (fun a b => iprop(a ∗ b)) c_bar (congrArg₂ (fun a b => iprop(a ∗ b)) c_bar2 (congrArg₂ (fun a b => iprop(a ∗ b)) c_agR0 (congrArg₂ (fun a b => iprop(a ∗ b)) c_sR0 (congrArg₂ (fun a b => iprop(a ∗ b)) c_agR1 (congrArg₂ (fun a b => iprop(a ∗ b)) c_sR1 (congrArg₂ (fun a b => iprop(a ∗ b)) c_agR2 (congrArg₂ (fun a b => iprop(a ∗ b)) c_sR2 (congrArg₂ (fun a b => iprop(a ∗ b)) c_rR1 (congrArg₂ (fun a b => iprop(a ∗ b)) c_gR1 (congrArg₂ (fun a b => iprop(a ∗ b)) c_rR2 (congrArg₂ (fun a b => iprop(a ∗ b)) c_gR2 (congrArg₂ (fun a b => iprop(a ∗ b)) c_rR3 (c_gR3))))))))))))))

/-! ## Buffers and their slots -/

theorem cover {B J : Type} [Fintype B] [Fintype J] [DecidableEq J] (S : B → Finset J) (h : ∀ i, ∃ b, i ∈ S b) : Finset.univ.biUnion S = Finset.univ := by
  ext i; simp only [Finset.mem_biUnion, Finset.mem_univ, true_and, iff_true]; exact h i
/-- A buffer held whole is held piece by piece, -/
theorem blocks {n : ℕ} (ℓ : Loc nD τ sig) (S : Fin n → Finset (Idx ℓ)) (hd : ∀ j j', j ≠ j' → Disjoint (S j) (S j')) (hc : ∀ i, ∃ j, i ∈ S j) (f : Buf (Elt F) ℓ) :
    (ℓ ↦{fullShare} f : sProp 𝕄) = bigSep Finset.univ fun j => ℓ ↦[S j]{fullShare} f := Ring.pointsTo_blocks S hd (cover S hc) f
/-- and pieces at some contents join to the whole at some. -/
theorem blocks_some {n : ℕ} (ℓ : Loc nD τ sig) (S : Fin n → Finset (Idx ℓ)) (hd : ∀ j j', j ≠ j' → Disjoint (S j) (S j')) (hc : ∀ i, ∃ j, i ∈ S j) (f : Buf (Elt F) ℓ) :
    (bigSep Finset.univ fun j => iprop(∃ f, ℓ ↦[S j]{fullShare} f)) ⊢ (iprop(∃ f, ℓ ↦{fullShare} f) : sProp 𝕄) := Ring.pointsTo_blocks_join_exists S hd (cover S hc) f

theorem xP_whole (c : Dev nD) (f : Vec F S4x256x1024 .bf16) :
    ((c : Thread nD τ).loc cc0_scratch0 ↦{fullShare} f : sProp 𝕄) = bigSep Finset.univ fun j => xP c j fullShare f :=
  blocks ((c : Thread nD τ).loc cc0_scratch0) (fun j => slot (n := 4) (a := 256) (b := 1024) j) (fun j j' h => slot_disjoint j j' h) (fun i => ⟨i 0, mem_slot.mpr rfl⟩) f
theorem rP_whole (c : Dev nD) (f : Vec F S4x1024x4 .f32) :
    ((c : Thread nD τ).loc cc0_scratch1 ↦{fullShare} f : sProp 𝕄) = bigSep Finset.univ fun j => rP c j fullShare f :=
  blocks ((c : Thread nD τ).loc cc0_scratch1) (fun j => slot (n := 4) (a := 1024) (b := 4) j) (fun j j' h => slot_disjoint j j' h) (fun i => ⟨i 0, mem_slot.mpr rfl⟩) f
theorem gP_whole (c : Dev nD) (f : Vec F S4x256x16 .f32) :
    ((c : Thread nD τ).loc cc0_scratch2 ↦{fullShare} f : sProp 𝕄) = bigSep Finset.univ fun j => gP c j fullShare f :=
  blocks ((c : Thread nD τ).loc cc0_scratch2) (fun j => slot (n := 4) (a := 256) (b := 16) j) (fun j j' h => slot_disjoint j j' h) (fun i => ⟨i 0, mem_slot.mpr rfl⟩) f
theorem vP_whole (c : Dev nD) (f : Vec F S3x256x1024 .bf16) :
    ((c : Thread nD τ).loc cc0_scratch3 ↦{fullShare} f : sProp 𝕄) = bigSep Finset.univ fun j => vP c j fullShare f :=
  blocks ((c : Thread nD τ).loc cc0_scratch3) (fun j => slot (n := 3) (a := 256) (b := 1024) j) (fun j j' h => slot_disjoint j j' h) (fun i => ⟨i 0, mem_slot.mpr rfl⟩) f
theorem vP_some (c : Dev nD) (f₀ : Vec F S3x256x1024 .bf16) :
    (bigSep Finset.univ fun j => iprop(∃ f, vP (F := F) c j fullShare f)) ⊢ iprop(∃ f, (c : Thread nD τ).loc cc0_scratch3 ↦{fullShare} f) :=
  blocks_some ((c : Thread nD τ).loc cc0_scratch3) (fun j => slot (n := 3) (a := 256) (b := 1024) j) (fun j j' h => slot_disjoint j j' h) (fun i => ⟨i 0, mem_slot.mpr rfl⟩) f₀
theorem sP_whole (c : Dev nD) (f : Vec F S3x256x1024 .bf16) :
    ((c : Thread nD τ).loc cc0_scratch4 ↦{fullShare} f : sProp 𝕄) = bigSep Finset.univ fun j => sP c j fullShare f :=
  blocks ((c : Thread nD τ).loc cc0_scratch4) (fun j => slot (n := 3) (a := 256) (b := 1024) j) (fun j j' h => slot_disjoint j j' h) (fun i => ⟨i 0, mem_slot.mpr rfl⟩) f
theorem sP_some (c : Dev nD) (f₀ : Vec F S3x256x1024 .bf16) :
    (bigSep Finset.univ fun j => iprop(∃ f, sP (F := F) c j fullShare f)) ⊢ iprop(∃ f, (c : Thread nD τ).loc cc0_scratch4 ↦{fullShare} f) :=
  blocks_some ((c : Thread nD τ).loc cc0_scratch4) (fun j => slot (n := 3) (a := 256) (b := 1024) j) (fun j j' h => slot_disjoint j j' h) (fun i => ⟨i 0, mem_slot.mpr rfl⟩) f₀
theorem b1P_whole (c : Dev nD) (f : Vec F S2x1024x2048 .f32) :
    ((c : Thread nD τ).loc cc0_scratch6 ↦{fullShare} f : sProp 𝕄) = bigSep Finset.univ fun j => b1P c j fullShare f :=
  blocks ((c : Thread nD τ).loc cc0_scratch6) (fun j => slot (n := 2) (a := 1024) (b := 2048) j) (fun j j' h => slot_disjoint j j' h) (fun i => ⟨i 0, mem_slot.mpr rfl⟩) f
theorem b1P_some (c : Dev nD) (f₀ : Vec F S2x1024x2048 .f32) :
    (bigSep Finset.univ fun j => iprop(∃ f, b1P (F := F) c j fullShare f)) ⊢ iprop(∃ f, (c : Thread nD τ).loc cc0_scratch6 ↦{fullShare} f) :=
  blocks_some ((c : Thread nD τ).loc cc0_scratch6) (fun j => slot (n := 2) (a := 1024) (b := 2048) j) (fun j j' h => slot_disjoint j j' h) (fun i => ⟨i 0, mem_slot.mpr rfl⟩) f₀
theorem b2P_whole (c : Dev nD) (f : Vec F S2x2048x1024 .f32) :
    ((c : Thread nD τ).loc cc0_scratch7 ↦{fullShare} f : sProp 𝕄) = bigSep Finset.univ fun j => b2P c j fullShare f :=
  blocks ((c : Thread nD τ).loc cc0_scratch7) (fun j => slot (n := 2) (a := 2048) (b := 1024) j) (fun j j' h => slot_disjoint j j' h) (fun i => ⟨i 0, mem_slot.mpr rfl⟩) f
theorem b2P_some (c : Dev nD) (f₀ : Vec F S2x2048x1024 .f32) :
    (bigSep Finset.univ fun j => iprop(∃ f, b2P (F := F) c j fullShare f)) ⊢ iprop(∃ f, (c : Thread nD τ).loc cc0_scratch7 ↦{fullShare} f) :=
  blocks_some ((c : Thread nD τ).loc cc0_scratch7) (fun j => slot (n := 2) (a := 2048) (b := 1024) j) (fun j j' h => slot_disjoint j j' h) (fun i => ⟨i 0, mem_slot.mpr rfl⟩) f₀
theorem e1P_whole (c : Dev nD) (f : Vec F S4x1024x2048 .f32) :
    ((c : Thread nD τ).loc main_arg2 ↦{fullShare} f : sProp 𝕄) = bigSep Finset.univ fun j => e1P c j fullShare f :=
  blocks ((c : Thread nD τ).loc main_arg2) (fun j => slot (n := 4) (a := 1024) (b := 2048) j) (fun j j' h => slot_disjoint j j' h) (fun i => ⟨i 0, mem_slot.mpr rfl⟩) f
theorem e2P_whole (c : Dev nD) (f : Vec F S4x2048x1024 .f32) :
    ((c : Thread nD τ).loc main_arg3 ↦{fullShare} f : sProp 𝕄) = bigSep Finset.univ fun j => e2P c j fullShare f :=
  blocks ((c : Thread nD τ).loc main_arg3) (fun j => slot (n := 4) (a := 2048) (b := 1024) j) (fun j j' h => slot_disjoint j j' h) (fun i => ⟨i 0, mem_slot.mpr rfl⟩) f

theorem fin2 (Φ : Fin 2 → sProp 𝕄) : bigSep Finset.univ Φ = iprop(Φ 0 ∗ Φ 1) := bigSep_univ_eq_bigSepL [0, 1] (by decide) (by decide) Φ
theorem fin3 (Φ : Fin 3 → sProp 𝕄) : bigSep Finset.univ Φ = iprop(Φ 0 ∗ Φ 1 ∗ Φ 2) := bigSep_univ_eq_bigSepL [0, 1, 2] (by decide) (by decide) Φ
theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ

variable (I : Inp F)

/-- A device's places in its cells and its duty tokens. -/
def linear (c : Dev nD) : sProp 𝕄 := iprop((bigSep Finset.univ fun i : Fin 34 => ap (F := F) c (kd i) 0) ∗ toks c)
/-- Its weights. -/
def weights (c : Dev nD) : sProp 𝕄 := iprop(((c : Thread nD τ).loc main_arg2 ↦{fullShare} I.w1 c) ∗ ((c : Thread nD τ).loc main_arg3 ↦{fullShare} I.w2 c))
/-- The cells no exchange uses. -/
def idle (c : Dev nD) : sProp 𝕄 := iprop(ap (F := F) c (.rS 0) 0 ∗ ap (F := F) c (.gS 0) 0 ∗ ap (F := F) c (.rR c) 0 ∗ ap (F := F) c (.gR c) 0)

set_option maxHeartbeats 4000000 in
set_option maxRecDepth 20000 in
/-- What the launch deals a device is what its body starts from. -/
theorem start_body (c : Dev nD) :
    iprop(linear (F := F) c ∗ Pipeline.launchCred (fun d => owe (debts d)) c ∗ weights I c ∗ Pipeline.scopedRest spec0 c
      ∗ ow (F := F) c (debts c) ∗ xsP c (I.x c) ∗ rtP c (I.rt c) ∗ (∃ f, oP (F := F) c f)) ⊢ iprop(startRes I c ∗ idle (F := F) c) := by
  rw [scopedRest0_eq]
  unfold linear weights
  iintro ⟨⟨Hp, Ht⟩, Hcr, ⟨E1, E2⟩, ⟨⟨%fX, X⟩, ⟨%fR, R⟩, ⟨%fG, G⟩, ⟨%fV, V⟩, ⟨%fS, S⟩, A, ⟨%f1, B1⟩, ⟨%f2, B2⟩⟩, ho, x, rt, o⟩
  ihave Hp := (Entails.of_eq (cells_eq c fun k => ap (F := F) c k 0)) $$ Hp
  icases Hp with ⟨p_bar, p_bar2, p_agS0, p_agR0, p_sS0, p_sR0, p_agS1, p_agR1, p_sS1, p_sR1, p_agS2, p_agR2, p_sS2, p_sR2, p_rS1, p_rR1, p_gS1, p_gR1, p_rS2, p_rR2, p_gS2, p_gR2, p_rS3, p_rR3, p_gS3, p_gR3, p_w1_0, p_w2_0, p_w1_1, p_w2_1, q_rS, q_gS, q_rR, q_gR⟩
  ihave Ht := (Entails.of_eq (toks_eq (F := F) c)) $$ Ht
  icases Ht with ⟨t_bar_1, t_bar_2, t_bar_3, t_bar2_1, t_bar2_2, t_bar2_3, t_agS0, t_agR0, t_sS0, t_sR0, t_agS1, t_agR1, t_sS1, t_sR1, t_agS2, t_agR2, t_sS2, t_sR2, t_rS1, t_rR1, t_gS1, t_gR1, t_rS2, t_rR2, t_gS2, t_gR2, t_rS3, t_rR3, t_gS3, t_gR3, t_w1_0_0, t_w2_0_0, t_w1_0_1, t_w2_0_1, t_w1_1_0, t_w2_1_0, t_w1_1_1, t_w2_1_1⟩
  ihave Hcr := (creds (F := F) c) $$ Hcr
  icases Hcr with ⟨c_bar, c_bar2, c_agR0, c_sR0, c_agR1, c_sR1, c_agR2, c_sR2, c_rR1, c_gR1, c_rR2, c_gR2, c_rR3, c_gR3⟩
  ihave X := (Entails.of_eq ((xP_whole c fX).trans (rel4 c _))) $$ X
  icases X with ⟨X0, X1, X2, X3⟩
  ihave R := (Entails.of_eq ((rP_whole c fR).trans (rel4' c _))) $$ R
  icases R with ⟨R0, R1, R2, R3⟩
  ihave G := (Entails.of_eq ((gP_whole c fG).trans (rel4' c _))) $$ G
  icases G with ⟨G0, G1, G2, G3⟩
  ihave V := (Entails.of_eq ((vP_whole c fV).trans (fin3 _))) $$ V
  icases V with ⟨V0, V1, V2⟩
  ihave S := (Entails.of_eq ((sP_whole c fS).trans (fin3 _))) $$ S
  icases S with ⟨S0, S1, S2⟩
  ihave B1 := (Entails.of_eq ((b1P_whole c f1).trans (fin2 _))) $$ B1
  icases B1 with ⟨B1_0, B1_1⟩
  ihave B2 := (Entails.of_eq ((b2P_whole c f2).trans (fin2 _))) $$ B2
  icases B2 with ⟨B2_0, B2_1⟩
  ihave E1 := (Entails.of_eq ((e1P_whole c (I.w1 c)).trans (fin4 _))) $$ E1
  icases E1 with ⟨E1_0, E1_1, E1_2, E1_3⟩
  ihave E2 := (Entails.of_eq ((e2P_whole c (I.w2 c)).trans (fin4 _))) $$ E2
  icases E2 with ⟨E2_0, E2_1, E2_2, E2_3⟩
  unfold startRes idle
  isplitr [q_rS q_gS q_rR q_gR]
  · isplitl [ho]
    · iexact ho
    isplitl [x]
    · iexact x
    isplitl [rt]
    · iexact rt
    isplitl [o]
    · iexact o
    isplitl [X0]
    · iexists fX; iexact X0
    isplitl [R0]
    · iexists fR; iexact R0
    isplitl [G0]
    · unfold gFill; iexists fG; isplitr; · (ipureintro; intro i _ h; omega)
      iexact G0
    isplitl [R1 G1]
    · unfold barPay; isplitl [R1]; · iexists fR; iexact R1
      iexists fG; iexact G1
    isplitl [R2 G2]
    · unfold barPay; isplitl [R2]; · iexists fR; iexact R2
      iexists fG; iexact G2
    isplitl [R3 G3]
    · unfold barPay; isplitl [R3]; · iexists fR; iexact R3
      iexists fG; iexact G3
    isplitl [X1 X2 X3 V0 V1 V2]
    · unfold barExtra
      isplitl [X1]; · iexists fX; iexact X1
      isplitl [X2]; · iexists fX; iexact X2
      isplitl [X3]; · iexists fX; iexact X3
      isplitl [V0]; · iexists fV; iexact V0
      isplitl [V1]; · iexists fV; iexact V1
      iexists fV; iexact V2
    isplitl [S0]
    · iexists fS; iexact S0
    isplitl [S1]
    · iexists fS; iexact S1
    isplitl [S2]
    · iexists fS; iexact S2
    isplitl [A]
    · icases A with ⟨%fA, A⟩; iexists fA; unfold aP; iexact A
    isplitl [B1_0]
    · iexists f1; iexact B1_0
    isplitl [B2_0]
    · iexists f2; iexact B2_0
    isplitl [B1_1]
    · iexists f1; iexact B1_1
    isplitl [B2_1]
    · iexists f2; iexact B2_1
    isplitl [E1_0]
    · iexact E1_0
    isplitl [E2_0]
    · iexact E2_0
    isplitl [E1_1]
    · iexact E1_1
    isplitl [E2_1]
    · iexact E2_1
    isplitl [E1_2]
    · iexact E1_2
    isplitl [E2_2]
    · iexact E2_2
    isplitl [E1_3]
    · iexact E1_3
    isplitl [E2_3]
    · iexact E2_3
    isplitl [t_bar_1]
    · iexact t_bar_1
    isplitl [t_bar_2]
    · iexact t_bar_2
    isplitl [t_bar_3]
    · iexact t_bar_3
    isplitl [t_bar2_1]
    · iexact t_bar2_1
    isplitl [t_bar2_2]
    · iexact t_bar2_2
    isplitl [t_bar2_3]
    · iexact t_bar2_3
    isplitl [t_agS0]
    · iexact t_agS0
    isplitl [t_agR0]
    · iexact t_agR0
    isplitl [t_sS0]
    · iexact t_sS0
    isplitl [t_sR0]
    · iexact t_sR0
    isplitl [t_agS1]
    · iexact t_agS1
    isplitl [t_agR1]
    · iexact t_agR1
    isplitl [t_sS1]
    · iexact t_sS1
    isplitl [t_sR1]
    · iexact t_sR1
    isplitl [t_agS2]
    · iexact t_agS2
    isplitl [t_agR2]
    · iexact t_agR2
    isplitl [t_sS2]
    · iexact t_sS2
    isplitl [t_sR2]
    · iexact t_sR2
    isplitl [t_rS1]
    · iexact t_rS1
    isplitl [t_rR1]
    · iexact t_rR1
    isplitl [t_gS1]
    · iexact t_gS1
    isplitl [t_gR1]
    · iexact t_gR1
    isplitl [t_rS2]
    · iexact t_rS2
    isplitl [t_rR2]
    · iexact t_rR2
    isplitl [t_gS2]
    · iexact t_gS2
    isplitl [t_gR2]
    · iexact t_gR2
    isplitl [t_rS3]
    · iexact t_rS3
    isplitl [t_rR3]
    · iexact t_rR3
    isplitl [t_gS3]
    · iexact t_gS3
    isplitl [t_gR3]
    · iexact t_gR3
    isplitl [t_w1_0_0]
    · iexact t_w1_0_0
    isplitl [t_w2_0_0]
    · iexact t_w2_0_0
    isplitl [t_w1_0_1]
    · iexact t_w1_0_1
    isplitl [t_w2_0_1]
    · iexact t_w2_0_1
    isplitl [t_w1_1_0]
    · iexact t_w1_1_0
    isplitl [t_w2_1_0]
    · iexact t_w2_1_0
    isplitl [t_w1_1_1]
    · iexact t_w1_1_1
    isplitl [t_w2_1_1]
    · iexact t_w2_1_1
    isplitl [p_bar]
    · iexact p_bar
    isplitl [p_bar2]
    · iexact p_bar2
    isplitl [p_agS0]
    · iexact p_agS0
    isplitl [p_agR0]
    · iexact p_agR0
    isplitl [p_sS0]
    · iexact p_sS0
    isplitl [p_sR0]
    · iexact p_sR0
    isplitl [p_agS1]
    · iexact p_agS1
    isplitl [p_agR1]
    · iexact p_agR1
    isplitl [p_sS1]
    · iexact p_sS1
    isplitl [p_sR1]
    · iexact p_sR1
    isplitl [p_agS2]
    · iexact p_agS2
    isplitl [p_agR2]
    · iexact p_agR2
    isplitl [p_sS2]
    · iexact p_sS2
    isplitl [p_sR2]
    · iexact p_sR2
    isplitl [p_rS1]
    · iexact p_rS1
    isplitl [p_rR1]
    · iexact p_rR1
    isplitl [p_gS1]
    · iexact p_gS1
    isplitl [p_gR1]
    · iexact p_gR1
    isplitl [p_rS2]
    · iexact p_rS2
    isplitl [p_rR2]
    · iexact p_rR2
    isplitl [p_gS2]
    · iexact p_gS2
    isplitl [p_gR2]
    · iexact p_gR2
    isplitl [p_rS3]
    · iexact p_rS3
    isplitl [p_rR3]
    · iexact p_rR3
    isplitl [p_gS3]
    · iexact p_gS3
    isplitl [p_gR3]
    · iexact p_gR3
    isplitl [p_w1_0]
    · iexact p_w1_0
    isplitl [p_w2_0]
    · iexact p_w2_0
    isplitl [p_w1_1]
    · iexact p_w1_1
    isplitl [p_w2_1]
    · iexact p_w2_1
    isplitl [c_bar]
    · iexact c_bar
    isplitl [c_bar2]
    · iexact c_bar2
    isplitl [c_agR0]
    · iexact c_agR0
    isplitl [c_sR0]
    · iexact c_sR0
    isplitl [c_agR1]
    · iexact c_agR1
    isplitl [c_sR1]
    · iexact c_sR1
    isplitl [c_agR2]
    · iexact c_agR2
    isplitl [c_sR2]
    · iexact c_sR2
    isplitl [c_rR1]
    · iexact c_rR1
    isplitl [c_gR1]
    · iexact c_gR1
    isplitl [c_rR2]
    · iexact c_rR2
    isplitl [c_gR2]
    · iexact c_gR2
    isplitl [c_rR3]
    · iexact c_rR3
    iexact c_gR3
  isplitl [q_rS]; · iexact q_rS
  isplitl [q_gS]; · iexact q_gS
  isplitl [q_rR]; · iexact q_rR
  iexact q_gR

/-- What a device hands back: its weights, its cells at zero and its buffers. -/
def handed (c : Dev nD) : sProp 𝕄 :=
  iprop(weights I c ∗ (bigSep Finset.univ fun i : Fin 34 => (semVal (cell c (kd i)) 0 : sProp 𝕄)) ∗ Pipeline.scopedRest spec0 c
    ∗ ow (F := F) c [] ∗ xsP c (I.x c) ∗ rtP c (I.rt c) ∗ oP c (outC I c))

set_option maxHeartbeats 4000000 in
set_option maxRecDepth 20000 in
/-- What the body ends with, its unused cells closed, is what the device hands back. -/
theorem end_body (c : Dev nD) : iprop(ctx I ∗ endRes I c ∗ idle (F := F) c) ⊢ iprop(|={Set.univ}=> handed I c) := by
  unfold endRes idle handed
  rw [scopedRest0_eq, cells_eq c fun k => (semVal (cell c k) 0 : sProp 𝕄)]
  iintro ⟨#Hc, ⟨z_bar, x, rt, z_rR1, z_rR2, z_rR3, restR, LR0, LR1, LR2, LR3, z_agR0, z_gR1, z_gR2, z_gR3, restG, LG0, LG1, LG2, LG3, z_agR1, z_agR2, X3, LX0, LX1, LX2, LX3, E1_0, E2_0, E1_1, E2_1, z_w1_0, E1_2, z_w2_0, E2_2, B1_0, B2_0, z_w1_1, E1_3, z_w2_1, E2_3, B1_1, B2_1, z_sR0, V0, z_sR1, V1, z_sR2, A, V2, o, z_agS0, X0, z_rS1, R0_1, z_rS2, R0_2, z_rS3, R0_3, z_gS1, G0_1, z_gS2, G0_2, z_gS3, G0_3, z_agS1, X1, z_agS2, X2, z_sS0, S0, z_sS1, S1, z_sS2, S2, ho, z_bar2⟩, q_rS, q_gS, q_rR, q_gR⟩
  imod (r_close I c (.rS 0) 0 rfl (fun r _ => by unfold dut; simp)) $$ [q_rS] with y_rS
  · isplitr; · iexact Hc
    iexact q_rS
  imod (r_close I c (.gS 0) 0 rfl (fun r _ => by unfold dut; simp)) $$ [q_gS] with y_gS
  · isplitr; · iexact Hc
    iexact q_gS
  imod (r_close I c (.rR c) 0 rfl (fun r _ => by unfold dut; simp)) $$ [q_rR] with y_rR
  · isplitr; · iexact Hc
    iexact q_rR
  imod (r_close I c (.gR c) 0 rfl (fun r _ => by unfold dut; simp)) $$ [q_gR] with y_gR
  · isplitr; · iexact Hc
    iexact q_gR
  ihave X := ((xP_all I c).trans (Entails.of_eq (xP_whole c (XC I)).symm)) $$ [LX0 LX1 LX2 LX3 X0 X1 X2 X3]
  · isplitl [LX0]; · iexact LX0
    isplitl [LX1]; · iexact LX1
    isplitl [LX2]; · iexact LX2
    isplitl [LX3]; · iexact LX3
    isplitl [X0]; · iexact X0
    isplitl [X1]; · iexact X1
    isplitl [X2]; · iexact X2
    iexact X3
  ihave R := ((rP_all I c).trans (Entails.of_eq (rP_whole c (RC I)).symm)) $$ [LR0 LR1 LR2 LR3 restR R0_1 R0_2 R0_3]
  · isplitl [LR0]; · iexact LR0
    isplitl [LR1]; · iexact LR1
    isplitl [LR2]; · iexact LR2
    isplitl [LR3]; · iexact LR3
    isplitl [restR]; · iexact restR
    isplitl [R0_1]; · iexact R0_1
    isplitl [R0_2]; · iexact R0_2
    iexact R0_3
  ihave G := ((gP_all I c).trans (Entails.of_eq (gP_whole c (GC I)).symm)) $$ [LG0 LG1 LG2 LG3 restG G0_1 G0_2 G0_3]
  · isplitl [LG0]; · iexact LG0
    isplitl [LG1]; · iexact LG1
    isplitl [LG2]; · iexact LG2
    isplitl [LG3]; · iexact LG3
    isplitl [restG]; · iexact restG
    isplitl [G0_1]; · iexact G0_1
    isplitl [G0_2]; · iexact G0_2
    iexact G0_3
  ihave V := ((Entails.of_eq (fin3 fun j => iprop(∃ f, vP (F := F) c j fullShare f)).symm).trans (vP_some c (RSB I (back c 1) 0))) $$ [V0 V1 V2]
  · isplitl [V0]; · iexists _; iexact V0
    isplitl [V1]; · iexists _; iexact V1
    iexists _; iexact V2
  ihave S := ((Entails.of_eq (fin3 fun j => iprop(∃ f, sP (F := F) c j fullShare f)).symm).trans (sP_some c (RSB I c 0))) $$ [S0 S1 S2]
  · isplitl [S0]; · iexists _; iexact S0
    isplitl [S1]; · iexists _; iexact S1
    iexists _; iexact S2
  ihave B1 := ((Entails.of_eq (fin2 fun j => iprop(∃ f, b1P (F := F) c j fullShare f)).symm).trans (b1P_some c (WB1 I c 2))) $$ [B1_0 B1_1]
  · isplitl [B1_0]; · iexists _; iexact B1_0
    iexists _; iexact B1_1
  ihave B2 := ((Entails.of_eq (fin2 fun j => iprop(∃ f, b2P (F := F) c j fullShare f)).symm).trans (b2P_some c (WB2 I c 2))) $$ [B2_0 B2_1]
  · isplitl [B2_0]; · iexists _; iexact B2_0
    iexists _; iexact B2_1
  ihave E1 := (Entails.of_eq ((e1P_whole c (I.w1 c)).trans (fin4 _)).symm) $$ [E1_0 E1_1 E1_2 E1_3]
  · isplitl [E1_0]; · iexact E1_0
    isplitl [E1_1]; · iexact E1_1
    isplitl [E1_2]; · iexact E1_2
    iexact E1_3
  ihave E2 := (Entails.of_eq ((e2P_whole c (I.w2 c)).trans (fin4 _)).symm) $$ [E2_0 E2_1 E2_2 E2_3]
  · isplitl [E2_0]; · iexact E2_0
    isplitl [E2_1]; · iexact E2_1
    isplitl [E2_2]; · iexact E2_2
    iexact E2_3
  imodintro
  isplitl [E1 E2]
  · unfold weights; isplitl [E1] <;> iassumption
  isplitl [z_bar z_bar2 z_agS0 z_agR0 z_sS0 z_sR0 z_agS1 z_agR1 z_sS1 z_sR1 z_agS2 z_agR2 z_sS2 z_sR2 z_rS1 z_rR1 z_gS1 z_gR1 z_rS2 z_rR2 z_gS2 z_gR2 z_rS3 z_rR3 z_gS3 z_gR3 z_w1_0 z_w2_0 z_w1_1 z_w2_1 y_rS y_gS y_rR y_gR]
  · isplitl [z_bar]; · iexact z_bar
    isplitl [z_bar2]; · iexact z_bar2
    isplitl [z_agS0]; · iexact z_agS0
    isplitl [z_agR0]; · iexact z_agR0
    isplitl [z_sS0]; · iexact z_sS0
    isplitl [z_sR0]; · iexact z_sR0
    isplitl [z_agS1]; · iexact z_agS1
    isplitl [z_agR1]; · iexact z_agR1
    isplitl [z_sS1]; · iexact z_sS1
    isplitl [z_sR1]; · iexact z_sR1
    isplitl [z_agS2]; · iexact z_agS2
    isplitl [z_agR2]; · iexact z_agR2
    isplitl [z_sS2]; · iexact z_sS2
    isplitl [z_sR2]; · iexact z_sR2
    isplitl [z_rS1]; · iexact z_rS1
    isplitl [z_rR1]; · iexact z_rR1
    isplitl [z_gS1]; · iexact z_gS1
    isplitl [z_gR1]; · iexact z_gR1
    isplitl [z_rS2]; · iexact z_rS2
    isplitl [z_rR2]; · iexact z_rR2
    isplitl [z_gS2]; · iexact z_gS2
    isplitl [z_gR2]; · iexact z_gR2
    isplitl [z_rS3]; · iexact z_rS3
    isplitl [z_rR3]; · iexact z_rR3
    isplitl [z_gS3]; · iexact z_gS3
    isplitl [z_gR3]; · iexact z_gR3
    isplitl [z_w1_0]; · iexact z_w1_0
    isplitl [z_w2_0]; · iexact z_w2_0
    isplitl [z_w1_1]; · iexact z_w1_1
    isplitl [z_w2_1]; · iexact z_w2_1
    isplitl [y_rS]; · iexact y_rS
    isplitl [y_gS]; · iexact y_gS
    isplitl [y_rR]; · iexact y_rR
    iexact y_gR
  isplitl [X R G V S A B1 B2]
  · isplitl [X]; · iexists XC I; iexact X
    isplitl [R]; · iexists RC I; iexact R
    isplitl [G]; · iexists GC I; iexact G
    isplitl [V]; · iexact V
    isplitl [S]; · iexact S
    isplitl [A]; · iexists A4 I c; iapply (show aP c (A4 I c) ⊢ ((c : Thread nD τ).loc cc0_scratch5 ↦{fullShare} A4 I c : sProp 𝕄) from Entails.of_eq rfl); iexact A
    isplitl [B1]; · iexact B1
    iexact B2
  isplitl [ho]; · iexact ho
  isplitl [x]; · iexact x
  isplitl [rt]; · iexact rt
  iexact o

end Cert.MoE

end
-- ==== Proof.Launch.lean ====
/-
# The run

The launch of the four devices and what it leaves: every device's result at the body's value, the arguments as they were
and every semaphore at zero.
-/
module

public import proofs.«01_k».proof.Proof.Start

public import Idealize.ShloMosaic.Lib.Pipeline.CollectiveSegs

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory the devices start on, every counter at zero. -/
abbrev s₀ : MemSt nD τ sig (Elt F) := ⟨m, fun _ => 0, ρ⟩

/-- The blocks of the arguments in that memory. -/
def inp : Inp F where
  x c := (win0_0.blk (0 : Fin 1)).view.read (Elt F) (m ((c : Thread nD τ).loc main_arg0))
  rt c := (win0_1.blk (0 : Fin 1)).view.read (Elt F) (m ((c : Thread nD τ).loc main_arg1))
  w1 c := m ((c : Thread nD τ).loc main_arg2)
  w2 c := m ((c : Thread nD τ).loc main_arg3)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device starts from beside its buffers, -/
def dealt (c : Dev nD) : sProp 𝕄 :=
  iprop(ctx (inp m) ∗ linear (F := F) c ∗ Pipeline.launchCred (fun d => owe (debts d)) c ∗ weights (inp m) c)
def Φ₀ (c : Dev nD) : sProp 𝕄 := iprop(dealt m c ∗ Pipeline.scopedRest spec0 c)
/-- and what it ends with. -/
def Φ₁ (c : Dev nD) : sProp 𝕄 :=
  iprop(weights (inp m) c ∗ (bigSep Finset.univ fun i : Fin 34 => (semVal (cell c (kd i)) 0 : sProp 𝕄)) ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).rt c
    | ⟨2, _⟩ => outC (inp m) c
  Φ t := match t with
    | ⟨0, _⟩ => Φ₀ m c
    | ⟨_ + 1, _⟩ => Φ₁ m c
  q _ := fullShare
  owed t := match t with
    | ⟨0, _⟩ => owe (debts c)
    | ⟨_ + 1, _⟩ => 0

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m c ∗ (dats m ρ 0 c).owesAt () t₀.succ ∗ stg c cc0_stg0_0 ((inp m).x c) ∗ stg c cc0_stg1_0 ((inp m).rt c) ∗ stg c cc0_stg2_0 (outC (inp m) c))

/-- The body from the launch's resources to what the pipeline takes back. -/
theorem sound_body (c : Dev nD) : bodyPre m ρ c ⊢ WP c (cc0_body xM (Memref.isWhole_whole _) rtM (Memref.isWhole_whole _) w1M (Memref.isWhole_whole _) w2M (Memref.isWhole_whole _) oM (Memref.isWhole_whole _) XM (Memref.isWhole_whole _) RM (Memref.isWhole_whole _) GM (Memref.isWhole_whole _) VM (Memref.isWhole_whole _) SM (Memref.isWhole_whole _) AM (Memref.isWhole_whole _) B1M (Memref.isWhole_whole _) B2M (Memref.isWhole_whole _) cc0_scratch8 cc0_scratch9 cc0_scratch10 cc0_scratch11 cc0_scratch12 cc0_scratch13 cc0_scratch14 cc0_scratch15 cc0_scratch16 cc0_scratch17 cc0_scoped0) (fun _ => bodyPost m ρ c) := by
  unfold bodyPre Φ₀ dealt
  iintro ⟨⟨⟨#Hc, Hl, Hcr, Hw⟩, Hs⟩, Ho, ⟨%d0, %g0, %hg0, Hx⟩, ⟨%d1, %g1, %hg1, Hr⟩, ⟨%d2, %g2, %hg2, Hout⟩⟩
  have hx : g0 = (inp m).x c := by rw [hg0]; unfold Dat.before; rw [if_pos (fetch_0 t₀)]; rfl
  subst hx
  have hr : g1 = (inp m).rt c := by rw [hg1]; unfold Dat.before; rw [if_pos (fetch_1 t₀)]; rfl
  subst hr
  unfold Dat.owesAt Pipeline.owesWithin
  icases Ho with ⟨%W, %hW, HO⟩
  rw [show (dats m ρ 0 c).owed t₀.castSucc = owe (debts c) from rfl]
  ihave H := (start_body (inp m) c) $$ [Hl Hcr Hw Hs HO Hx Hr Hout]
  · isplitl [Hl]; · iexact Hl
    isplitl [Hcr]; · iexact Hcr
    isplitl [Hw]; · iexact Hw
    isplitl [Hs]; · iexact Hs
    isplitl [HO]; · unfold ow; iexists W; iexact HO
    isplitl [Hx]; · unfold xsP; iexact Hx
    isplitl [Hr]; · unfold rtP; iexact Hr
    iexists g2; unfold oP; iexact Hout
  icases H with ⟨H, Hi⟩
  iapply (wp_fupd frame _ Set.univ)
  iapply (body_run (inp m) c)
  isplitr; · iexact Hc
  isplitl [H]; · iexact H
  iintro H
  imod (end_body (inp m) c) $$ [H Hi] with H
  · isplitr; · iexact Hc
    isplitl [H] <;> iassumption
  imodintro
  unfold handed ow bodyPost Φ₁ Dat.owesAt Pipeline.owesWithin
  icases H with ⟨Hw, Hz, Hs, ⟨%W', HO⟩, Hx, Hr, Hout⟩
  rw [show (dats m ρ 0 c).owed t₀.succ = 0 from rfl]
  isplitl [Hw Hz Hs]
  · isplitl [Hw]; · iexact Hw
    isplitl [Hz] <;> iassumption
  isplitl [HO]
  · iexists W'
    isplitr; · ipureintro; exact fun _ _ => Or.inl trivial
    iexact HO
  isplitl [Hx]
  · iexists _; isplitr; · (ipureintro; rfl)
    unfold xsP; iexact Hx
  isplitl [Hr]
  · iexists _; isplitr; · (ipureintro; rfl)
    unfold rtP; iexact Hr
  iexists _; isplitr; · (ipureintro; rfl)
  unfold oP; iexact Hout

set_option maxRecDepth 40000 in
set_option maxHeartbeats 1000000 in
/-- The pipeline's obligation on the body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

/-! ## The launch -/

/-- The kernel's own semaphores: all but the runtime's barrier. -/
abbrev osem : Fin 33 → SemLoc sig := fun i => (kd i.succ).loc

set_option maxRecDepth 40000 in
theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective kcell := by
  rintro ⟨c, k⟩ ⟨c', k'⟩ h
  have h1 := cell_inj.mp h
  exact Prod.ext h1.1 (kd_injective h1.2)
def allCells : Finset (GSem nD τ sig) := Finset.univ.map ⟨kcell, kcell_injective⟩
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- What the launch's element deals a device, -/
def G (c : Dev nD) : sProp 𝕄 :=
  iprop((bigSep Finset.univ fun k : Fin 34 => roundState ER (Rd (inp m)) (kcell (c, k)) 0)
    ∗ (bigSep Finset.univ fun k : Fin 34 => (reached ER (kcell (c, k)) 0 : sProp 𝕄)) ∗ linear c)

/-- the facts on all cells, -/
def records : sProp 𝕄 :=
  iprop((bigSep Finset.univ fun ck : Dev nD × Fin 34 => iprop(∃ κ : ℕ, cellInv ER (Rd (inp m)) κ (kcell ck)))
    ∗ (bigSep Finset.univ fun ck : Dev nD × Fin 34 => reached ER (kcell ck) 0))
instance records_persistent : BI.Persistent (records m) := by unfold records; infer_instance
/-- and what the allocation of the cells makes of both. -/
def G' (c : Dev nD) : sProp 𝕄 := iprop(records m ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 34 => Φ (kcell (c, k)) := by
    unfold allCells; rw [BI.bigSep_map, bigSep_univ_prod]; rfl
  have hT : bigSep allToks (fun x => (dutyTok ER x.1 x.2.1 x.2.2 : sProp 𝕄)) = bigSep Finset.univ fun c : Dev nD => toks c := by
    unfold allToks; rw [BI.bigSep_map, bigSep_univ_prod]; rfl
  iintro HX
  imod (Rounds.fund ER (Rd (inp m)) allCells allToks) $$ HX with ⟨Hst, Hr, Hat, Htok⟩
  imodintro
  ihave Hst' := (Entails.of_eq (hX fun g => roundState ER (Rd (inp m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G linear; simp only [bigSep_sep']
  isplitl [Hst']; · iexact Hst'
  isplitl [Hr']; · iexact Hr'
  isplitl [Hat'] <;> iassumption

theorem unscopedSems0_eq (c : Dev nD) : (unscopedSems0 c : sProp 𝕄) = semVal (cell c .bar) 0 := by
  unfold unscopedSems0; rw [bigSep_eq_bigSepL_of_eq [SemLoc.reg (⟨0, by decide⟩ : Sem sig)] (by decide) (by decide)]; rfl

/-- All the semaphores of a device. -/
theorem sems_eq (c : Dev nD) : (bigSep Finset.univ fun i : Fin 34 => (semVal (cell c (kd i)) 0 : sProp 𝕄))
    = iprop(unscopedSems0 c ∗ Pipeline.ownSems0 (Ix := Unit) (Name := ℕ) (U := UU) (Lvl := ℕ) (Val := Elt F) (τ := τ) osem c) := by
  rw [unscopedSems0_eq]
  have h : (Finset.univ : Finset (Fin 34)) = insert 0 (Finset.univ.map (Fin.succEmb 33)) := by decide
  rw [h, bigSep_insert (by decide), BI.bigSep_map]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (inp m)) κ (kcell (c, k))))
          ∗ (bigSep Finset.univ fun k : Fin 34 => (reached ER (kcell (c, k)) 0 : sProp 𝕄)) ∗ linear c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 34 => (semVal (cell c (kd k)) 0 : sProp 𝕄)) ∗ bigSep Finset.univ fun k : Fin 34 => roundState ER (Rd (inp m)) (kcell (c, k)) 0)
      ⊢ (|={Set.univ}=> bigSep Finset.univ fun k => iprop(∃ κ : ℕ, cellInv ER (Rd (inp m)) κ (kcell (c, k))) : sProp 𝕄) from by
        rw [← bigSep_sep']
        exact (bigSep_mono fun k _ => (Rounds.body_intro ER (Rd (inp m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_all {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (inp m)) κ (kcell (c, k))))
          ∗ (bigSep Finset.univ fun k : Fin 34 => (reached ER (kcell (c, k)) 0 : sProp 𝕄)) ∗ linear c) : sProp 𝕄)
      ⊢ bigSep Finset.univ (G' m) := by
  rw [bigSep_sep', bigSep_sep', ← bigSep_univ_prod (fun ck : Dev nD × Fin 34 => iprop(∃ κ : ℕ, cellInv ER (Rd (inp m)) κ (kcell ck))),
    ← bigSep_univ_prod (fun ck : Dev nD × Fin 34 => (reached ER (kcell ck) 0 : sProp 𝕄))]
  iintro ⟨HI, HR, Hl⟩
  iapply (with_all (R := records m) (Φ := fun c => linear (F := F) c) fun c _ => Entails.of_eq rfl)
  isplitl [HI HR]
  · unfold records; isplitl [HI] <;> iassumption
  iexact Hl

/-- The step that opens the cells of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (fun d => owe (debts d)) c ∗ prngReg c (ρ c) ∗ G' m c)
      ⊢ |={Set.univ}=> iprop(dealt m c ∗ emp) := by
  rw [Pipeline.unscopedRestP_none]
  iintro ⟨Hw, Hlev, Hcr, -, HG⟩
  ihave Hw := (Entails.of_eq (unscopedRest0_eq c fun b => m ((c : Thread nD τ).loc b))) $$ Hw
  imodintro
  unfold dealt G' records ctx
  icases HG with ⟨⟨HI, HR⟩, Hl⟩
  isplitl
  · isplitl [HI HR Hlev]
    · isplitl [HI]; · iexact HI
      isplitl [HR] <;> iassumption
    isplitl [Hl]; · iexact Hl
    isplitl [Hcr]; · iexact Hcr
    unfold weights; iexact Hw
  · iempintro

theorem phi0_intro (c : Dev nD) :
    iprop(dealt m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop((unscopedSems0 c ∗ weights (inp m) c) ∗ Pipeline.ownSems0 osem c ∗ Pipeline.scopedRest cfg0.spec c) := by
  rw [show (dats m ρ 0 c).Φ (Fin.last cfg0.N) = Φ₁ m c from rfl]
  unfold Φ₁
  rw [sems_eq]
  iintro ⟨Hw, ⟨Hu, Ho⟩, Hr⟩
  isplitl [Hu Hw]
  · isplitl [Hu] <;> iassumption
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have hk : ∃ k : Fin 3, SemLoc.dma ((cfg0.win w).sem s) = (Kd.stg k).loc := ⟨w, by revert w s; decide⟩
    obtain ⟨k, hk⟩ := hk
    have hl : ∀ l : List (Dev nD × Kd), (∀ a ∈ l, 0 < a.2.lvl) → (levAts L lv : sProp 𝕄) ⊢ MayWait (c : Thread nD τ) (.dma ((cfg0.win w).sem s)) () (owe l) := fun l h => by
      rw [hk]
      exact MayOwe.of_cut (L := L) (lev := lv) 0 (fun p hp => by rw [Finset.mem_singleton.mp hp, L_tc]; exact Finset.mem_singleton_self _)
        (fun g u hg => by obtain ⟨a, -, rfl⟩ := owe_pos hg; exact Finset.mem_singleton_self _)
        (fun p hp => by rw [Finset.mem_singleton.mp hp]; show (kdOf (Kd.stg k).loc).lvl ≤ 0; rw [kdOf_loc]; exact Nat.le_refl 0)
        (fun g u hg => by obtain ⟨a, ha, rfl⟩ := owe_pos hg; show _ < (kdOf a.2.loc).lvl; rw [kdOf_loc]; exact h a ha)
    rcases t with ⟨_ | _, ht⟩
    · exact hl (debts c) ((by decide : ∀ c : Dev nD, ∀ a ∈ debts c, 0 < a.2.lvl) c)
    · exact hl [] (fun a ha => nomatch ha)

/-! ## The run -/

/-- What the run leaves in a window's array. -/
def finalA (c : Dev nD) (w : Fin cfg0.W) : Buf (Elt F) ((cfg0.win w).arr.view.loc (c : Thread nD τ)) := (dats m ρ 0 c).arrAt w cfg0.N

/-- The final states: the windows' arrays at those contents and the weights as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  iintro ⟨H, HSI⟩
  ihave H := (show iprop((ℓ ↦{fullShare} f) ∗ SI s') ⊢ (iprop(⌜∀ i ∈ ({()} : Finset Unit), s'.mem.mem ℓ = f⌝ ∗ SI s') : sProp 𝕄) from h) $$ [H HSI]
  · isplitl [H] <;> iassumption
  icases H with ⟨%e, HSI⟩
  isplitr; · ipureintro; exact e () (Finset.mem_singleton_self ())
  iexact HSI

set_option maxRecDepth 8000 in
/-- Every weakly fair execution of the program on the four devices, at any float values and from any memory with zero
    counters, ends; every final state has each device's result at the body's value, the arguments as they were and every
    semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe (debts d)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := dealt m) (Y := fun c => iprop(unscopedSems0 c ∗ weights (inp m) c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      unfold weights
      iintro ⟨⟨Hu, H2, H3⟩, -, HSI⟩
      imod (Pipeline.unscopedSems0_read (X := unscopedSems0 c) (c := c) fupd_intro s') $$ [Hu HSI] with ⟨%h1, HSI⟩
      · isplitl [Hu] <;> iassumption
      ihave H := (read_whole _ _ s') $$ [H2 HSI]
      · isplitl [H2] <;> iassumption
      icases H with ⟨%h2, HSI⟩
      ihave H := (read_whole _ _ s') $$ [H3 HSI]
      · isplitl [H3] <;> iassumption
      icases H with ⟨%h3, HSI⟩
      imodintro
      isplitr; · ipureintro; exact ⟨h1, h2, h3⟩
      iexact HSI)
    (hQ := fun _ h hs => ⟨fun c => ⟨(h c).1, (h c).2.2.2⟩, sem_eq_zero hs fun c => (h c).2.2.1⟩)

end Cert.MoE

end
-- ==== Proof.Frames.lean ====
/-
# The frames of the kernel

Both printings of the kernel are one program over the float values: with the named constant read at its bits the one is
the other. So the run proved for every choice of float values gives the frame of each.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

noncomputable section

namespace Cert.MoE

open Idealize.ShloMosaic
open Idealize.ShloMosaic.TcCoe
open Idealize.SL Idealize.SL.RA Idealize.SL.BI Idealize.SL.Sem

section
variable {F : FTy → Type} [FloatOps F] [Named F]
open Cert.KernelIdeal Cert.KernelIdeal.Gen
variable (m : (ℓ : Loc nD τ sig) → Buf (Elt F) ℓ) (ρ : Dev nD → PrngReg)

/-- The arrays of the arguments end as they were. -/
theorem finalA_x (c : Dev nD) : finalA m ρ c (0 : Fin 3) = m (win0_0.arr.view.loc (c : Thread nD τ)) :=
  (dats (F := F) m ρ 0 c).arrAt_in (0 : Fin 3) rfl _
theorem finalA_rt (c : Dev nD) : finalA m ρ c (1 : Fin 3) = m (win0_1.arr.view.loc (c : Thread nD τ)) :=
  (dats (F := F) m ρ 0 c).arrAt_in (1 : Fin 3) rfl _

/-- The run, with the arguments as they were. -/
theorem run_args : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h.1 c).1 0).trans (finalA_x m ρ c), ((h.1 c).1 1).trans (finalA_rt m ρ c), (h.1 c).2.1, (h.1 c).2.2⟩, h.2⟩)
    (run_main m ρ)
end

/-- A named constant at `Bits` is its bits. -/
local instance namedBits : Named Bits := ⟨fun _ _ {φ} b => FloatOps.ofBits φ b⟩

/-- The two body tables hold one program. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- And so do the tables with the pipelines. -/
theorem defs_eq : Cert.Kernel.defs (F := Bits) = Cert.KernelIdeal.defs (F := Bits) :=
  congrArg (Pipeline.defs (Cert.KernelIdeal.pcfgs (F := Bits))) defs₀_eq

/-- The kernel at the machine's floats runs to its end, its arguments and semaphores as they were. -/
theorem frame_kernel : Cert.quiescent_Kernel (hKernel := Cert.Kernel.Gen.facts) := fun m g _ => by
  have h := run_args (F := Bits) m g
  rw [← defs_eq] at h
  exact h

/-- The kernel at the reals likewise, -/
theorem frame_ideal : Cert.quiescent_KernelIdeal (hKernelIdeal := Cert.KernelIdeal.Gen.facts) := fun m g _ => run_args (F := Ideal) m g

/-- and so under the precondition. -/
theorem frame_ideal_finite [h : Cert.Pre_finite_KernelIdeal.Facts] :
    Cert.quiescent_KernelIdeal_pre_finite_KernelIdeal (hKernelIdeal := Cert.KernelIdeal.Gen.facts) := fun m g _ => run_args (F := Ideal) m g

/-- The reference runs to its end, its arguments and semaphores as they were. -/
theorem frame_ref : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- and so under the precondition. -/
theorem frame_ref_finite [h : Cert.Pre_finite_ReferenceIdeal.Facts] :
    Cert.quiescent_ReferenceIdeal_pre_finite_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The mask's name stands for `⊤`. -/
theorem preserves : Cert.preserves_Kernel_KernelIdeal :=
  IdealRules.named_const.statement Cert.KernelIdeal.κ "mask" .f32 0x7149F2CA#32 ⊤ rfl

end Cert.MoE

end
-- ==== Proof.Outcome.lean ====
/-
# The final memory

What the run leaves in the result's array: on every device the value of the body, over the blocks the arguments held.
-/
module

public import proofs.«01_k».proof.Proof.Frames
public import Idealize.ShloMosaic.Lib.Pipeline.ValueKit

@[expose] public section

noncomputable section

namespace Cert.MoE

open Cert.KernelIdeal Cert.KernelIdeal.Gen
open Idealize.ShloMosaic
open Idealize.ShloMosaic.TcCoe
open Idealize.SL Idealize.SL.RA Idealize.SL.BI Idealize.SL.Sem

variable {F : FTy → Type} [FloatOps F] [Named F]
variable (m : (ℓ : Loc nD τ sig) → Buf (Elt F) ℓ) (ρ : Dev nD → PrngReg)

/-- The rows a device works on are its first argument, -/
theorem inp_x (c : Dev nD) : (inp m).x c = m ((c : Thread nD τ).loc main_arg0) := by
  funext i
  show m ((c : Thread nD τ).loc main_arg0) ((win0_0.blk (0 : Fin 1)).view.emb i) = _
  refine congrArg _ (funext fun a => Fin.ext ?_)
  exact Pipeline.Window.rect_emb_val_of_index_zero win0_0 (0 : Fin 1) a (by revert a; decide) i

/-- and its router columns the second. -/
theorem inp_rt (c : Dev nD) : (inp m).rt c = m ((c : Thread nD τ).loc main_arg1) := by
  funext i
  show m ((c : Thread nD τ).loc main_arg1) ((win0_1.blk (0 : Fin 1)).view.emb i) = _
  refine congrArg _ (funext fun a => Fin.ext ?_)
  exact Pipeline.Window.rect_emb_val_of_index_zero win0_1 (0 : Fin 1) a (by revert a; decide) i

/-- The result's array ends at the body's value. -/
theorem finalA_o (c : Dev nD) : finalA m ρ c (2 : Fin 3) = outC (inp m) c := by
  refine (dats m ρ 0 c).arrAt_eq_of_after_last (2 : Fin 3) t₀ (by decide +kernel) _ fun j => ?_
  rfl

/-- The run, with the result at the body's value and the arguments as they were. -/
theorem run_value : θ_run defs (onTc (τ := τ) (main (F := F))) (s₀ m ρ) (fun r => ∀ c : Dev nD,
      r.2.mem ((c.tc : Thread nD τ).loc main_v1) = outC (inp m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 2).trans (finalA_o m ρ c), ((h.1 c).1 0).trans (finalA_x m ρ c),
    ((h.1 c).1 1).trans (finalA_rt m ρ c), (h.1 c).2.1, (h.1 c).2.2⟩) (run_main m ρ)

end Cert.MoE

end
-- ==== Proof.Choice.lean ====
/-
# The two choices of a token

A token's gate values are a function of sixteen experts. Its first choice is the first expert with the greatest value,
its second the first with the greatest value among the others. A stable sort by descending value puts them first and
second; a maximum with the first choice masked finds the second.
-/
module

public import Idealize.ShloMosaic.Lib.Pointwise
public import Idealize.ShloMosaic.Lib.PlanTiles.StableSort

@[expose] public section

noncomputable section

namespace Cert.MoE

open Idealize.ShloMosaic

/-- `i` is the first place where `f` is greatest. -/
def IsFirst (f : Fin 16 → EReal) (i : Fin 16) : Prop := (∀ j, f j ≤ f i) ∧ ∀ j, j < i → f j < f i

theorem exists_first (f : Fin 16 → EReal) : ∃ i, IsFirst f i := by
  classical
  obtain ⟨a, ha⟩ := Finite.exists_max f
  let s : Finset (Fin 16) := Finset.univ.filter fun i => ∀ j, f j ≤ f i
  have hs : s.Nonempty := ⟨a, by simp [s, ha]⟩
  have hm : ∀ j, f j ≤ f (s.min' hs) := by
    have := s.min'_mem hs
    exact (Finset.mem_filter.mp this).2
  refine ⟨s.min' hs, hm, fun j hj => lt_of_le_of_ne (hm j) fun e => ?_⟩
  have : j ∈ s := Finset.mem_filter.mpr ⟨Finset.mem_univ _, fun k => e ▸ hm k⟩
  exact absurd (s.min'_le j this) (not_le.mpr hj)

theorem IsFirst.unique {f : Fin 16 → EReal} {i j : Fin 16} (hi : IsFirst f i) (hj : IsFirst f j) : i = j := by
  rcases lt_trichotomy i j with h | h | h
  · exact absurd (hi.1 j) (not_le.mpr (hj.2 i h))
  · exact h
  · exact absurd (hj.1 i) (not_le.mpr (hi.2 j h))

/-- The first place of the greatest value, -/
def first (f : Fin 16 → EReal) : Fin 16 := (exists_first f).choose
theorem first_spec (f : Fin 16 → EReal) : IsFirst f (first f) := (exists_first f).choose_spec
/-- `f` with the place `i` masked, -/
def drop (f : Fin 16 → EReal) (i : Fin 16) : Fin 16 → EReal := fun e => if e = i then ⊥ else f e
/-- and the first place of the greatest value among the others. -/
def second (f : Fin 16 → EReal) : Fin 16 := first (drop f (first f))

theorem drop_self (f : Fin 16 → EReal) (i : Fin 16) : drop f i i = ⊥ := if_pos rfl
theorem drop_ne (f : Fin 16 → EReal) {i e : Fin 16} (h : e ≠ i) : drop f i e = f e := if_neg h

theorem second_ne {f : Fin 16 → EReal} (hf : ∀ e, f e ≠ ⊥) : second f ≠ first f := by
  intro h
  obtain ⟨e, he⟩ : ∃ e : Fin 16, e ≠ first f := exists_ne _
  have h1 := (first_spec (drop f (first f))).1 e
  rw [show first (drop f (first f)) = first f from h, drop_self, drop_ne f he] at h1
  exact hf e (le_bot_iff.mp h1)

theorem drop_second {f : Fin 16 → EReal} (hf : ∀ e, f e ≠ ⊥) : drop f (first f) (second f) = f (second f) :=
  drop_ne f (second_ne hf)

/-- The maximum of the values is the value at the first choice. -/
theorem fold_max_first (f : Fin 16 → EReal) : Finset.univ.fold max ⊥ f = f (first f) := by
  refine le_antisymm ?_ ?_
  · exact Finset.fold_max_le _ |>.mpr ⟨bot_le, fun j _ => (first_spec f).1 j⟩
  · exact (Finset.le_fold_max _).mpr (Or.inr ⟨first f, Finset.mem_univ _, le_rfl⟩)

theorem minsi_spec (g : Fin 16 → BitVec 32) (b : BitVec 32) (s : Finset (Fin 16)) :
    (s.fold IntOp.minsi b g).toInt ≤ b.toInt ∧ (∀ j ∈ s, (s.fold IntOp.minsi b g).toInt ≤ (g j).toInt)
      ∧ (s.fold IntOp.minsi b g = b ∨ ∃ j ∈ s, s.fold IntOp.minsi b g = g j) := by
  classical
  induction s using Finset.induction_on with
  | empty => simp
  | insert a s ha ih =>
    rw [Finset.fold_insert ha]
    obtain ⟨h1, h2, h3⟩ := ih
    have hm : ∀ x y : BitVec 32, (IntOp.minsi x y = x ∧ x.toInt ≤ y.toInt) ∨ (IntOp.minsi x y = y ∧ y.toInt ≤ x.toInt) := by
      intro x y
      unfold IntOp.minsi
      by_cases h : x.slt y
      · left; simp [h]; have := BitVec.slt_iff_toInt_lt.mp h; omega
      · right; simp [h]; have := (not_congr BitVec.slt_iff_toInt_lt).mp h; omega
    rcases hm (g a) (s.fold IntOp.minsi b g) with ⟨e, hl⟩ | ⟨e, hl⟩
    · rw [e]
      refine ⟨hl.trans h1, fun j hj => ?_, Or.inr ⟨a, Finset.mem_insert_self _ _, rfl⟩⟩
      rcases Finset.mem_insert.mp hj with rfl | hj
      · exact le_rfl
      · exact hl.trans (h2 j hj)
    · rw [e]
      refine ⟨h1, fun j hj => ?_, h3.imp id fun ⟨j, hj, e⟩ => ⟨j, Finset.mem_insert_of_mem hj, e⟩⟩
      rcases Finset.mem_insert.mp hj with rfl | hj
      · exact hl
      · exact h2 j hj

theorem toInt_expert (e : Fin 16) : (BitVec.ofNat 32 e.val).toInt = e.val := by revert e; decide

/-- The least expert whose value is the greatest, the others standing at sixteen. -/
theorem fold_minsi_first (f : Fin 16 → EReal) (m : EReal) (hm : m = f (first f)) :
    Finset.univ.fold IntOp.minsi 2147483647#32 (fun e : Fin 16 => if f e = m then BitVec.ofNat 32 e.val else 16#32)
      = BitVec.ofNat 32 (first f).val := by
  classical
  set g : Fin 16 → BitVec 32 := fun e => if f e = m then BitVec.ofNat 32 e.val else 16#32 with hg
  obtain ⟨h1, h2, h3⟩ := minsi_spec g 2147483647#32 Finset.univ
  have hgf : g (first f) = BitVec.ofNat 32 (first f).val := by simp [hg, hm]
  have hle := h2 (first f) (Finset.mem_univ _)
  rw [hgf, toInt_expert] at hle
  have hlt := (first f).isLt
  apply BitVec.toInt_inj.mp
  rw [toInt_expert]
  refine le_antisymm hle ?_
  rcases h3 with h3 | ⟨j, -, h3⟩
  · rw [h3]; have : (2147483647#32 : BitVec 32).toInt = 2147483647 := by decide
    omega
  · rw [h3]
    by_cases hj : f j = m
    · have : g j = BitVec.ofNat 32 j.val := by simp [hg, hj]
      rw [this, toInt_expert]
      by_contra hc
      have := (first_spec f).2 j (by rw [Fin.lt_def]; omega)
      rw [hj, hm] at this
      exact lt_irrefl _ this
    · have : g j = 16#32 := by simp [hg, hj]
      rw [this]; have : (16#32 : BitVec 32).toInt = 16 := by decide
      omega

/-- How many values are below the one at `k`. -/
def below (f : Fin 16 → EReal) (k : Fin 16) : Nat := by
  classical exact (Finset.univ.filter fun j => f j < f k).card

theorem below_lt (f : Fin 16 → EReal) (a b : Fin 16) : below f b < below f a ↔ f b < f a := by
  classical
  unfold below
  constructor
  · intro h
    by_contra hc
    refine absurd (Finset.card_le_card ?_) (not_le.mpr h)
    intro j hj
    simp only [Finset.mem_filter, Finset.mem_univ, true_and] at hj ⊢
    exact lt_of_lt_of_le hj (not_lt.mp hc)
  · intro h
    refine Finset.card_lt_card ⟨fun j hj => ?_, fun hs => ?_⟩
    · simp only [Finset.mem_filter, Finset.mem_univ, true_and] at hj ⊢
      exact hj.trans h
    · have := hs (show b ∈ _ from by simp [h])
      simp at this

/-- A stable sort by a descending number leaves equals in their order. -/
theorem sortedFrom_lex {n : Nat} (G : Fin n → Nat) (i j : Fin n) (hij : i < j) :
    PlanTiles.Lex G (· < ·) (sortedFrom (fun a b => decide (G b < G a)) i) (sortedFrom (fun a b => decide (G b < G a)) j) := by
  have hp : ∀ a b : Fin (sortPositions n fun a b => decide (G b < G a)).length, a < b →
      PlanTiles.Lex G (· < ·) ((sortPositions n fun a b => decide (G b < G a)).get a) ((sortPositions n fun a b => decide (G b < G a)).get b) :=
    List.pairwise_iff_get.mp (PlanTiles.pairwise_stableSort_lex G (· < ·) (List.finRange n) (List.pairwise_lt_finRange n))
  unfold sortedFrom
  exact hp _ _ (by simp only [Fin.lt_def, Fin.val_cast]; exact hij)

/-- The order in which the stable sort by descending value leaves the experts. -/
theorem sorted_lex (f : Fin 16 → EReal) (π : Fin 16 → Fin 16) (hπ : π = sortedFrom fun a b => decide (f b < f a)) (i j : Fin 16) (hij : i < j) :
    f (π j) < f (π i) ∨ (f (π i) = f (π j) ∧ π i < π j) := by
  have e : (fun a b : Fin 16 => decide (f b < f a)) = fun a b => decide (below f b < below f a) := by
    funext a b; exact decide_eq_decide.mpr (below_lt f a b).symm
  have hl := sortedFrom_lex (below f) i j hij
  rw [← e, ← hπ] at hl
  rcases hl with h | ⟨h, h'⟩
  · exact Or.inl ((below_lt f _ _).mp h)
  · refine Or.inr ⟨?_, h'⟩
    rcases lt_trichotomy (f (π i)) (f (π j)) with hl | hl | hl
    · exact absurd h (Nat.ne_of_lt ((below_lt f _ _).mpr hl))
    · exact hl
    · exact absurd h (Nat.ne_of_gt ((below_lt f _ _).mpr hl))

/-- It puts the first choice first, -/
theorem sorted_zero (f : Fin 16 → EReal) : sortedFrom (fun a b => decide (f b < f a)) (0 : Fin 16) = first f := by
  refine IsFirst.unique ⟨fun j => ?_, fun j hj => ?_⟩ (first_spec f)
  all_goals obtain ⟨k, rfl⟩ := sortedFrom_surjective (fun a b => decide (f b < f a)) j
  all_goals rcases Nat.eq_zero_or_pos k.val with hk | hk
  · rw [show k = 0 from Fin.ext hk]
  · rcases sorted_lex f _ rfl 0 k hk with h | h
    · exact h.le
    · exact h.1.ge
  · rw [show k = 0 from Fin.ext hk] at hj; exact absurd hj (lt_irrefl _)
  · rcases sorted_lex f _ rfl 0 k hk with h | h
    · exact h
    · exact absurd h.2 (not_lt.mpr hj.le)

/-- and the second second. -/
theorem sorted_one {f : Fin 16 → EReal} (hf : ∀ e, f e ≠ ⊥) : sortedFrom (fun a b => decide (f b < f a)) (1 : Fin 16) = second f := by
  have hinj := sortedFrom_injective (fun a b => decide (f b < f a))
  have h0 := sorted_zero f
  have hne : sortedFrom (fun a b => decide (f b < f a)) (1 : Fin 16) ≠ first f := by
    rw [← h0]; exact fun h => absurd (hinj h) (by decide)
  refine IsFirst.unique (f := drop f (first f)) ⟨fun j => ?_, fun j hj => ?_⟩ (first_spec _)
  all_goals rw [drop_ne f hne]
  all_goals by_cases hjf : j = first f
  · rw [hjf, drop_self]; exact bot_le
  · rw [drop_ne f hjf]
    obtain ⟨k, rfl⟩ := sortedFrom_surjective (fun a b => decide (f b < f a)) j
    rcases Nat.lt_trichotomy k.val 1 with hk | hk | hk
    · exact absurd ((congrArg _ (Fin.ext (by simpa using hk) : k = 0)).trans h0) hjf
    · rw [show k = 1 from Fin.ext hk]
    · rcases sorted_lex f _ rfl 1 k hk with h | h
      · exact h.le
      · exact h.1.ge
  · rw [hjf, drop_self]; exact bot_lt_iff_ne_bot.mpr (hf _)
  · rw [drop_ne f hjf]
    obtain ⟨k, rfl⟩ := sortedFrom_surjective (fun a b => decide (f b < f a)) j
    rcases Nat.lt_trichotomy k.val 1 with hk | hk | hk
    · exact absurd ((congrArg _ (Fin.ext (by simpa using hk) : k = 0)).trans h0) hjf
    · rw [show k = 1 from Fin.ext hk] at hj; exact absurd hj (lt_irrefl _)
    · rcases sorted_lex f _ rfl 1 k hk with h | h
      · exact h
      · exact absurd h.2 (not_lt.mpr hj.le)

/-- A one-bit word as a float is the indicator of the condition. -/
theorem sitofp_ofBool {φ : FTy} (p : Bool) : FloatOps.sitofp (F := Ideal) φ (BitVec.setWidth 32 (BitVec.ofBool p)) = if p then 1 else 0 := by
  cases p
  · show (((BitVec.setWidth 32 (BitVec.ofBool false)).toInt : ℝ) : EReal) = _; simp
  · show (((BitVec.setWidth 32 (BitVec.ofBool true)).toInt : ℝ) : EReal) = _
    rw [show (BitVec.setWidth 32 (BitVec.ofBool true)).toInt = 1 by decide]; simp

/-- Small numbers are equal as words exactly when they are equal. -/
theorem cmpi_eq_ofNat (a b : Nat) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff]
  simp only [beq_iff_eq, decide_eq_true_eq]
  refine ⟨fun h => ?_, fun h => h ▸ rfl⟩
  have := congrArg BitVec.toNat h
  rwa [BitVec.toNat_ofNat, BitVec.toNat_ofNat, Nat.mod_eq_of_lt ha, Nat.mod_eq_of_lt hb] at this

theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

end Cert.MoE

end
-- ==== Proof.Route.lean ====
/-
# Sums over one-hot choices

Every token chooses two experts. An expert's queue holds the tokens that chose it, in order; a token's rank is the number
of earlier tokens in the queue. The sums here are those of the dispatch by one-hot matrices: what a row of the dispatch
matrix picks, and what the transposed matrix gives back to a token.
-/
module

public import proofs.«01_k».proof.Proof.Choice

@[expose] public section

noncomputable section

namespace Cert.MoE

open Idealize.ShloMosaic

/-- Whether token `t` chose expert `e`, -/
def Routed (c1 c2 : Fin 1024 → Fin 16) (t : Fin 1024) (e : Fin 16) : Prop := c1 t = e ∨ c2 t = e

instance (c1 c2 : Fin 1024 → Fin 16) (t : Fin 1024) (e : Fin 16) : Decidable (Routed c1 c2 t e) := by
  unfold Routed; infer_instance

/-- and how many earlier tokens did. -/
def rank (c1 c2 : Fin 1024 → Fin 16) (t : Fin 1024) (e : Fin 16) : Nat :=
  (Finset.univ.filter fun t' : Fin 1024 => t' < t ∧ Routed c1 c2 t' e).card

variable {c1 c2 : Fin 1024 → Fin 16}

theorem rank_le (t : Fin 1024) (e : Fin 16) : rank c1 c2 t e ≤ 1024 := by
  unfold rank
  refine (Finset.card_le_univ _).trans (by simp)

theorem routed_one {t : Fin 1024} {e : Fin 16} (h : e = c1 t) : Routed c1 c2 t e := Or.inl h.symm
theorem routed_two {t : Fin 1024} {e : Fin 16} (h : e = c2 t) : Routed c1 c2 t e := Or.inr h.symm
theorem not_routed {t : Fin 1024} {e : Fin 16} (h1 : ¬e = c1 t) (h2 : ¬e = c2 t) : ¬Routed c1 c2 t e := by
  rintro (h | h)
  · exact h1 h.symm
  · exact h2 h.symm

/-- Ranks increase along the queue. -/
theorem rank_lt {t t' : Fin 1024} {e : Fin 16} (h : t < t') (hr : Routed c1 c2 t e) : rank c1 c2 t e < rank c1 c2 t' e := by
  unfold rank
  refine Finset.card_lt_card ⟨fun j hj => ?_, fun hs => ?_⟩
  · simp only [Finset.mem_filter, Finset.mem_univ, true_and] at hj ⊢
    exact ⟨hj.1.trans h, hj.2⟩
  · have := hs (show t ∈ _ from by simp [h, hr])
    simp at this

theorem rank_inj {t t' : Fin 1024} {e : Fin 16} (hr : Routed c1 c2 t e) (hr' : Routed c1 c2 t' e)
    (h : rank c1 c2 t e = rank c1 c2 t' e) : t' = t := by
  rcases lt_trichotomy t t' with hl | hl | hl
  · exact absurd h (Nat.ne_of_lt (rank_lt hl hr))
  · exact hl.symm
  · exact absurd h (Nat.ne_of_gt (rank_lt hl hr'))

/-- The sum of the two one-hot rows, read at one expert. -/
theorem sum_route (hne : ∀ t, c2 t ≠ c1 t) (t : Fin 1024) (e : Fin 16) :
    (∑ e' : Fin 16, ((if e' = c1 t then (1 : EReal) else 0) + (if e' = c2 t then 1 else 0)) * (if e' = e then 1 else 0))
      = if Routed c1 c2 t e then 1 else 0 := by
  simp only [mul_ite, mul_one, mul_zero, Finset.sum_ite_eq', Finset.mem_univ, if_true]
  have := hne t
  by_cases h1 : e = c1 t
  · have h2 : e ≠ c2 t := fun h => this (h.symm.trans h1)
    rw [if_pos h1, if_neg h2, if_pos (routed_one h1), add_zero]
  · by_cases h2 : e = c2 t
    · rw [if_neg h1, if_pos h2, if_pos (routed_two h2), zero_add]
    · rw [if_neg h1, if_neg h2, if_neg (not_routed h1 h2), add_zero]

/-- The sum of the two weighted one-hot rows, read at one expert. -/
theorem sum_sel (W1 W2 : EReal) (t : Fin 1024) (e : Fin 16) :
    (∑ e' : Fin 16, ((if e' = c1 t then (1 : EReal) else 0) * W1 + (if e' = c2 t then 1 else 0) * W2) * (if e' = e then 1 else 0))
      = (if e = c1 t then W1 else 0) + (if e = c2 t then W2 else 0) := by
  simp only [mul_ite, ite_mul, one_mul, zero_mul, mul_one, mul_zero, Finset.sum_ite_eq', Finset.mem_univ, if_true]

/-- The triangular sum counts the rank. -/
theorem sum_rank (t : Fin 1024) (e : Fin 16) :
    (∑ t' : Fin 1024, (if t' < t then (1 : EReal) else 0) * (if Routed c1 c2 t' e then 1 else 0)) = ((rank c1 c2 t e : ℝ) : EReal) := by
  simp only [ite_mul, one_mul, zero_mul, ← ite_and]
  rw [Finset.sum_boole]
  unfold rank
  exact (EReal.coe_natCast).symm

theorem fptosi_nat (n : Nat) (h : n ≤ 1024) : FloatOps.fptosi (F := Ideal) (φ := .f32) 32 ((n : ℝ) : EReal) = BitVec.ofNat 32 n := by
  show Ideal.fptosi 32 _ = _
  rw [Ideal.fptosi, Ideal.toIntClamped_coe]
  have h1 : (0 : ℝ) ≤ (n : ℝ) := Nat.cast_nonneg n
  rw [if_pos h1, Int.floor_natCast]
  have : max (-((2 ^ (32 - 1) : Nat) : Int)) (min (((2 ^ (32 - 1) : Nat) : Int) - 1) (n : Int)) = (n : Int) := by
    norm_num; omega
  rw [this]; rfl

/-- One entry of a dispatch matrix: whether row `s` is token `t`'s. -/
theorem disp_pt (hne : ∀ t, c2 t ≠ c1 t) (e : Fin 16) (s : Fin 176) (t : Fin 1024) {φ : FTy} :
    FloatOps.sitofp (F := Ideal) φ (BitVec.setWidth 32
      (IntOp.andi
        (IntOp.cmpi .eq (BitVec.ofNat 32 s.val) (FloatOps.fptosi (F := Ideal) (φ := .f32) 32
          (∑ t' : Fin 1024, (if t' < t then (1 : EReal) else 0) *
            ∑ e' : Fin 16, ((if e' = c1 t' then (1 : EReal) else 0) + (if e' = c2 t' then 1 else 0)) * (if e' = e then 1 else 0))))
        (BitVec.ofBool (decide ((0 : EReal) < ∑ e' : Fin 16, ((if e' = c1 t then (1 : EReal) else 0) + (if e' = c2 t then 1 else 0)) * (if e' = e then 1 else 0))))))
      = if s.val = rank c1 c2 t e ∧ Routed c1 c2 t e then (1 : EReal) else 0 := by
  simp only [sum_route hne, sum_rank]
  rw [fptosi_nat _ (rank_le t e), cmpi_eq_ofNat _ _ (by omega) (by have := rank_le (c1 := c1) (c2 := c2) t e; omega)]
  have h0 : decide ((0 : EReal) < if Routed c1 c2 t e then 1 else 0) = decide (Routed c1 c2 t e) := by
    by_cases h : Routed c1 c2 t e <;> simp [h]
  rw [h0, show IntOp.andi (BitVec.ofBool (decide (s.val = rank c1 c2 t e))) (BitVec.ofBool (decide (Routed c1 c2 t e)))
    = BitVec.ofBool (decide (s.val = rank c1 c2 t e ∧ Routed c1 c2 t e)) by
      by_cases h1 : s.val = rank c1 c2 t e <;> by_cases h2 : Routed c1 c2 t e <;> simp [h1, h2] <;> decide]
  rw [sitofp_ofBool]
  simp only [decide_eq_true_eq]

/-- What the dispatch, the expert and the combination give back to a token that has a row: the expert's value of that
    token, weighted; to a token that did not choose the expert, nothing. -/
theorem acc_pt (e : Fin 16) (t : Fin 1024) (hfit : Routed c1 c2 t e → rank c1 c2 t e < 176)
    (D : Fin 176 → Fin 1024 → EReal) (hD : ∀ s t, D s t = if s.val = rank c1 c2 t e ∧ Routed c1 c2 t e then 1 else 0)
    (x : Fin 1024 → Fin 1024 → EReal) (w1 : Fin 1024 → Fin 2048 → EReal) (w2 : Fin 2048 → EReal) (S : Fin 1024 → EReal) :
    (∑ s : Fin 176, D s t * ((∑ f : Fin 2048, max (∑ k : Fin 1024, (∑ t' : Fin 1024, D s t' * x t' k) * w1 k f) 0 * w2 f)
        * ∑ t' : Fin 1024, D s t' * S t'))
      = if Routed c1 c2 t e then (∑ f : Fin 2048, max (∑ k : Fin 1024, x t k * w1 k f) 0 * w2 f) * S t else 0 := by
  by_cases hr : Routed c1 c2 t e
  · rw [if_pos hr]
    have hrow : ∀ t', D ⟨rank c1 c2 t e, hfit hr⟩ t' = if t' = t then 1 else 0 := by
      intro t'
      rw [hD]
      by_cases h : t' = t
      · subst h; rw [if_pos ⟨rfl, hr⟩, if_pos rfl]
      · rw [if_neg h, if_neg]
        rintro ⟨h1, h2⟩
        exact h (rank_inj hr h2 h1)
    rw [Finset.sum_eq_single (⟨rank c1 c2 t e, hfit hr⟩ : Fin 176)]
    · simp only [hrow, ite_mul, one_mul, zero_mul, Finset.sum_ite_eq', Finset.mem_univ, if_true]
    · intro s _ hs
      rw [hD, if_neg, zero_mul]
      rintro ⟨h1, -⟩
      exact hs (Fin.ext h1)
    · intro h; exact absurd (Finset.mem_univ _) h
  · rw [if_neg hr]
    refine Finset.sum_eq_zero fun s _ => ?_
    rw [hD, if_neg (fun h => hr h.2), zero_mul]

/-- Summed over all experts, a token gets its two choices' values. -/
theorem sum_experts (hne : ∀ t, c2 t ≠ c1 t) (t : Fin 1024) (Y : Fin 16 → EReal) (W1 W2 : EReal) :
    (∑ e : Fin 16, if Routed c1 c2 t e then Y e * ((if e = c1 t then W1 else 0) + (if e = c2 t then W2 else 0)) else 0)
      = Y (c1 t) * W1 + Y (c2 t) * W2 := by
  have h : ∀ e : Fin 16, (if Routed c1 c2 t e then Y e * ((if e = c1 t then W1 else 0) + (if e = c2 t then W2 else 0)) else 0)
      = (if e = c1 t then Y e * W1 else 0) + (if e = c2 t then Y e * W2 else 0) := by
    intro e
    have := hne t
    by_cases h1 : e = c1 t
    · have h2 : e ≠ c2 t := fun h => this (h.symm.trans h1)
      rw [if_pos (routed_one h1), if_pos h1, if_neg h2, if_pos h1, if_neg h2, add_zero, add_zero]
    · by_cases h2 : e = c2 t
      · rw [if_pos (routed_two h2), if_neg h1, if_pos h2, if_neg h1, if_pos h2, zero_add, zero_add]
      · rw [if_neg (not_routed h1 h2), if_neg h1, if_neg h2, add_zero]
  rw [Finset.sum_congr rfl fun e _ => h e, Finset.sum_add_distrib]
  simp only [Finset.sum_ite_eq', Finset.mem_univ, if_true]

end Cert.MoE

end
-- ==== Proof.Gates.lean ====
/-
# The gates and the routing, element by element

The gathered gate values at exact arithmetic: a token's value at an expert is the inner product of its row with the
expert's router column. From them: the one-hot rows of the two choices and the weights.
-/
module

public import proofs.«01_k».proof.Proof.Contents
public import proofs.«01_k».proof.Proof.Route

@[expose] public section

noncomputable section

namespace Cert.MoE

open Cert.KernelIdeal Cert.KernelIdeal.Gen
open Idealize.ShloMosaic

set_option maxRecDepth 16384

/-- The device that holds token `t`, -/
def devT (t : Fin 1024) : Dev nD := ⟨t.val / 256, by have := t.isLt; show _ < 4; omega⟩
/-- its row there, -/
def rowT (t : Fin 1024) : Fin 256 := ⟨t.val % 256, Nat.mod_lt _ (by decide)⟩
/-- the device that holds expert `e`, -/
def devE (e : Fin 16) : Dev nD := ⟨e.val / 4, by have := e.isLt; show _ < 4; omega⟩
/-- and its place there. -/
def slotE (e : Fin 16) : Fin 4 := ⟨e.val % 4, Nat.mod_lt _ (by decide)⟩

variable (I : Inp Ideal)

/-- The token row `t`, -/
def tok (t k : Fin 1024) : EReal := I.x (devT t) (ix2 (rowT t) k)
/-- and its gate value at expert `e`. -/
def gate (t : Fin 1024) (e : Fin 16) : EReal := ∑ k : Fin 1024, tok I t k * I.rt (devE e) (ix2 k (slotE e))

theorem RC_at (d k : Fin 4) (i : Fin 1024) : sl3 (RC I) d (ix3 0 i k) = I.rt d (ix2 i k) := by
  show k0_pay3 (I.rt d) (ix3 0 i k) = _
  pointwise [k0_pay3]

theorem pay1_at (x : Vec Ideal S256x1024 .f32) (r : Fin 256) (k : Fin 1024) : k0_pay1 x (ix2 r k) = x (ix2 r k) := by
  pointwise [k0_pay1]

theorem gcol_at (j : Dev nD) (d : Fin 4) (r : Fin 256) (k : Fin 4) :
    gcol I j d (ix3 0 r k) = ∑ i : Fin 1024, I.x j (ix2 r i) * I.rt d (ix2 i k) := by
  have h4 : ∀ (x : FVec Ideal S256x1024 .f32) (v : Vec Ideal S1x1024x4 .f32), k0_pay4 x v (ix3 0 r k) = ∑ i : Fin 1024, x (ix2 r i) * v (ix3 0 i k) := by
    intro x v; pointwise [k0_pay4]
  have h5 : ∀ (x : FVec Ideal S256x1024 .f32) (v : Vec Ideal S1x1024x4 .f32), k0_pay6 (k0_pay5 x v) (ix3 0 r k) = ∑ i : Fin 1024, x (ix2 r i) * v (ix3 0 i k) := by
    intro x v; pointwise [k0_pay6, k0_pay5]
  have h7 : ∀ (x : FVec Ideal S256x1024 .f32) (v : Vec Ideal S1x1024x4 .f32), k0_pay7 x v (ix3 0 r k) = ∑ i : Fin 1024, x (ix2 r i) * v (ix3 0 i k) := by
    intro x v; pointwise [k0_pay7]
  have h8 : ∀ (x : FVec Ideal S256x1024 .f32) (v : Vec Ideal S1x1024x4 .f32), k0_pay8 x v (ix3 0 r k) = ∑ i : Fin 1024, x (ix2 r i) * v (ix3 0 i k) := by
    intro x v; pointwise [k0_pay8]
  unfold gcol
  split
  · rw [h4]; exact Finset.sum_congr rfl fun i _ => by rw [pay1_at, RC_at]
  · rw [h5]; exact Finset.sum_congr rfl fun i _ => by rw [pay1_at, RC_at]
  · rw [h7]; exact Finset.sum_congr rfl fun i _ => by rw [pay1_at, RC_at]
  · rw [h8]; exact Finset.sum_congr rfl fun i _ => by rw [pay1_at, RC_at]

theorem GC_at (j : Dev nD) (r : Fin 256) (e : Fin 16) :
    sl3 (GC I) j (ix3 0 r e) = ∑ i : Fin 1024, I.x j (ix2 r i) * I.rt (devE e) (ix2 i (slotE e)) :=
  gcol_at I j (devE e) r (slotE e)

/-- The gathered gates, stacked along the tokens. -/
theorem gates_at (t : Fin 1024) (e : Fin 16) :
    k0_pay9 (sl3 (GC I) 0) (sl3 (GC I) 1) (sl3 (GC I) 2) (sl3 (GC I) 3) (ix2 t e) = gate I t e := by
  have hr : ∀ (j : Dev nD) (r : Fin 256), t.val = 256 * j.val + r.val → sl3 (GC I) j (ix3 0 r e) = gate I t e := by
    intro j r h
    rw [GC_at]
    have hj : devT t = j := Fin.ext (by show t.val / 256 = j.val; omega)
    have hrr : rowT t = r := Fin.ext (by show t.val % 256 = r.val; omega)
    unfold gate tok
    rw [hj, hrr]
  pointwise [k0_pay9]
  have := t.isLt
  by_cases h0 : t.val < 256
  · rw [dif_pos h0]
    exact hr 0 ⟨t.val, h0⟩ (by show t.val = 256 * 0 + t.val; omega)
  rw [dif_neg h0]
  by_cases h1 : t.val - 256 < 256
  · rw [dif_pos h1]
    exact hr 1 ⟨t.val - 256, h1⟩ (by show t.val = 256 * 1 + (t.val - 256); omega)
  rw [dif_neg h1]
  by_cases h2 : t.val - 256 - 256 < 256
  · rw [dif_pos h2]
    exact hr 2 ⟨t.val - 256 - 256, h2⟩ (by show t.val = 256 * 2 + (t.val - 256 - 256); omega)
  rw [dif_neg h2]
  exact hr 3 ⟨t.val - 256 - 256 - 256, by omega⟩ (by show t.val = 256 * 3 + (t.val - 256 - 256 - 256); omega)

/-- The first choice of a token, -/
def ch1 (t : Fin 1024) : Fin 16 := first (gate I t)
/-- its second, -/
def ch2 (t : Fin 1024) : Fin 16 := second (gate I t)
/-- and the exponential of how much less the second's value is. -/
def tt (t : Fin 1024) : EReal := Ideal.exp (gate I t (ch2 I t) - gate I t (ch1 I t))

section
variable (a b c d : Vec Ideal S1x256x16 .f32) (t : Fin 1024)

theorem pay10_at : k0_pay10 a b c d (ix2 t 0) = k0_pay9 a b c d (ix2 t (first fun e => k0_pay9 a b c d (ix2 t e))) := by
  pointwise [k0_pay10]
  rw [ofBits_neg_inf]
  exact fold_max_first fun e => k0_pay9 a b c d (ix2 t e)

theorem pay11_at (e : Fin 16) : k0_pay11 a b c d (ix2 t e) = if e = first fun e => k0_pay9 a b c d (ix2 t e) then 1 else 0 := by
  pointwise [k0_pay11]
  rw [fold_minsi_first (fun e => k0_pay9 a b c d (ix2 t e)) _ (pay10_at a b c d t), cmpi_eq_ofNat _ _ (by have := e.isLt; omega)
    (by have := (first fun e => k0_pay9 a b c d (ix2 t e)).isLt; omega), sitofp_ofBool]
  simp only [decide_eq_true_eq, Fin.ext_iff]

theorem mask_top : (Named.named κ "mask" 0x7149F2CA#32 : Ideal .f32) = (⊤ : EReal) :=
  congrFun (IdealRules.named_const.ideal_named (s := S1024x1) κ "mask" (φ := .f32) 0x7149F2CA#32 ⊤ rfl) (ix2 0 0)

theorem pay12_at (e : Fin 16) : k0_pay12 a b c d (ix2 t e)
    = drop (fun e => k0_pay9 a b c d (ix2 t e)) (first fun e => k0_pay9 a b c d (ix2 t e)) e := by
  pointwise [k0_pay12]
  rw [pay11_at, mask_top]
  unfold drop
  split_ifs
  · rw [one_mul, EReal.sub_top]
  · rw [zero_mul, sub_zero]

theorem pay13_at : k0_pay13 a b c d (ix2 t 0)
    = drop (fun e => k0_pay9 a b c d (ix2 t e)) (first fun e => k0_pay9 a b c d (ix2 t e)) (second fun e => k0_pay9 a b c d (ix2 t e)) := by
  pointwise [k0_pay13]
  rw [ofBits_neg_inf, fold_max_first fun e => k0_pay12 a b c d (ix2 t e)]
  simp only [pay12_at]
  rfl

theorem pay14_at (e : Fin 16) : k0_pay14 a b c d (ix2 t e) = if e = second fun e => k0_pay9 a b c d (ix2 t e) then 1 else 0 := by
  have hf : (first fun e => k0_pay12 a b c d (ix2 t e)) = second fun e => k0_pay9 a b c d (ix2 t e) := by
    simp only [pay12_at]; rfl
  pointwise [k0_pay14]
  rw [fold_minsi_first (fun e => k0_pay12 a b c d (ix2 t e)) _ (by rw [pay13_at, hf, pay12_at]), hf, cmpi_eq_ofNat _ _ (by have := e.isLt; omega)
    (by have := (second fun e => k0_pay9 a b c d (ix2 t e)).isLt; omega), sitofp_ofBool]
  simp only [decide_eq_true_eq, Fin.ext_iff]

end

theorem gates_fun (t : Fin 1024) :
    (fun e => k0_pay9 (sl3 (GC I) 0) (sl3 (GC I) 1) (sl3 (GC I) 2) (sl3 (GC I) 3) (ix2 t e)) = gate I t := funext (gates_at I t)

/-- The one-hot row of the first choice, -/
theorem v418_at (t : Fin 1024) (e : Fin 16) : v418 I (ix2 t e) = if e = ch1 I t then 1 else 0 := by
  unfold v418; rw [pay11_at, gates_fun]; rfl
/-- of the second, -/
theorem v433_at (t : Fin 1024) (e : Fin 16) : v433 I (ix2 t e) = if e = ch2 I t then 1 else 0 := by
  unfold v433; rw [pay14_at, gates_fun]; rfl
/-- their sum, -/
theorem v448_at (t : Fin 1024) (e : Fin 16) : v448 I (ix2 t e) = (if e = ch1 I t then 1 else 0) + (if e = ch2 I t then 1 else 0) := by
  unfold v448
  pointwise [k0_pay18]
  rw [v418_at, v433_at]

variable (hI : ∀ t e, gate I t e ≠ ⊥)
include hI

theorem ch_ne (t : Fin 1024) : ch2 I t ≠ ch1 I t := second_ne (hI t)

/-- the second's share before the division, -/
theorem v435_at (t : Fin 1024) : v435 I (ix2 t 0) = tt I t := by
  unfold v435
  pointwise [k0_pay15]
  rw [pay13_at, pay10_at, gates_fun, gates_at, drop_second (hI t)]
  rfl

theorem v437_at (t : Fin 1024) : v437 I (ix2 t 0) = 1 + tt I t := by
  have h := v435_at I hI t
  unfold v435 at h
  unfold v437
  pointwise [k0_pay16]
  rw [h]

/-- and the weights of the two choices. -/
theorem v447_at (t : Fin 1024) (e : Fin 16) : v447 I (ix2 t e)
    = (if e = ch1 I t then 1 else 0) * Ideal.div 1 (1 + tt I t) + (if e = ch2 I t then 1 else 0) * Ideal.div (tt I t) (1 + tt I t) := by
  have ho : (one (F := Ideal) : EReal) = 1 := Ideal.ofBits_one_f32
  unfold v447
  pointwise [k0_pay17]
  rw [v418_at, v433_at, v437_at I hI, v435_at I hI, ho]

end Cert.MoE

end
-- ==== Proof.Dispatch.lean ====
/-
# The dispatch matrices, element by element

A device's dispatch matrix for one of its experts has a one where the row is the token's rank in the expert's queue; the
weights of its rows are the tokens' weights at the expert.
-/
module

public import proofs.«01_k».proof.Proof.Gates

@[expose] public section

noncomputable section

namespace Cert.MoE

open Cert.KernelIdeal Cert.KernelIdeal.Gen
open Idealize.ShloMosaic

set_option maxRecDepth 16384

/-- The expert in place `j` of device `c`. -/
def expert (c : Dev nD) (j : Fin 4) : Fin 16 := ⟨4 * c.val + j.val, by have h : c.val < 4 := c.isLt; have := j.isLt; omega⟩

theorem expert_word0 : ∀ c : Dev nD, Scalar.addi (Scalar.muli (pos c) 4#32) 0#32 = BitVec.ofNat 32 (expert c 0).val := by decide +kernel
theorem expert_word1 : ∀ c : Dev nD, Scalar.addi (Scalar.muli (pos c) 4#32) 1#32 = BitVec.ofNat 32 (expert c 1).val := by decide +kernel
theorem expert_word2 : ∀ c : Dev nD, Scalar.addi (Scalar.muli (pos c) 4#32) 2#32 = BitVec.ofNat 32 (expert c 2).val := by decide +kernel
theorem expert_word3 : ∀ c : Dev nD, Scalar.addi (Scalar.muli (pos c) 4#32) 3#32 = BitVec.ofNat 32 (expert c 3).val := by decide +kernel

theorem e406_at (t : Fin 1024) (e : Fin 16) : e406 (ix2 t e) = BitVec.ofNat 32 e.val := by
  unfold e406
  pointwise

theorem v455_at (s : Fin 176) (t : Fin 1024) : v455 (ix2 s t) = BitVec.ofNat 32 s.val := by
  unfold v455
  pointwise

/-- The indicator of one expert, from its number as a word. -/
theorem col_pt {φ : FTy} (e e' : Fin 16) :
    FloatOps.sitofp (F := Ideal) φ (BitVec.setWidth 32 (IntOp.cmpi .eq (BitVec.ofNat 32 e'.val) (BitVec.ofNat 32 e.val))) = if e' = e then 1 else 0 := by
  rw [cmpi_eq_ofNat _ _ (by have := e'.isLt; omega) (by have := e.isLt; omega), sitofp_ofBool]
  simp only [decide_eq_true_eq, Fin.ext_iff]

theorem col0_at (c : Dev nD) (t : Fin 1024) (e : Fin 16) : k0_pay20 (F := Ideal) (pos c) e406 (ix2 t e) = if e = expert c 0 then 1 else 0 := by
  pointwise [k0_pay20]
  rw [e406_at, expert_word0, col_pt]
theorem col1_at (c : Dev nD) (t : Fin 1024) (e : Fin 16) : k0_pay24 (F := Ideal) (k0_pay23 (pos c) e406) (ix2 t e) = if e = expert c 1 then 1 else 0 := by
  pointwise [k0_pay24, k0_pay23]
  rw [e406_at, expert_word1, col_pt]
theorem col2_at (c : Dev nD) (t : Fin 1024) (e : Fin 16) : k0_pay27 (F := Ideal) (pos c) e406 (ix2 t e) = if e = expert c 2 then 1 else 0 := by
  pointwise [k0_pay27]
  rw [e406_at, expert_word2, col_pt]
theorem col3_at (c : Dev nD) (t : Fin 1024) (e : Fin 16) : k0_pay31 (F := Ideal) (pos c) e406 (ix2 t e) = if e = expert c 3 then 1 else 0 := by
  pointwise [k0_pay31]
  rw [e406_at, expert_word3, col_pt]

/-- The strictly lower triangle. -/
theorem tri_at (t t' : Fin 1024) : k0_pay19 (F := Ideal) (ix2 t t') = if t' < t then 1 else 0 := by
  have h : IntOp.cmpi .slt (BitVec.ofNat 32 t'.val) (BitVec.ofNat 32 t.val) = BitVec.ofBool (decide (t' < t)) := by
    show BitVec.ofBool ((BitVec.ofNat 32 t'.val).slt (BitVec.ofNat 32 t.val)) = _
    have h1 : ∀ u : Fin 1024, (BitVec.ofNat 32 u.val).toInt = u.val := fun u => by
      rw [BitVec.toInt_eq_toNat_of_lt (by rw [BitVec.toNat_ofNat]; have := u.isLt; omega), BitVec.toNat_ofNat, Nat.mod_eq_of_lt (by have := u.isLt; omega)]
    congr 1
    rw [Bool.eq_iff_iff, BitVec.slt_iff_toInt_lt, h1, h1, decide_eq_true_eq, Fin.lt_def]
    omega
  pointwise [k0_pay19]
  rw [h, sitofp_ofBool]
  simp only [decide_eq_true_eq]

variable (I : Inp Ideal) (hI : ∀ t e, gate I t e ≠ ⊥)
include hI

/-- The dispatch matrix of an expert. -/
theorem disp_at (c : Dev nD) (j : Fin 4) (s : Fin 176) (t : Fin 1024) :
    disp I c j (ix2 s t) = if s.val = rank (ch1 I) (ch2 I) t (expert c j) ∧ Routed (ch1 I) (ch2 I) t (expert c j) then 1 else 0 := by
  have hd : ∀ e, _ := fun e => disp_pt (c1 := ch1 I) (c2 := ch2 I) (ch_ne I hI) e s t (φ := .f32)
  unfold disp
  split
  · rw [← hd]
    pointwise [k0_pay21, k0_pay18]
    simp only [col0_at, v418_at, v433_at, tri_at]
  · rw [← hd]
    pointwise [k0_pay25]
    simp only [col1_at, v448_at, tri_at, v455_at, v454]
  · rw [← hd]
    pointwise [k0_pay29]
    simp only [col2_at, v448_at, tri_at, v455_at, v454]
  · rw [← hd]
    pointwise [k0_pay32]
    simp only [col3_at, v448_at, tri_at, v455_at, v454]

/-- A token's weight at an expert. -/
def sel (t : Fin 1024) (e : Fin 16) : EReal :=
  (if e = ch1 I t then Ideal.div 1 (1 + tt I t) else 0) + (if e = ch2 I t then Ideal.div (tt I t) (1 + tt I t) else 0)

/-- The weights of the rows. -/
theorem wts_at (c : Dev nD) (j : Fin 4) (s : Fin 176) :
    wts I c j (ix2 s 0) = ∑ t : Fin 1024, disp I c j (ix2 s t) * sel I t (expert c j) := by
  have h0 : ∀ t e, k0_pay17 (v418 I) (v433 I) (v435 I) (v437 I) (one (F := Ideal)) (ix2 t e) = _ := fun t e => v447_at I hI t e
  have hs : ∀ e t, _ := fun e t => sum_sel (c1 := ch1 I) (c2 := ch2 I) (Ideal.div 1 (1 + tt I t)) (Ideal.div (tt I t) (1 + tt I t)) t e
  unfold wts
  split
  · pointwise [k0_pay22]
    simp only [col0_at, h0, hs]
    rfl
  · pointwise [k0_pay26]
    simp only [col1_at, v447_at I hI, hs]
    rfl
  · pointwise [k0_pay30, k0_pay28]
    simp only [col2_at, v447_at I hI, hs]
    rfl
  · pointwise [k0_pay33]
    simp only [col3_at, v447_at I hI, hs]
    rfl

end Cert.MoE

end
-- ==== Proof.Sums.lean ====
/-
# The kernel's result, element by element

A device's accumulator holds, for each token, the weighted values of the device's experts that the token chose. The ring
adds up the four devices' accumulators; for a token that no queue turns away that is the weighted sum over its two choices.
-/
module

public import proofs.«01_k».proof.Proof.Dispatch

@[expose] public section

noncomputable section

namespace Cert.MoE

open Cert.KernelIdeal Cert.KernelIdeal.Gen
open Idealize.ShloMosaic

set_option maxRecDepth 16384

variable (I : Inp Ideal)

theorem XC_at (j : Dev nD) (r : Fin 256) (k : Fin 1024) : sl3 (XC I) j (ix3 0 r k) = I.x j (ix2 r k) := by
  show k0_pay2 (I.x j) (ix3 0 r k) = _
  pointwise [k0_pay2, k0_pay1]

/-- The gathered token rows. -/
theorem xfull_at (t k : Fin 1024) : xfull I (ix2 t k) = tok I t k := by
  have hr : ∀ (j : Dev nD) (r : Fin 256), t.val = 256 * j.val + r.val → sl3 (XC I) j (ix3 0 r k) = tok I t k := by
    intro j r h
    rw [XC_at]
    have hj : devT t = j := Fin.ext (by show t.val / 256 = j.val; omega)
    have hrr : rowT t = r := Fin.ext (by show t.val % 256 = r.val; omega)
    unfold tok
    rw [hj, hrr]
  unfold xfull
  pointwise [k0_pay36, k0_pay35]
  have := t.isLt
  by_cases h0 : t.val < 256
  · rw [dif_pos h0]
    exact hr 0 ⟨t.val, h0⟩ (by show t.val = 256 * 0 + t.val; omega)
  rw [dif_neg h0]
  by_cases h1 : t.val - 256 < 256
  · rw [dif_pos h1]
    exact hr 1 ⟨t.val - 256, h1⟩ (by show t.val = 256 * 1 + (t.val - 256); omega)
  rw [dif_neg h1]
  by_cases h2 : t.val - 256 - 256 < 256
  · rw [dif_pos h2]
    exact hr 2 ⟨t.val - 256 - 256, h2⟩ (by show t.val = 256 * 2 + (t.val - 256 - 256); omega)
  rw [dif_neg h2]
  exact hr 3 ⟨t.val - 256 - 256 - 256, by omega⟩ (by show t.val = 256 * 3 + (t.val - 256 - 256 - 256); omega)

/-- Expert `e`'s value of token `t`, at output column `d`. -/
def expV (e : Fin 16) (t d : Fin 1024) : EReal :=
  ∑ f : Fin 2048, max (∑ k : Fin 1024, tok I t k * I.w1 (devE e) (ix3 (slotE e) k f)) 0 * I.w2 (devE e) (ix3 (slotE e) f d)

/-- What expert `e` adds to token `t`. -/
def part (e : Fin 16) (t d : Fin 1024) : EReal :=
  if Routed (ch1 I) (ch2 I) t e then expV I e t d * sel I t e else 0

theorem devE_expert (c : Dev nD) (j : Fin 4) : devE (expert c j) = c := Fin.ext (by show (4 * c.val + j.val) / 4 = c.val; omega)
theorem slotE_expert (c : Dev nD) (j : Fin 4) : slotE (expert c j) = j := Fin.ext (by show (4 * c.val + j.val) % 4 = j.val; omega)

variable (hI : ∀ t e, gate I t e ≠ ⊥)
include hI

/-- The term of one expert in the accumulator. -/
theorem term_at (c : Dev nD) (j : Fin 4) (t d : Fin 1024) (hfit : ∀ e, Routed (ch1 I) (ch2 I) t e → rank (ch1 I) (ch2 I) t e < 176) :
    (∑ s : Fin 176, disp I c j (ix2 s t) *
        ((∑ f : Fin 2048, max (∑ k : Fin 1024, (∑ t' : Fin 1024, disp I c j (ix2 s t') * xfull I (ix2 t' k)) * sl3 (I.w1 c) j (ix3 0 k f)) 0
            * sl3 (I.w2 c) j (ix3 0 f d)) * wts I c j (ix2 s 0)))
      = part I (expert c j) t d := by
  simp only [wts_at I hI, xfull_at]
  unfold part expV
  rw [devE_expert, slotE_expert]
  exact acc_pt (expert c j) t (hfit _) (fun s t => disp I c j (ix2 s t)) (fun s t => disp_at I hI c j s t) (tok I)
    (fun k f => sl3 (I.w1 c) j (ix3 0 k f)) (fun f => sl3 (I.w2 c) j (ix3 0 f d)) (fun t => sel I t (expert c j))

/-- The accumulator after the four experts. -/
theorem A4_at (c : Dev nD) (t d : Fin 1024) (hfit : ∀ e, Routed (ch1 I) (ch2 I) t e → rank (ch1 I) (ch2 I) t e < 176) :
    A4 I c (ix2 t d) = part I (expert c 0) t d + part I (expert c 1) t d + part I (expert c 2) t d + part I (expert c 3) t d := by
  have h0 : (A0 (F := Ideal)) (ix2 t d) = 0 := by
    unfold A0
    pointwise [k0_pay34]
  have h1 : A1 I c (ix2 t d) = part I (expert c 0) t d := by
    rw [← term_at I hI c 0 t d hfit]
    unfold A1
    pointwise [k0_pay37]
    rw [h0, zero_add]
  have h2 : A2 I c (ix2 t d) = part I (expert c 0) t d + part I (expert c 1) t d := by
    rw [← term_at I hI c 1 t d hfit]
    unfold A2
    pointwise [k0_pay39, k0_pay38]
    rw [h1]
  have h3 : A3 I c (ix2 t d) = part I (expert c 0) t d + part I (expert c 1) t d + part I (expert c 2) t d := by
    rw [← term_at I hI c 2 t d hfit]
    unfold A3
    pointwise [k0_pay40]
    rw [h2]
  rw [← term_at I hI c 3 t d hfit]
  unfold A4
  pointwise [k0_pay41]
  rw [h3]

omit hI in
/-- The ring's sum is the sum of the four accumulators. -/
theorem out_ring (c : Dev nD) (r : Fin 256) (d : Fin 1024) (t : Fin 1024) (ht : t.val = 256 * c.val + r.val) :
    outC I c (ix2 r d) = A4 I c (ix2 t d) + (A4 I (back c 1) (ix2 t d) + (A4 I (back c 2) (ix2 t d) + A4 I (back c 3) (ix2 t d))) := by
  have hb12 : back (back c 1) 1 = back c 2 := (by decide : ∀ c : Dev nD, back (back c 1) 1 = back c 2) c
  have hb23 : back (back c 2) 1 = back c 3 := (by decide : ∀ c : Dev nD, back (back c 2) 1 = back c 3) c
  have hb13 : back (back c 1) 3 = c := (by decide : ∀ c : Dev nD, back (back c 1) 3 = c) c
  have hb22 : back (back c 2) 2 = c := (by decide : ∀ c : Dev nD, back (back c 2) 2 = c) c
  have hb31 : back (back c 3) 1 = c := (by decide : ∀ c : Dev nD, back (back c 3) 1 = c) c
  have hrow : ∀ A : Vec Ideal S1024x1024 .f32, rowsOf A c (ix2 r d) = A (ix2 t d) := by
    intro A
    unfold rowsOf
    refine congrArg A ?_
    rw [show (⟨256 * c.val + ((ix2 r d : S256x1024.Idx) 0).val, _⟩ : Fin 1024) = t from Fin.ext ht.symm]
    rfl
  have h0 : RS0 I (back c 3) (ix3 0 r d) = A4 I (back c 3) (ix2 t d) := by
    unfold RS0
    rw [hb31]
    pointwise [k0_pay42]
    rw [hrow]
  have h1 : RS1 I (back c 2) (ix3 0 r d) = A4 I (back c 2) (ix2 t d) + A4 I (back c 3) (ix2 t d) := by
    rw [← h0]
    unfold RS1
    rw [hb22, hb23]
    pointwise [k0_pay43]
    rw [hrow]
  have h2 : RS2 I (back c 1) (ix3 0 r d) = A4 I (back c 1) (ix2 t d) + (A4 I (back c 2) (ix2 t d) + A4 I (back c 3) (ix2 t d)) := by
    rw [← h1]
    unfold RS2
    rw [hb13, hb12]
    pointwise [k0_pay45, k0_pay44]
    rw [hrow]
  unfold outC
  pointwise [k0_pay46]
  rw [hrow, h2]

omit hI in
theorem sum_all (p : Fin 16 → EReal) (q : Dev nD → EReal)
    (hq : ∀ c, q c = p (expert c 0) + p (expert c 1) + p (expert c 2) + p (expert c 3)) (c : Dev nD) :
    q c + (q (back c 1) + (q (back c 2) + q (back c 3))) = ∑ e : Fin 16, p e := by
  have hs : (∑ e : Fin 16, p e) = ∑ c : Fin 4, q c := by
    have h4 : (∑ c : Fin 4, q c) = q 0 + q 1 + q 2 + q 3 := Fin.sum_univ_four q
    rw [h4, hq, hq, hq, hq]
    simp only [Fin.sum_univ_succ, Fin.sum_univ_zero, add_zero, add_assoc]
    rfl
  rw [hs, Fin.sum_univ_four]
  obtain ⟨k, hk⟩ := c
  have hk' : k < 4 := hk
  match k, hk' with
  | 0, _ =>
    show q 0 + (q (back 0 1) + (q (back 0 2) + q (back 0 3))) = _
    rw [show back 0 1 = (3 : Dev nD) by decide, show back 0 2 = (2 : Dev nD) by decide, show back 0 3 = (1 : Dev nD) by decide]
    abel
  | 1, _ =>
    show q 1 + (q (back 1 1) + (q (back 1 2) + q (back 1 3))) = _
    rw [show back 1 1 = (0 : Dev nD) by decide, show back 1 2 = (3 : Dev nD) by decide, show back 1 3 = (2 : Dev nD) by decide]
    abel
  | 2, _ =>
    show q 2 + (q (back 2 1) + (q (back 2 2) + q (back 2 3))) = _
    rw [show back 2 1 = (1 : Dev nD) by decide, show back 2 2 = (0 : Dev nD) by decide, show back 2 3 = (3 : Dev nD) by decide]
    abel
  | 3, _ =>
    show q 3 + (q (back 3 1) + (q (back 3 2) + q (back 3 3))) = _
    rw [show back 3 1 = (2 : Dev nD) by decide, show back 3 2 = (1 : Dev nD) by decide, show back 3 3 = (0 : Dev nD) by decide]
    abel

/-- The kernel's result at a token that no queue turns away. -/
theorem out_at (c : Dev nD) (r : Fin 256) (d : Fin 1024) (t : Fin 1024) (ht : t.val = 256 * c.val + r.val)
    (hfit : ∀ e, Routed (ch1 I) (ch2 I) t e → rank (ch1 I) (ch2 I) t e < 176) :
    outC I c (ix2 r d) = expV I (ch1 I t) t d * Ideal.div 1 (1 + tt I t) + expV I (ch2 I t) t d * Ideal.div (tt I t) (1 + tt I t) := by
  rw [out_ring I c r d t ht, sum_all (fun e => part I e t d) (fun c => A4 I c (ix2 t d)) (fun c => A4_at I hI c t d hfit)]
  exact sum_experts (ch_ne I hI) t (fun e => expV I e t d) _ _

end Cert.MoE

end
-- ==== Proof.Reference.lean ====
/-
# The reference's result, element by element

The reference sorts each token's gate values, takes the two greatest with their experts, and adds up the two experts' values
by the weights of a softmax over the two.
-/
module

public import proofs.«01_k».proof.Proof.Route
public import proofs.«01_k».proof.Proof.Gen.ReferenceIdeal.Run

@[expose] public section

noncomputable section

namespace Cert.MoE

open Cert.ReferenceIdeal Cert.ReferenceIdeal.Gen
open Idealize.ShloMosaic Idealize.ShloMosaic.TcCoe

set_option maxRecDepth 16384

theorem cmpTotal_gt (x y : Ideal .f32) : FloatOps.cmpfTotal (F := Ideal) .gt x y = BitVec.ofBool (decide (y < x)) := by
  show Ideal.cmp .ogt x y = _
  rw [Ideal.cmp_ogt]

theorem along_at (t : Fin 1024) (e k : Fin 16) : (ix2 t e : S1024x16.Idx).along (1 : Fin 2) k = ix2 t k := by
  funext i
  fin_cases i
  · rfl
  · rfl

theorem ofBool_beq (b : Bool) : (BitVec.ofBool b == 1#1) = b := by cases b <;> decide

theorem sort_at (x : FVec Ideal S1024x16 .f32) (y : IVec S1024x16 32) (t : Fin 1024) (k : Fin 16) :
    (Host.sort2 S1024x16 1 (fun l r => FloatOps.cmpfTotal (F := Ideal) (φ := .f32) .gt l.1 r.1) x y).1 (ix2 t k)
      = x (ix2 t (sortedFrom (fun a b => decide (x (ix2 t b) < x (ix2 t a))) k))
    ∧ (Host.sort2 S1024x16 1 (fun l r => FloatOps.cmpfTotal (F := Ideal) (φ := .f32) .gt l.1 r.1) x y).2 (ix2 t k)
      = y (ix2 t (sortedFrom (fun a b => decide (x (ix2 t b) < x (ix2 t a))) k)) := by
  have hf : (fun a b : Fin 16 => FloatOps.cmpfTotal (F := Ideal) (φ := .f32) .gt (x ((ix2 t k : S1024x16.Idx).along (1 : Fin 2) a))
      (x ((ix2 t k : S1024x16.Idx).along (1 : Fin 2) b)) == 1#1) = fun a b => decide (x (ix2 t b) < x (ix2 t a)) := by
    funext a b
    rw [cmpTotal_gt, along_at, along_at, ofBool_beq]
  unfold Host.sort2
  rw [dif_pos (by decide : 1 < S1024x16.rank)]
  constructor
  · exact (congrArg x (along_at t k (sortedFrom (fun a b : Fin 16 => FloatOps.cmpfTotal (F := Ideal) (φ := .f32) .gt (x ((ix2 t k : S1024x16.Idx).along (1 : Fin 2) a))
      (x ((ix2 t k : S1024x16.Idx).along (1 : Fin 2) b)) == 1#1) k))).trans (by rw [hf])
  · exact (congrArg y (along_at t k (sortedFrom (fun a b : Fin 16 => FloatOps.cmpfTotal (F := Ideal) (φ := .f32) .gt (x ((ix2 t k : S1024x16.Idx).along (1 : Fin 2) a))
      (x ((ix2 t k : S1024x16.Idx).along (1 : Fin 2) b)) == 1#1) k))).trans (by rw [hf])

/-- The two greatest values of a row with their places. -/
theorem topK_at (x : FVec Ideal S1024x16 .f32) (h : S1024x16.Slices (fun _ => 0) S1024x2) (t : Fin 1024) (g : Fin 16 → EReal)
    (hg : ∀ e, x (ix2 t e) = g e) (hf : ∀ e, g e ≠ ⊥) :
    (Host.topK S1024x2 1 (FloatOps.cmpfTotal (F := Ideal) (φ := .f32) .gt) x h).1 (ix2 t 0) = g (first g)
    ∧ (Host.topK S1024x2 1 (FloatOps.cmpfTotal (F := Ideal) (φ := .f32) .gt) x h).1 (ix2 t 1) = g (second g)
    ∧ (Host.topK S1024x2 1 (FloatOps.cmpfTotal (F := Ideal) (φ := .f32) .gt) x h).2 (ix2 t 0) = BitVec.ofNat 32 (first g).val
    ∧ (Host.topK S1024x2 1 (FloatOps.cmpfTotal (F := Ideal) (φ := .f32) .gt) x h).2 (ix2 t 1) = BitVec.ofNat 32 (second g).val := by
  have hfun : (fun a b : Fin 16 => decide (x (ix2 t b) < x (ix2 t a))) = fun a b => decide (g b < g a) := by
    funext a b; rw [hg, hg]
  have hs := fun y k => sort_at x y t k
  simp only [hfun] at hs
  unfold Host.topK
  pointwise
  refine ⟨?_, ?_, ?_, ?_⟩
  · refine ((hs _ 0).1).trans ?_
    rw [sorted_zero, hg]
  · refine ((hs _ 1).1).trans ?_
    rw [sorted_one hf, hg]
  · refine ((hs _ 0).2).trans ?_
    rw [sorted_zero]; rfl
  · refine ((hs _ 1).2).trans ?_
    rw [sorted_one hf]; rfl

/-- A selection by an indicator. -/
theorem select_ofBool {α : Type} (b : Bool) (x y : α) : Scalar.select (BitVec.ofBool b) x y = if b then x else y := by
  cases b <;> rfl

/-- A sum that keeps one expert's term. -/
theorem sum_select (e : Fin 16) (Y : Fin 16 → EReal) :
    (∑ e' : Fin 16, Scalar.select (IntOp.cmpi .eq (BitVec.ofNat 32 e.val) (BitVec.ofNat 32 e'.val)) (Y e') (0 : EReal)) = Y e := by
  have h : ∀ e' : Fin 16, Scalar.select (IntOp.cmpi .eq (BitVec.ofNat 32 e.val) (BitVec.ofNat 32 e'.val)) (Y e') (0 : EReal) = if e' = e then Y e' else 0 := by
    intro e'
    rw [cmpi_eq_ofNat _ _ (by have := e.isLt; omega) (by have := e'.isLt; omega), select_ofBool]
    by_cases h : e' = e
    · subst h; simp
    · have h' : e.val ≠ e'.val := fun he => h (Fin.ext he.symm)
      simp [h, h']
  rw [Finset.sum_congr rfl fun e' _ => h e']
  simp only [Finset.sum_ite_eq', Finset.mem_univ, if_true]

variable (x : FVec Ideal S1024x1024 .f32) (r : FVec Ideal S1024x16 .f32) (w1 : FVec Ideal S16x1024x2048 .f32) (w2 : FVec Ideal S16x2048x1024 .f32)

/-- Token `t`'s gate value at expert `e`, -/
def rgate (t : Fin 1024) (e : Fin 16) : EReal := ∑ k : Fin 1024, x (ix2 t k) * r (ix2 k e)
/-- expert `e`'s value of token `t`, -/
def rexp (e : Fin 16) (t d : Fin 1024) : EReal :=
  ∑ f : Fin 2048, max (∑ k : Fin 1024, x (ix2 t k) * w1 (ix3 e k f)) 0 * w2 (ix3 e f d)
/-- the exponential of how much less the second choice's value is, -/
def rt2 (g : Fin 16 → EReal) : EReal := Ideal.exp (g (second g) - g (first g))
/-- and the weighted sum over the two choices. -/
def rout (g : Fin 16 → EReal) (t d : Fin 1024) : EReal :=
  rexp x w1 w2 (first g) t d * Ideal.div 1 (1 + rt2 g) + rexp x w1 w2 (second g) t d * Ideal.div (rt2 g) (1 + rt2 g)

theorem exp_self {a : EReal} (h1 : a ≠ ⊤) (h2 : a ≠ ⊥) : Ideal.exp (a - a) = 1 := by
  rw [EReal.sub_self h1 h2]
  show ((Real.exp 0 : ℝ) : EReal) = 1
  rw [Real.exp_zero]; rfl

/-- The reference's result. -/
theorem ref_at (m : (ℓ : Loc nD τ sig) → Buf (Elt Ideal) ℓ) (t d : Fin 1024)
    (hx : x = m (((0 : Dev nD).tc : Thread nD τ).loc main_arg0)) (hr : r = m (((0 : Dev nD).tc : Thread nD τ).loc main_arg1))
    (h1 : w1 = m (((0 : Dev nD).tc : Thread nD τ).loc main_arg2)) (h2 : w2 = m (((0 : Dev nD).tc : Thread nD τ).loc main_arg3))
    (hb : ∀ e, rgate x r t e ≠ ⊥) (ht : ∀ e, rgate x r t e ≠ ⊤) :
    Value.res_main_v47 (F := Ideal) m 0 (ix2 t d) = rout x w1 w2 (rgate x r t) t d := by
  have hg : ∀ e, (Host.dotGeneral dot_S1024x1024_S1024x16_S1024x16_1_0_0_1_n_n none x r : FVec Ideal S1024x16 .f32) (ix2 t e) = rgate x r t e := by
    intro e
    unfold rgate
    pointwise
  obtain ⟨t0, t1, i0, i1⟩ := topK_at _ sliceFits_S1024x16_S1024x2 t (rgate x r t) hg hb
  unfold Value.res_main_v47
  rw [← hx, ← hr, ← h1, ← h2]
  generalize Host.topK S1024x2 1 _ _ _ = T at t0 t1 i0 i1
  pointwise
  have hz : (id (constant (F := Ideal) S_ FTy.f32 0#32) ix0 : EReal) = 0 := by
    show Ideal.ofBits .f32 0#32 = 0
    exact Ideal.ofBits_zero_f32
  have hm : Finset.fold max (Ideal.ofBits FTy.f32 4286578688#32) (fun k => T.1 (ix2 t k)) Finset.univ = rgate x r t (first (rgate x r t)) := by
    rw [ofBits_neg_inf]
    refine le_antisymm ((Finset.fold_max_le _).mpr ⟨bot_le, fun k _ => ?_⟩) ((Finset.le_fold_max _).mpr (Or.inr ⟨0, Finset.mem_univ _, t0.ge⟩))
    fin_cases k
    · exact t0.le
    · exact t1.le.trans ((first_spec _).1 _)
  rw [hm, hz, i0, i1]
  rw [sum_select, sum_select, Fin.sum_univ_two]
  simp only [t0, t1, exp_self (ht _) (hb _)]
  unfold rout rexp
  simp only [mul_comm]
  rfl

end Cert.MoE

end
-- ==== Proof.Mask.lean ====
/-
# Which results the capacity leaves

The claim compares the results of the tokens that `fits` names. Read element by element: a token is named when each of
the two experts it chose has taken fewer than 176 of the tokens before it.
-/
module

public import proofs.«01_k».proof.Proof.Reference
public import proofs.«01_k».proof.On_fits
public import Idealize.ShloMosaic.Lib.IndicatorCount

@[expose] public section

noncomputable section

namespace Cert.MoE

open Cert.On_fits
open Idealize.ShloMosaic

set_option maxRecDepth 16384

/-- The shapes of `fits` fit together. -/
theorem fits_facts : Cert.On_fits.Facts := by
  constructor <;> decide

/-- A conjunction over a finite set is true only when each of its members is. -/
theorem fold_andi_one {ι : Type} (p : ι → BitVec 1) (S : Finset ι) (h : S.fold IntOp.andi (1#1) p = 1#1) : ∀ i ∈ S, p i = 1#1 := by
  classical
  induction S using Finset.induction_on with
  | empty => intro i hi; simp at hi
  | insert a S ha ih =>
    rw [Finset.fold_insert ha] at h
    have hand : ∀ a b : BitVec 1, IntOp.andi a b = 1#1 → a = 1#1 ∧ b = 1#1 := by decide
    have h' := hand _ _ h
    intro i hi
    rcases Finset.mem_insert.1 hi with rfl | hi
    · exact h'.1
    · exact ih h'.2 i hi

/-- Two small numbers compared as signed words. -/
theorem cmpi_slt_ofNat (a b : Nat) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  have h1 : ∀ u : Nat, u < 2 ^ 31 → (BitVec.ofNat 32 u).toInt = u := fun u hu => by
    rw [BitVec.toInt_eq_toNat_of_lt (by rw [BitVec.toNat_ofNat]; omega), BitVec.toNat_ofNat, Nat.mod_eq_of_lt (by omega)]
  congr 1
  rw [Bool.eq_iff_iff, BitVec.slt_iff_toInt_lt, h1 a ha, h1 b hb, decide_eq_true_eq]
  omega

/-- Words of a truth value: the disjunction, the conjunction, and "not, or". -/
theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]
theorem ofBool_eq_one (p : Prop) [Decidable p] : BitVec.ofBool (decide p) = 1#1 ↔ p := by
  by_cases hp : p <;> simp [hp]
theorem noti_ori (p q : Prop) [Decidable p] [Decidable q]
    (h : IntOp.ori (~~~BitVec.ofBool (decide p)) (BitVec.ofBool (decide q)) = 1#1) (hp : p) : q := by
  by_contra hq
  simp [hp, hq, IntOp.ori] at h

/-- A token that `fits` names has a place at both its experts. -/
theorem fits_at [Cert.On_fits.Facts] (x : FVec Ideal S1024x1024 .f32) (r : FVec Ideal S1024x16 .f32) (w1 : FVec Ideal S16x1024x2048 .f32)
    (w2 : FVec Ideal S16x2048x1024 .f32) (hb : ∀ t e, rgate x r t e ≠ ⊥) (t d : Fin 1024)
    (h : Cert.On_fits.fn (F := Ideal) x r w1 w2 (ix2 t d) = 1#1) (e : Fin 16)
    (he : Routed (fun t => first (rgate x r t)) (fun t => second (rgate x r t)) t e) :
    rank (fun t => first (rgate x r t)) (fun t => second (rgate x r t)) t e < 176 := by
  have hg : ∀ t e, (Ideal.matmul dot_S1024x1024_S1024x16_S1024x16_1_0_0_1_n_n x r (fun _ => 0) : FVec Ideal S1024x16 .f32) (ix2 t e) = rgate x r t e := by
    intro t e
    have h : (Host.dotGeneral dot_S1024x1024_S1024x16_S1024x16_1_0_0_1_n_n none x r : FVec Ideal S1024x16 .f32) (ix2 t e) = rgate x r t e := by
      unfold rgate
      pointwise
    exact h
  have hT := fun t => topK_at _ Facts.sliceFits_S1024x16_S1024x2 t (rgate x r t) (hg t) (hb t)
  unfold Cert.On_fits.fn Cert.On_fits.fn_part1 at h
  revert h
  pointwise
  generalize (Ideal.matmul dot_S1024x1024_S1024x16_S1024x16_1_0_0_1_n_n x r (fun _ => 0) : FVec Ideal S1024x16 .f32) = G at hT ⊢
  intro h
  have h' := fold_andi_one _ _ h e (Finset.mem_univ _)
  have hc : ∀ t e, IntOp.ori (IntOp.cmpi CmpIPredicate.eq ((Host.topK S1024x2 1 (FloatOps.cmpfTotal (F := Ideal) (φ := .f32) CmpDirection.gt) G Facts.sliceFits_S1024x16_S1024x2).2 (ix2 t 0)) (BitVec.ofNat 32 e.val))
      (IntOp.cmpi CmpIPredicate.eq ((Host.topK S1024x2 1 (FloatOps.cmpfTotal (F := Ideal) (φ := .f32) CmpDirection.gt) G Facts.sliceFits_S1024x16_S1024x2).2 (ix2 t 1)) (BitVec.ofNat 32 e.val))
      = BitVec.ofBool (decide (Routed (fun t => first (rgate x r t)) (fun t => second (rgate x r t)) t e)) := by
    intro t e
    have hlt : ∀ e : Fin 16, e.val < 2 ^ 32 := fun e => by have := e.isLt; omega
    rw [(hT t).2.2.1, (hT t).2.2.2, cmpi_eq_ofNat _ _ (hlt _) (hlt _), cmpi_eq_ofNat _ _ (hlt _) (hlt _), ori_ofBool]
    congr 1
    exact decide_eq_decide.2 (or_congr Fin.val_inj Fin.val_inj)
  beta_reduce at h'
  simp only [hc] at h'
  rw [IndicatorCount.fold_addi_setWidth_eq_card] at h'
  have hlt : ∀ t : Fin 1024, t.val < 2 ^ 31 := fun t => by have := t.isLt; omega
  have hcard : (Finset.univ.filter fun t' : Fin 1024 => IntOp.andi (IntOp.cmpi CmpIPredicate.slt (BitVec.ofNat 32 t'.val) (BitVec.ofNat 32 t.val))
      (BitVec.ofBool (decide (Routed (fun t => first (rgate x r t)) (fun t => second (rgate x r t)) t' e))) = 1#1).card
      = rank (fun t => first (rgate x r t)) (fun t => second (rgate x r t)) t e := by
    unfold rank
    congr 1
    refine Finset.filter_congr fun t' _ => ?_
    rw [cmpi_slt_ofNat _ _ (hlt _) (hlt _), andi_ofBool, ofBool_eq_one, Fin.lt_def]
  rw [hcard, cmpi_slt_ofNat _ _ (by have := rank_le (c1 := fun t => first (rgate x r t)) (c2 := fun t => second (rgate x r t)) t e; omega) (by decide)] at h'
  exact noti_ori _ _ h' he

end Cert.MoE

end
-- ==== Proof.Finite.lean ====
/-
# Finite rows and router columns

The precondition read element by element, and what it gives: every gate value is a real number.
-/
module

public import proofs.«01_k».proof.Proof.Mask
public import proofs.«01_k».proof.Pre_finite_KernelIdeal
public import proofs.«01_k».proof.Pre_finite_ReferenceIdeal

@[expose] public section

noncomputable section

namespace Cert.MoE

open Cert.Pre_finite_KernelIdeal
open Idealize.ShloMosaic

set_option maxRecDepth 16384

/-- The shapes of the two readings of `finite` fit together. -/
theorem finite_facts : Cert.Pre_finite_KernelIdeal.Facts := by
  constructor <;> decide
theorem finite_ref_facts : Cert.Pre_finite_ReferenceIdeal.Facts := by
  constructor <;> decide

/-- An extended real whose absolute value is below infinity is a real number. -/
theorem real_of_abs (x : EReal) (h : FloatOps.absf (F := Ideal) (φ := .f32) x < ⊤) : x ≠ ⊥ ∧ x ≠ ⊤ := by
  have h : max x (-x) < ⊤ := h
  constructor
  · rintro rfl; exact absurd h (by simp)
  · rintro rfl; exact absurd h (by simp)

/-- The precondition of a device: its rows and its router columns hold real numbers. -/
theorem finite_at [Cert.Pre_finite_KernelIdeal.Facts] (x : FVec Ideal S256x1024 .f32) (r : FVec Ideal S1024x4 .f32) (w1 : FVec Ideal S4x1024x2048 .f32)
    (w2 : FVec Ideal S4x2048x1024 .f32) (h : Cert.Pre_finite_KernelIdeal.fn (F := Ideal) x r w1 w2 = fun _ => 1#1) :
    (∀ i k, x (ix2 i k) ≠ ⊥ ∧ x (ix2 i k) ≠ ⊤) ∧ ∀ k j, r (ix2 k j) ≠ ⊥ ∧ r (ix2 k j) ≠ ⊤ := by
  have hr : Cert.Pre_finite_KernelIdeal.fn (F := Ideal) x r w1 w2 ix0 = IntOp.andi
      (Finset.fold IntOp.andi (1#1)
        (fun k : Fin 256 × Fin 1024 => BitVec.ofBool (decide (FloatOps.absf (F := Ideal) (φ := .f32) (x (ix2 k.1 k.2)) < Ideal.ofBits FTy.f32 0x7F800000#32)))
        Finset.univ)
      (Finset.fold IntOp.andi (1#1)
        (fun k : Fin 1024 × Fin 4 => BitVec.ofBool (decide (FloatOps.absf (F := Ideal) (φ := .f32) (r (ix2 k.1 k.2)) < Ideal.ofBits FTy.f32 0x7F800000#32)))
        Finset.univ) := by
    unfold Cert.Pre_finite_KernelIdeal.fn
    pointwise
  have h := hr.symm.trans (congrFun h ix0)
  have hand : ∀ a b : BitVec 1, IntOp.andi a b = 1#1 → a = 1#1 ∧ b = 1#1 := by decide
  have h' := hand _ _ h
  refine ⟨fun i k => ?_, fun k j => ?_⟩
  · have h1 := fold_andi_one _ _ h'.1 (i, k) (Finset.mem_univ _)
    rw [ofBool_eq_one, ofBits_inf] at h1
    exact real_of_abs _ h1
  · have h1 := fold_andi_one _ _ h'.2 (k, j) (Finset.mem_univ _)
    rw [ofBool_eq_one, ofBits_inf] at h1
    exact real_of_abs _ h1

/-- A sum of products of real numbers is a real number. -/
theorem sum_real {ι : Type} (S : Finset ι) (a b : ι → EReal) (ha : ∀ i, a i ≠ ⊥ ∧ a i ≠ ⊤) (hb : ∀ i, b i ≠ ⊥ ∧ b i ≠ ⊤) :
    (∑ i ∈ S, a i * b i) ≠ ⊥ ∧ (∑ i ∈ S, a i * b i) ≠ ⊤ := by
  have h : ∃ y : ℝ, (∑ i ∈ S, a i * b i) = (y : EReal) := by
    classical
    induction S using Finset.induction_on with
    | empty => exact ⟨0, by simp⟩
    | insert i S hi ih =>
      obtain ⟨y, hy⟩ := ih
      refine ⟨(a i).toReal * (b i).toReal + y, ?_⟩
      rw [Finset.sum_insert hi, hy, EReal.coe_add, EReal.coe_mul, EReal.coe_toReal (ha i).2 (ha i).1, EReal.coe_toReal (hb i).2 (hb i).1]
  obtain ⟨y, hy⟩ := h
  rw [hy]
  exact ⟨EReal.coe_ne_bot y, EReal.coe_ne_top y⟩

end Cert.MoE

end
-- ==== Proof.Value.lean ====
/-
# The two programs compute the same

The devices hold blocks of the reference's arrays: a quarter of the rows, of the router's columns and of the experts
each. So the tokens, the gates and the experts' results are the same numbers, and where no capacity turns a token away
the two results are one.
-/
module

public import proofs.«01_k».proof.Proof.Outcome
public import proofs.«01_k».proof.Proof.Sums
public import proofs.«01_k».proof.Proof.Finite

@[expose] public section

noncomputable section

namespace Cert.MoE

open Cert.KernelIdeal Cert.KernelIdeal.Gen
open Idealize.ShloMosaic
open Idealize.ShloMosaic.TcCoe
open Idealize.SL Idealize.SL.RA Idealize.SL.BI Idealize.SL.Sem

set_option maxRecDepth 16384

/-! ## Blocks by coordinates -/

/-- Row `i` of device `c`'s block of rows. -/
theorem block_row (X : (⟨2, ![1024, 1024]⟩ : Shape).Idx → EReal) (c : Fin 4) (i : Fin 256) (k t : Fin 1024) (ht : t.val = c.val * 256 + i.val) :
    Layout.block ⟨2, ![256, 1024]⟩ ⟨2, ![1024, 1024]⟩ 0 4 c X (by decide) (ix2 i k) = X (ix2 t k) := by
  refine congrArg X (funext fun a => Fin.ext ?_)
  fin_cases a
  · exact ht.symm
  · rfl

/-- The same of the mask. -/
theorem block_mask (X : (⟨2, ![1024, 1024]⟩ : Shape).Idx → BitVec 1) (c : Fin 4) (i : Fin 256) (k t : Fin 1024) (ht : t.val = c.val * 256 + i.val) :
    Layout.block ⟨2, ![256, 1024]⟩ ⟨2, ![1024, 1024]⟩ 0 4 c X (by decide) (ix2 i k) = X (ix2 t k) := by
  refine congrArg X (funext fun a => Fin.ext ?_)
  fin_cases a
  · exact ht.symm
  · rfl

/-- Column `j` of device `c`'s block of the router's columns. -/
theorem block_col (R : (⟨2, ![1024, 16]⟩ : Shape).Idx → EReal) (c : Fin 4) (k : Fin 1024) (j : Fin 4) (e : Fin 16) (he : e.val = c.val * 4 + j.val) :
    Layout.block ⟨2, ![1024, 4]⟩ ⟨2, ![1024, 16]⟩ 1 4 c R (by decide) (ix2 k j) = R (ix2 k e) := by
  refine congrArg R (funext fun a => Fin.ext ?_)
  fin_cases a
  · rfl
  · exact he.symm

/-- Expert `j` of device `c`'s block of the first weights, -/
theorem block_w1 (W : (⟨3, ![16, 1024, 2048]⟩ : Shape).Idx → EReal) (c j : Fin 4) (k : Fin 1024) (f : Fin 2048) (e : Fin 16) (he : e.val = c.val * 4 + j.val) :
    Layout.block ⟨3, ![4, 1024, 2048]⟩ ⟨3, ![16, 1024, 2048]⟩ 0 4 c W (by decide) (ix3 j k f) = W (ix3 e k f) := by
  refine congrArg W (funext fun a => Fin.ext ?_)
  fin_cases a
  · exact he.symm
  · rfl
  · rfl

/-- and of the second. -/
theorem block_w2 (W : (⟨3, ![16, 2048, 1024]⟩ : Shape).Idx → EReal) (c j : Fin 4) (f : Fin 2048) (d : Fin 1024) (e : Fin 16) (he : e.val = c.val * 4 + j.val) :
    Layout.block ⟨3, ![4, 2048, 1024]⟩ ⟨3, ![16, 2048, 1024]⟩ 0 4 c W (by decide) (ix3 j f d) = W (ix3 e f d) := by
  refine congrArg W (funext fun a => Fin.ext ?_)
  fin_cases a
  · exact he.symm
  · rfl
  · rfl

/-! ## The same numbers -/

/-- The devices' blocks are those of the whole arrays. -/
structure Blocks (I : Inp Ideal) (x : FVec Ideal ⟨2, ![1024, 1024]⟩ .f32) (r : FVec Ideal ⟨2, ![1024, 16]⟩ .f32)
    (w1 : FVec Ideal ⟨3, ![16, 1024, 2048]⟩ .f32) (w2 : FVec Ideal ⟨3, ![16, 2048, 1024]⟩ .f32) : Prop where
  x : ∀ c : Fin 4, I.x c = Layout.block ⟨2, ![256, 1024]⟩ ⟨2, ![1024, 1024]⟩ 0 4 c x
  rt : ∀ c : Fin 4, I.rt c = Layout.block ⟨2, ![1024, 4]⟩ ⟨2, ![1024, 16]⟩ 1 4 c r
  w1 : ∀ c : Fin 4, I.w1 c = Layout.block ⟨3, ![4, 1024, 2048]⟩ ⟨3, ![16, 1024, 2048]⟩ 0 4 c w1
  w2 : ∀ c : Fin 4, I.w2 c = Layout.block ⟨3, ![4, 2048, 1024]⟩ ⟨3, ![16, 2048, 1024]⟩ 0 4 c w2

variable {I : Inp Ideal} {x : FVec Ideal ⟨2, ![1024, 1024]⟩ .f32} {r : FVec Ideal ⟨2, ![1024, 16]⟩ .f32}
variable {w1 : FVec Ideal ⟨3, ![16, 1024, 2048]⟩ .f32} {w2 : FVec Ideal ⟨3, ![16, 2048, 1024]⟩ .f32}

theorem devT_val (t : Fin 1024) : t.val = (devT t).val * 256 + (rowT t).val := (Nat.div_add_mod' t.val 256).symm
theorem devE_val (e : Fin 16) : e.val = (devE e).val * 4 + (slotE e).val := (Nat.div_add_mod' e.val 4).symm

theorem tok_eq (h : Blocks I x r w1 w2) (t k : Fin 1024) : tok I t k = x (ix2 t k) := by
  unfold tok
  rw [h.x]
  exact block_row x _ _ _ _ (devT_val t)

theorem gate_eq (h : Blocks I x r w1 w2) (t : Fin 1024) (e : Fin 16) : gate I t e = rgate x r t e := by
  unfold gate rgate
  refine Finset.sum_congr rfl fun k _ => ?_
  rw [tok_eq h, h.rt]
  exact congrArg _ (block_col r _ _ _ _ (devE_val e))

theorem expV_eq (h : Blocks I x r w1 w2) (e : Fin 16) (t d : Fin 1024) : expV I e t d = rexp x w1 w2 e t d := by
  unfold expV rexp
  refine Finset.sum_congr rfl fun f _ => ?_
  have h1 : ∀ k, I.w1 (devE e) (ix3 (slotE e) k f) = w1 (ix3 e k f) := fun k => by
    rw [h.w1]; exact block_w1 w1 _ _ _ _ _ (devE_val e)
  have h2 : I.w2 (devE e) (ix3 (slotE e) f d) = w2 (ix3 e f d) := by
    rw [h.w2]; exact block_w2 w2 _ _ _ _ _ (devE_val e)
  simp only [tok_eq h, h1, h2]

/-- Where no capacity turns the token away, its device's result is the reference's formula. -/
theorem out_eq (h : Blocks I x r w1 w2) (hb : ∀ t e, rgate x r t e ≠ ⊥) (c : Dev nD) (i : Fin 256) (d t : Fin 1024) (ht : t.val = c.val * 256 + i.val)
    (hfit : ∀ e, Routed (fun t => first (rgate x r t)) (fun t => second (rgate x r t)) t e →
      rank (fun t => first (rgate x r t)) (fun t => second (rgate x r t)) t e < 176) :
    outC I c (ix2 i d) = rout x w1 w2 (rgate x r t) t d := by
  have hg : gate I = rgate x r := funext fun t => funext fun e => gate_eq h t e
  have h1 : ch1 I = fun t => first (rgate x r t) := by rw [← hg]; rfl
  have h2 : ch2 I = fun t => second (rgate x r t) := by rw [← hg]; rfl
  rw [out_at I (fun t e => by rw [hg]; exact hb t e) c i d t (by omega) (fun e => by rw [h1, h2]; exact hfit e)]
  rw [expV_eq h, expV_eq h]
  unfold rout rt2 tt
  rw [h1, h2, hg]

/-! ## The claim -/

/-- Both programs run to their ends, and from blocks of one input whose rows and router columns are real numbers they
    leave the same results at every token that `fits` names. -/
theorem algebraic [h1 : Cert.Pre_finite_KernelIdeal.Facts] [h2 : Cert.On_fits.Facts] :
    Cert.algebraic_KernelIdeal_ReferenceIdeal_on_fits_pre_finite_KernelIdeal (hKernelIdeal := Cert.KernelIdeal.Gen.facts)
      (hReferenceIdeal := Cert.ReferenceIdeal.Gen.facts) := by
  intro m g m' g' hpre hblk
  refine ⟨Cert.ReferenceIdeal.Value.res_main_v47 (F := Ideal) m' 0, ?_, ?_⟩
  · refine (θ_run defs _ _).mono (fun s hs c => ⟨fun i hi => ?_, (hs c).2⟩) (run_value m g)
    rw [(hs c).1]
    have hB : Blocks (inp m) (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3)) :=
      ⟨fun c => (inp_x m c).trans (hblk c).1, fun c => (inp_rt m c).trans (hblk c).2.1, fun c => (hblk c).2.2.1, fun c => (hblk c).2.2.2⟩
    have hfin := fun c => finite_at _ _ _ _ (hpre c)
    have hreal : ∀ t e, rgate (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)) t e ≠ ⊥
        ∧ rgate (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)) t e ≠ ⊤ := by
      intro t e
      rw [← gate_eq hB]
      unfold gate tok
      refine sum_real _ _ _ (fun k => ?_) (fun k => ?_)
      · rw [inp_x]; exact (hfin (devT t)).1 _ _
      · rw [inp_rt]; exact (hfin (devE e)).2 _ _
    obtain ⟨i, d, rfl⟩ : ∃ (a : Fin 256) (b : Fin 1024), i = ix2 a b := ⟨i 0, i 1, (eq_ix2 i)⟩
    obtain ⟨t, ht⟩ : ∃ t : Fin 1024, t.val = c.val * 256 + i.val := ⟨⟨c.val * 256 + i.val, by have h4 : c.val < 4 := c.isLt; have := i.isLt; omega⟩, rfl⟩
    rw [block_mask _ _ _ _ t ht] at hi
    refine Eq.trans ?_ (block_row _ _ _ _ t ht).symm
    rw [ref_at _ _ _ _ m' t d rfl rfl rfl rfl (fun e => (hreal t e).1) (fun e => (hreal t e).2)]
    exact out_eq hB (fun t e => (hreal t e).1) c i d t ht (fits_at _ _ _ _ (fun t e => (hreal t e).1) t d hi)
  · exact (θ_run Cert.ReferenceIdeal.defs _ _).mono (fun s hs => ⟨fun i _ => congrFun (hs 0).1 i, (hs 0).2⟩)
      (Cert.ReferenceIdeal.Value.run (F := Ideal) m' g')

end Cert.MoE

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Idealize.ShloMosaic Idealize.SL.Sem

/-- Every claim of the certificate. -/
theorem claim : Cert.Claim :=
  haveI := Cert.MoE.finite_facts
  haveI := Cert.MoE.finite_ref_facts
  haveI := Cert.MoE.fits_facts
  ⟨Cert.Kernel.Gen.facts, Cert.KernelIdeal.Gen.facts, Cert.ReferenceIdeal.Gen.facts,
    Cert.MoE.finite_facts, Cert.MoE.finite_ref_facts, Cert.MoE.fits_facts,
    Cert.MoE.frame_kernel, Cert.MoE.frame_ideal, Cert.MoE.frame_ideal_finite, Cert.MoE.frame_ref, Cert.MoE.frame_ref_finite,
    Cert.MoE.preserves, Cert.MoE.algebraic⟩

end Cert.Proof

end
